-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_UKernel (m : (ℓ : Loc Cert.UKernel.nD Cert.UKernel.τ Cert.UKernel.sig) → Buf (Elt Bits) ℓ) : Prop :=
  True

def Pre_UKernelIdeal (m : (ℓ : Loc Cert.UKernelIdeal.nD Cert.UKernelIdeal.τ Cert.UKernelIdeal.sig) → Buf (Elt Ideal) ℓ) : Prop :=
  True

def Pre_UReferenceIdeal (m : (ℓ : Loc Cert.UReferenceIdeal.nD Cert.UReferenceIdeal.τ Cert.UReferenceIdeal.sig) → Buf (Elt Ideal) ℓ) : Prop :=
  True

def Pre_VKernel (m : (ℓ : Loc Cert.VKernel.nD Cert.VKernel.τ Cert.VKernel.sig) → Buf (Elt Bits) ℓ) : Prop :=
  True

def Pre_VKernelIdeal (m : (ℓ : Loc Cert.VKernelIdeal.nD Cert.VKernelIdeal.τ Cert.VKernelIdeal.sig) → Buf (Elt Ideal) ℓ) : Prop :=
  True

def Pre_VReferenceIdeal (m : (ℓ : Loc Cert.VReferenceIdeal.nD Cert.VReferenceIdeal.τ Cert.VReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3)
      ∧ r.2.mem ((c.tc : Thread Cert.PoolKernel.nD Cert.PoolKernel.τ).loc Cert.PoolKernel.main_arg4) = m ((c.tc : Thread Cert.PoolKernel.nD Cert.PoolKernel.τ).loc Cert.PoolKernel.main_arg4))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
      ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4))
      ∧ r.2.sem = fun _ => 0)

def quiescent_UKernel [hUKernel : Cert.UKernel.Facts] : Prop :=
  ∀ (m : (ℓ : Loc Cert.UKernel.nD Cert.UKernel.τ Cert.UKernel.sig) → Buf (Elt Bits) ℓ) (g : Dev Cert.UKernel.nD → PrngReg), Pre_UKernel m →
    θ_run (Cert.UKernel.defs (F := Bits)) (onTc (τ := Cert.UKernel.τ) (Cert.UKernel.main (F := Bits))) ⟨m, fun _ => 0, g⟩ (fun r => (∀ c : Dev Cert.UKernel.nD,
      r.2.mem ((c.tc : Thread Cert.UKernel.nD Cert.UKernel.τ).loc Cert.UKernel.main_arg0) = m ((c.tc : Thread Cert.UKernel.nD Cert.UKernel.τ).loc Cert.UKernel.main_arg0))
      ∧ r.2.sem = fun _ => 0)

def quiescent_UKernelIdeal [hUKernelIdeal : Cert.UKernelIdeal.Facts] : Prop :=
  ∀ (m : (ℓ : Loc Cert.UKernelIdeal.nD Cert.UKernelIdeal.τ Cert.UKernelIdeal.sig) → Buf (Elt Ideal) ℓ) (g : Dev Cert.UKernelIdeal.nD → PrngReg), Pre_UKernelIdeal m →
    θ_run (Cert.UKernelIdeal.defs (F := Ideal)) (onTc (τ := Cert.UKernelIdeal.τ) (Cert.UKernelIdeal.main (F := Ideal))) ⟨m, fun _ => 0, g⟩ (fun r => (∀ c : Dev Cert.UKernelIdeal.nD,
      r.2.mem ((c.tc : Thread Cert.UKernelIdeal.nD Cert.UKernelIdeal.τ).loc Cert.UKernelIdeal.main_arg0) = m ((c.tc : Thread Cert.UKernelIdeal.nD Cert.UKernelIdeal.τ).loc Cert.UKernelIdeal.main_arg0))
      ∧ r.2.sem = fun _ => 0)

def quiescent_UReferenceIdeal [hUReferenceIdeal : Cert.UReferenceIdeal.Facts] : Prop :=
  ∀ (m : (ℓ : Loc Cert.UReferenceIdeal.nD Cert.UReferenceIdeal.τ Cert.UReferenceIdeal.sig) → Buf (Elt Ideal) ℓ) (g : Dev Cert.UReferenceIdeal.nD → PrngReg), Pre_UReferenceIdeal m →
    θ_run (Cert.UReferenceIdeal.defs (F := Ideal)) (onTc (τ := Cert.UReferenceIdeal.τ) (Cert.UReferenceIdeal.main (F := Ideal))) ⟨m, fun _ => 0, g⟩ (fun r => (∀ c : Dev Cert.UReferenceIdeal.nD,
      r.2.mem ((c.tc : Thread Cert.UReferenceIdeal.nD Cert.UReferenceIdeal.τ).loc Cert.UReferenceIdeal.main_arg0) = m ((c.tc : Thread Cert.UReferenceIdeal.nD Cert.UReferenceIdeal.τ).loc Cert.UReferenceIdeal.main_arg0))
      ∧ r.2.sem = fun _ => 0)

def quiescent_VKernel [hVKernel : Cert.VKernel.Facts] : Prop :=
  ∀ (m : (ℓ : Loc Cert.VKernel.nD Cert.VKernel.τ Cert.VKernel.sig) → Buf (Elt Bits) ℓ) (g : Dev Cert.VKernel.nD → PrngReg), Pre_VKernel m →
    θ_run (Cert.VKernel.defs (F := Bits)) (onTc (τ := Cert.VKernel.τ) (Cert.VKernel.main (F := Bits))) ⟨m, fun _ => 0, g⟩ (fun r => (∀ c : Dev Cert.VKernel.nD,
      r.2.mem ((c.tc : Thread Cert.VKernel.nD Cert.VKernel.τ).loc Cert.VKernel.main_arg0) = m ((c.tc : Thread Cert.VKernel.nD Cert.VKernel.τ).loc Cert.VKernel.main_arg0))
      ∧ r.2.sem = fun _ => 0)

def quiescent_VKernelIdeal [hVKernelIdeal : Cert.VKernelIdeal.Facts] : Prop :=
  ∀ (m : (ℓ : Loc Cert.VKernelIdeal.nD Cert.VKernelIdeal.τ Cert.VKernelIdeal.sig) → Buf (Elt Ideal) ℓ) (g : Dev Cert.VKernelIdeal.nD → PrngReg), Pre_VKernelIdeal m →
    θ_run (Cert.VKernelIdeal.defs (F := Ideal)) (onTc (τ := Cert.VKernelIdeal.τ) (Cert.VKernelIdeal.main (F := Ideal))) ⟨m, fun _ => 0, g⟩ (fun r => (∀ c : Dev Cert.VKernelIdeal.nD,
      r.2.mem ((c.tc : Thread Cert.VKernelIdeal.nD Cert.VKernelIdeal.τ).loc Cert.VKernelIdeal.main_arg0) = m ((c.tc : Thread Cert.VKernelIdeal.nD Cert.VKernelIdeal.τ).loc Cert.VKernelIdeal.main_arg0))
      ∧ r.2.sem = fun _ => 0)

def quiescent_VReferenceIdeal [hVReferenceIdeal : Cert.VReferenceIdeal.Facts] : Prop :=
  ∀ (m : (ℓ : Loc Cert.VReferenceIdeal.nD Cert.VReferenceIdeal.τ Cert.VReferenceIdeal.sig) → Buf (Elt Ideal) ℓ) (g : Dev Cert.VReferenceIdeal.nD → PrngReg), Pre_VReferenceIdeal m →
    θ_run (Cert.VReferenceIdeal.defs (F := Ideal)) (onTc (τ := Cert.VReferenceIdeal.τ) (Cert.VReferenceIdeal.main (F := Ideal))) ⟨m, fun _ => 0, g⟩ (fun r => (∀ c : Dev Cert.VReferenceIdeal.nD,
      r.2.mem ((c.tc : Thread Cert.VReferenceIdeal.nD Cert.VReferenceIdeal.τ).loc Cert.VReferenceIdeal.main_arg0) = m ((c.tc : Thread Cert.VReferenceIdeal.nD Cert.VReferenceIdeal.τ).loc Cert.VReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_QkvKernel_QkvKernelIdeal : Prop :=
  IdealRules.named_const.Statement Cert.QkvKernelIdeal.κ "q_scale" .f32 0x3E0293EE#32 (((Real.sqrt 128)⁻¹ * (Real.log 2)⁻¹ : ℝ) : EReal)

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)) →
    ∃ (v0 : (c : Dev Cert.QkvKernelIdeal.nD) → Buf (Elt Ideal) ((c.tc : Thread Cert.QkvKernelIdeal.nD Cert.QkvKernelIdeal.τ).loc Cert.QkvKernelIdeal.main_v47_0)) (v1 : (c : Dev Cert.QkvKernelIdeal.nD) → Buf (Elt Ideal) ((c.tc : Thread Cert.QkvKernelIdeal.nD Cert.QkvKernelIdeal.τ).loc Cert.QkvKernelIdeal.main_v47_1)) (v2 : (c : Dev Cert.QkvKernelIdeal.nD) → Buf (Elt Ideal) ((c.tc : Thread Cert.QkvKernelIdeal.nD Cert.QkvKernelIdeal.τ).loc Cert.QkvKernelIdeal.main_v47_2)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v47_0) = v0 c
          ∧ r.2.mem ((c.tc : Thread Cert.QkvKernelIdeal.nD Cert.QkvKernelIdeal.τ).loc Cert.QkvKernelIdeal.main_v47_1) = v1 c
          ∧ r.2.mem ((c.tc : Thread Cert.QkvKernelIdeal.nD Cert.QkvKernelIdeal.τ).loc Cert.QkvKernelIdeal.main_v47_2) = v2 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v117) = v0 c
          ∧ r.2.mem ((c.tc : Thread Cert.QkvReferenceIdeal.nD Cert.QkvReferenceIdeal.τ).loc Cert.QkvReferenceIdeal.main_v119) = v1 c
          ∧ r.2.mem ((c.tc : Thread Cert.QkvReferenceIdeal.nD Cert.QkvReferenceIdeal.τ).loc Cert.QkvReferenceIdeal.main_v121) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v4)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v4) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v15) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_PoolKernel_PoolKernelIdeal : Prop :=
  True

def algebraic_PoolKernelIdeal_PoolReferenceIdeal [hPoolKernelIdeal : Cert.PoolKernelIdeal.Facts] [hPoolReferenceIdeal : Cert.PoolReferenceIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)
      ∧ m' ((c.tc : Thread Cert.PoolReferenceIdeal.nD Cert.PoolReferenceIdeal.τ).loc Cert.PoolReferenceIdeal.main_arg4) = m ((c.tc : Thread Cert.PoolKernelIdeal.nD Cert.PoolKernelIdeal.τ).loc Cert.PoolKernelIdeal.main_arg4)) →
    ∃ (v0 : (c : Dev Cert.PoolKernelIdeal.nD) → Buf (Elt Ideal) ((c.tc : Thread Cert.PoolKernelIdeal.nD Cert.PoolKernelIdeal.τ).loc Cert.PoolKernelIdeal.main_v6)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v6) = v0 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
          ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v146) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4))

def preserves_UKernel_UKernelIdeal : Prop :=
  True

def algebraic_UKernelIdeal_UReferenceIdeal [hUKernelIdeal : Cert.UKernelIdeal.Facts] [hUReferenceIdeal : Cert.UReferenceIdeal.Facts] : Prop :=
  ∀ (m : (ℓ : Loc Cert.UKernelIdeal.nD Cert.UKernelIdeal.τ Cert.UKernelIdeal.sig) → Buf (Elt Ideal) ℓ) (g : Dev Cert.UKernelIdeal.nD → PrngReg)
    (m' : (ℓ : Loc Cert.UReferenceIdeal.nD Cert.UReferenceIdeal.τ Cert.UReferenceIdeal.sig) → Buf (Elt Ideal) ℓ) (g' : Dev Cert.UReferenceIdeal.nD → PrngReg), Pre_UKernelIdeal m →
    (∀ c : Dev Cert.UKernelIdeal.nD,
      m' ((c.tc : Thread Cert.UReferenceIdeal.nD Cert.UReferenceIdeal.τ).loc Cert.UReferenceIdeal.main_arg0) = m ((c.tc : Thread Cert.UKernelIdeal.nD Cert.UKernelIdeal.τ).loc Cert.UKernelIdeal.main_arg0)) →
    ∃ (v0 : (c : Dev Cert.UKernelIdeal.nD) → Buf (Elt Ideal) ((c.tc : Thread Cert.UKernelIdeal.nD Cert.UKernelIdeal.τ).loc Cert.UKernelIdeal.main_v0)),
      θ_run (Cert.UKernelIdeal.defs (F := Ideal)) (onTc (τ := Cert.UKernelIdeal.τ) (Cert.UKernelIdeal.main (F := Ideal))) ⟨m, fun _ => 0, g⟩ (fun r => ∀ c : Dev Cert.UKernelIdeal.nD,
          r.2.mem ((c.tc : Thread Cert.UKernelIdeal.nD Cert.UKernelIdeal.τ).loc Cert.UKernelIdeal.main_v0) = v0 c
          ∧ r.2.mem ((c.tc : Thread Cert.UKernelIdeal.nD Cert.UKernelIdeal.τ).loc Cert.UKernelIdeal.main_arg0) = m ((c.tc : Thread Cert.UKernelIdeal.nD Cert.UKernelIdeal.τ).loc Cert.UKernelIdeal.main_arg0))
      ∧ θ_run (Cert.UReferenceIdeal.defs (F := Ideal)) (onTc (τ := Cert.UReferenceIdeal.τ) (Cert.UReferenceIdeal.main (F := Ideal))) ⟨m', fun _ => 0, g'⟩ (fun r => ∀ c : Dev Cert.UReferenceIdeal.nD,
          r.2.mem ((c.tc : Thread Cert.UReferenceIdeal.nD Cert.UReferenceIdeal.τ).loc Cert.UReferenceIdeal.main_v4) = v0 c
          ∧ r.2.mem ((c.tc : Thread Cert.UReferenceIdeal.nD Cert.UReferenceIdeal.τ).loc Cert.UReferenceIdeal.main_arg0) = m' ((c.tc : Thread Cert.UReferenceIdeal.nD Cert.UReferenceIdeal.τ).loc Cert.UReferenceIdeal.main_arg0))

def preserves_VKernel_VKernelIdeal : Prop :=
  True

def algebraic_VKernelIdeal_VReferenceIdeal [hVKernelIdeal : Cert.VKernelIdeal.Facts] [hVReferenceIdeal : Cert.VReferenceIdeal.Facts] : Prop :=
  ∀ (m : (ℓ : Loc Cert.VKernelIdeal.nD Cert.VKernelIdeal.τ Cert.VKernelIdeal.sig) → Buf (Elt Ideal) ℓ) (g : Dev Cert.VKernelIdeal.nD → PrngReg)
    (m' : (ℓ : Loc Cert.VReferenceIdeal.nD Cert.VReferenceIdeal.τ Cert.VReferenceIdeal.sig) → Buf (Elt Ideal) ℓ) (g' : Dev Cert.VReferenceIdeal.nD → PrngReg), Pre_VKernelIdeal m →
    (∀ c : Dev Cert.VKernelIdeal.nD,
      m' ((c.tc : Thread Cert.VReferenceIdeal.nD Cert.VReferenceIdeal.τ).loc Cert.VReferenceIdeal.main_arg0) = m ((c.tc : Thread Cert.VKernelIdeal.nD Cert.VKernelIdeal.τ).loc Cert.VKernelIdeal.main_arg0)) →
    ∃ (v0 : (c : Dev Cert.VKernelIdeal.nD) → Buf (Elt Ideal) ((c.tc : Thread Cert.VKernelIdeal.nD Cert.VKernelIdeal.τ).loc Cert.VKernelIdeal.main_v0)),
      θ_run (Cert.VKernelIdeal.defs (F := Ideal)) (onTc (τ := Cert.VKernelIdeal.τ) (Cert.VKernelIdeal.main (F := Ideal))) ⟨m, fun _ => 0, g⟩ (fun r => ∀ c : Dev Cert.VKernelIdeal.nD,
          r.2.mem ((c.tc : Thread Cert.VKernelIdeal.nD Cert.VKernelIdeal.τ).loc Cert.VKernelIdeal.main_v0) = v0 c
          ∧ r.2.mem ((c.tc : Thread Cert.VKernelIdeal.nD Cert.VKernelIdeal.τ).loc Cert.VKernelIdeal.main_arg0) = m ((c.tc : Thread Cert.VKernelIdeal.nD Cert.VKernelIdeal.τ).loc Cert.VKernelIdeal.main_arg0))
      ∧ θ_run (Cert.VReferenceIdeal.defs (F := Ideal)) (onTc (τ := Cert.VReferenceIdeal.τ) (Cert.VReferenceIdeal.main (F := Ideal))) ⟨m', fun _ => 0, g'⟩ (fun r => ∀ c : Dev Cert.VReferenceIdeal.nD,
          r.2.mem ((c.tc : Thread Cert.VReferenceIdeal.nD Cert.VReferenceIdeal.τ).loc Cert.VReferenceIdeal.main_v4) = v0 c
          ∧ r.2.mem ((c.tc : Thread Cert.VReferenceIdeal.nD Cert.VReferenceIdeal.τ).loc Cert.VReferenceIdeal.main_arg0) = m' ((c.tc : Thread Cert.VReferenceIdeal.nD Cert.VReferenceIdeal.τ).loc Cert.VReferenceIdeal.main_arg0))

def Claim : Prop :=
  ∃ (hKernel : Cert.Kernel.Facts) (hKernelIdeal : Cert.KernelIdeal.Facts) (hReferenceIdeal : Cert.ReferenceIdeal.Facts) (hQkvKernel : Cert.QkvKernel.Facts) (hQkvKernelIdeal : Cert.QkvKernelIdeal.Facts) (hQkvReferenceIdeal : Cert.QkvReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hPoolKernel : Cert.PoolKernel.Facts) (hPoolKernelIdeal : Cert.PoolKernelIdeal.Facts) (hPoolReferenceIdeal : Cert.PoolReferenceIdeal.Facts) (hUKernel : Cert.UKernel.Facts) (hUKernelIdeal : Cert.UKernelIdeal.Facts) (hUReferenceIdeal : Cert.UReferenceIdeal.Facts) (hVKernel : Cert.VKernel.Facts) (hVKernelIdeal : Cert.VKernelIdeal.Facts) (hVReferenceIdeal : Cert.VReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_PoolKernel (hPoolKernel := hPoolKernel)
    ∧ quiescent_PoolKernelIdeal (hPoolKernelIdeal := hPoolKernelIdeal)
    ∧ quiescent_PoolReferenceIdeal (hPoolReferenceIdeal := hPoolReferenceIdeal)
    ∧ quiescent_UKernel (hUKernel := hUKernel)
    ∧ quiescent_UKernelIdeal (hUKernelIdeal := hUKernelIdeal)
    ∧ quiescent_UReferenceIdeal (hUReferenceIdeal := hUReferenceIdeal)
    ∧ quiescent_VKernel (hVKernel := hVKernel)
    ∧ quiescent_VKernelIdeal (hVKernelIdeal := hVKernelIdeal)
    ∧ quiescent_VReferenceIdeal (hVReferenceIdeal := hVReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_QkvKernel_QkvKernelIdeal
    ∧ algebraic_QkvKernelIdeal_QkvReferenceIdeal (hQkvKernelIdeal := hQkvKernelIdeal) (hQkvReferenceIdeal := hQkvReferenceIdeal)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
    ∧ preserves_PoolKernel_PoolKernelIdeal
    ∧ algebraic_PoolKernelIdeal_PoolReferenceIdeal (hPoolKernelIdeal := hPoolKernelIdeal) (hPoolReferenceIdeal := hPoolReferenceIdeal)
    ∧ preserves_UKernel_UKernelIdeal
    ∧ algebraic_UKernelIdeal_UReferenceIdeal (hUKernelIdeal := hUKernelIdeal) (hUReferenceIdeal := hUReferenceIdeal)
    ∧ preserves_VKernel_VKernelIdeal
    ∧ algebraic_VKernelIdeal_VReferenceIdeal (hVKernelIdeal := hVKernelIdeal) (hVReferenceIdeal := hVReferenceIdeal)
-- ==== Pre_finite.lean ====
abbrev S32768x2048 : Shape := ⟨2, ![32768, 2048]⟩
abbrev S32768x512 : Shape := ⟨2, ![32768, 512]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_

variable [Facts]

def fn {F : FTy → Type} [FloatOps F] (main_arg0 : FVec F S32768x2048 .bf16) (main_arg1 : FVec F S32768x512 .bf16) (main_arg2 : FVec F S32768x512 .bf16) : IVec S_ 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_c : IVec S_ 1 := constantI S_ 1 1#1
  let main_v4 : IVec S_ 1 := (fun x v => Host.reduce IntOp.andi x v reducesTo_S32768x2048_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  main_v10
-- ==== Kernel.lean ====
abbrev S32768x2048 : Shape := ⟨2, ![32768, 2048]⟩
abbrev S32768x512 : Shape := ⟨2, ![32768, 512]⟩
abbrev S_ : Shape := ⟨0, ![]⟩
abbrev S32768x4x128 : Shape := ⟨3, ![32768, 4, 128]⟩
abbrev S32768x4x256 : Shape := ⟨3, ![32768, 4, 256]⟩
abbrev S32768x1024 : Shape := ⟨2, ![32768, 1024]⟩
abbrev S512x512 : Shape := ⟨2, ![512, 512]⟩
abbrev S8192x128 : Shape := ⟨2, ![8192, 128]⟩
abbrev S8192x256 : Shape := ⟨2, ![8192, 256]⟩
abbrev S512x128 : Shape := ⟨2, ![512, 128]⟩
abbrev S2048x128 : Shape := ⟨2, ![2048, 128]⟩
abbrev S1024x256 : Shape := ⟨2, ![1024, 256]⟩
abbrev S2048x1 : Shape := ⟨2, ![2048, 1]⟩
abbrev S2048x256 : Shape := ⟨2, ![2048, 256]⟩
abbrev S2048x2048 : Shape := ⟨2, ![2048, 2048]⟩
abbrev S2048 : Shape := ⟨1, ![2048]⟩
abbrev S1024x1 : Shape := ⟨2, ![1024, 1]⟩
abbrev S1024x2048 : Shape := ⟨2, ![1024, 2048]⟩

abbrev nBuf : Space → Nat
  | .hbm => 24
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S32768x512, .bf16⟩
  | .hbm, ⟨2, _⟩ => ⟨S32768x512, .bf16⟩
  | .hbm, ⟨3, _⟩ => ⟨S32768x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .bf16⟩
  | .hbm, ⟨14, _⟩ => ⟨S32768x4x128, .i32⟩
  | .hbm, ⟨15, _⟩ => ⟨S_, .i32⟩
  | .hbm, ⟨16, _⟩ => ⟨S32768x4x128, .i32⟩
  | .hbm, ⟨17, _⟩ => ⟨S32768x4x128, .i1⟩
  | .hbm, ⟨18, _⟩ => ⟨S32768x4x128, .f32⟩
  | .hbm, ⟨19, _⟩ => ⟨S32768x4x128, .bf16⟩
  | .hbm, ⟨20, _⟩ => ⟨S32768x4x128, .bf16⟩
  | .hbm, ⟨21, _⟩ => ⟨S32768x4x256, .bf16⟩
  | .hbm, ⟨22, _⟩ => ⟨S32768x1024, .bf16⟩
  | .hbm, ⟨23, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S8192x128, .bf16⟩
  | .local _ .vmem, ⟨3, _⟩ => ⟨S8192x128, .bf16⟩
  | .local _ .vmem, ⟨4, _⟩ => ⟨S8192x256, .bf16⟩
  | .local _ .vmem, ⟨5, _⟩ => ⟨S8192x256, .bf16⟩
  | .local _ .vmem, ⟨6, _⟩ => ⟨S512x512, .bf16⟩
  | .local _ .vmem, ⟨7, _⟩ => ⟨S512x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_mult1 : BitVec 32 :=
  let c0_i32 : BitVec 32 := 0#32
  let c2048_i32 : BitVec 32 := 2048#32
  let v9 : BitVec 32 := Scalar.muli c0_i32 c2048_i32
  v9
def k0_off1 (c0_i32 : BitVec 32) : Fin 2 → Nat :=
  let c2048_i32 : BitVec 32 := 2048#32
  let v9 : BitVec 32 := Scalar.muli c0_i32 c2048_i32
  let v10 : BitVec 32 := v9
  let v11 : Index := Scalar.indexCast v10
  let c0_2 : Index := 0#32
  ![v11.toNat, 0]
def k0_off2 (c0_i32 : BitVec 32) : Fin 2 → Nat :=
  let c2048_i32 : BitVec 32 := 2048#32
  let v9 : BitVec 32 := Scalar.muli c0_i32 c2048_i32
  let v10 : BitVec 32 := v9
  let v13 : Index := Scalar.indexCast v10
  let c0_3 : Index := 0#32
  ![v13.toNat, 0]
def k0_mult2 : BitVec 32 :=
  let c1_i32 : BitVec 32 := 1#32
  let c2048_i32_8 : BitVec 32 := 2048#32
  let v38 : BitVec 32 := Scalar.muli c1_i32 c2048_i32_8
  v38
def k0_mult3 : BitVec 32 :=
  let c2_i32 : BitVec 32 := 2#32
  let c2048_i32_15 : BitVec 32 := 2048#32
  let v67 : BitVec 32 := Scalar.muli c2_i32 c2048_i32_15
  v67
def k0_mult4 : BitVec 32 :=
  let c3_i32 : BitVec 32 := 3#32
  let c2048_i32_22 : BitVec 32 := 2048#32
  let v96 : BitVec 32 := Scalar.muli c3_i32 c2048_i32_22
  v96
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32768x2048 : Shape := ⟨2, ![32768, 2048]⟩
abbrev S32768x512 : Shape := ⟨2, ![32768, 512]⟩
abbrev S4x8192x4x4x128 : Shape := ⟨5, ![4, 8192, 4, 4, 128]⟩
abbrev S4x8192x4x128 : Shape := ⟨4, ![4, 8192, 4, 128]⟩
abbrev S4x4x8192x8192x4 : Shape := ⟨5, ![4, 4, 8192, 8192, 4]⟩
abbrev S4x4x4x8192x8192 : Shape := ⟨5, ![4, 4, 4, 8192, 8192]⟩
abbrev S_ : Shape := ⟨0, ![]⟩
abbrev S4x4x4x8192 : Shape := ⟨4, ![4, 4, 4, 8192]⟩
abbrev S4x4x4x8192x1 : Shape := ⟨5, ![4, 4, 4, 8192, 1]⟩
abbrev S4x4x128x4x8192 : Shape := ⟨5, ![4, 4, 128, 4, 8192]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x512, .bf16⟩
  | .hbm, ⟨2, _⟩ => ⟨S32768x512, .bf16⟩
  | .hbm, ⟨3, _⟩ => ⟨S32768x2048, .f32⟩
  | .hbm, ⟨4, _⟩ => ⟨S4x8192x4x4x128, .f32⟩
  | .hbm, ⟨5, _⟩ => ⟨S32768x512, .f32⟩
  | .hbm, ⟨6, _⟩ => ⟨S4x8192x4x128, .f32⟩
  | .hbm, ⟨7, _⟩ => ⟨S32768x512, .f32⟩
  | .hbm, ⟨8, _⟩ => ⟨S4x8192x4x128, .f32⟩
  | .hbm, ⟨9, _⟩ => ⟨S4x4x8192x8192x4, .f32⟩
  | .hbm, ⟨10, _⟩ => ⟨S4x4x4x8192x8192, .f32⟩
  | .hbm, ⟨11, _⟩ => ⟨S_, .f32⟩
  | .hbm, ⟨12, _⟩ => ⟨S_, .f32⟩
  | .hbm, ⟨13, _⟩ => ⟨S4x4x4x8192x8192, .f32⟩
  | .hbm, ⟨14, _⟩ => ⟨S4x4x4x8192x8192, .f32⟩
  | .hbm, ⟨15, _⟩ => ⟨S_, .f32⟩
  | .hbm, ⟨16, _⟩ => ⟨S4x4x4x8192, .f32⟩
  | .hbm, ⟨17, _⟩ => ⟨S_, .f32⟩
  | .hbm, ⟨18, _⟩ => ⟨S4x4x4x8192, .f32⟩
  | .hbm, ⟨19, _⟩ => ⟨S4x4x4x8192, .f32⟩
  | .hbm, ⟨20, _⟩ => ⟨S4x4x4x8192x1, .f32⟩
  | .hbm, ⟨21, _⟩ => ⟨S4x4x4x8192x8192, .f32⟩
  | .hbm, ⟨22, _⟩ => ⟨S4x4x4x8192x8192, .f32⟩
  | .hbm, ⟨23, _⟩ => ⟨S4x4x4x8192x8192, .f32⟩
  | .hbm, ⟨24, _⟩ => ⟨S_, .f32⟩
  | .hbm, ⟨25, _⟩ => ⟨S4x4x4x8192, .f32⟩
  | .hbm, ⟨26, _⟩ => ⟨S4x4x4x8192x1, .f32⟩
  | .hbm, ⟨27, _⟩ => ⟨S4x4x4x8192x8192, .f32⟩
  | .hbm, ⟨28, _⟩ => ⟨S4x4x4x8192x8192, .f32⟩
  | .hbm, ⟨29, _⟩ => ⟨S4x4x128x4x8192, .f32⟩
  | .hbm, ⟨30, _⟩ => ⟨S4x8192x4x4x128, .f32⟩
  | .hbm, ⟨31, _⟩ => ⟨S32768x2048, .f32⟩
  | .hbm, ⟨32, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== QkvKernel.lean ====
abbrev S32768x2048 : Shape := ⟨2, ![32768, 2048]⟩
abbrev S1x2048 : Shape := ⟨2, ![1, 2048]⟩
abbrev S1x2048x3072 : Shape := ⟨3, ![1, 2048, 3072]⟩
abbrev S1x128 : Shape := ⟨2, ![1, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S2048 : Shape := ⟨1, ![2048]⟩
abbrev S2048x3072 : Shape := ⟨2, ![2048, 3072]⟩
abbrev S32768x512 : Shape := ⟨2, ![32768, 512]⟩
abbrev S32768x1024 : Shape := ⟨2, ![32768, 1024]⟩
abbrev S512x2048 : Shape := ⟨2, ![512, 2048]⟩
abbrev S512x128 : Shape := ⟨2, ![512, 128]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S2048x512 : Shape := ⟨2, ![2048, 512]⟩

abbrev nBuf : Space → Nat
  | .hbm => 85
  | .vmem => 16
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x3072, .f32⟩
  | .hbm, ⟨3, _⟩ => ⟨S1x128, .f32⟩
  | .hbm, ⟨4, _⟩ => ⟨S1x128, .f32⟩
  | .hbm, ⟨5, _⟩ => ⟨S128, .f32⟩
  | .hbm, ⟨6, _⟩ => ⟨S128x64, .f32⟩
  | .hbm, ⟨7, _⟩ => ⟨S8192, .f32⟩
  | .hbm, ⟨8, _⟩ => ⟨S64, .f32⟩
  | .hbm, ⟨9, _⟩ => ⟨S1x64, .f32⟩
  | .hbm, ⟨10, _⟩ => ⟨S128x64, .f32⟩
  | .hbm, ⟨11, _⟩ => ⟨S8192, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8192x1, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x128, .f32⟩
  | .hbm, ⟨37, _⟩ => ⟨S128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S_, .i32⟩
  | .hbm, ⟨53, _⟩ => ⟨S_, .i1⟩
  | .hbm, ⟨54, _⟩ => ⟨S128, .i1⟩
  | .hbm, ⟨55, _⟩ => ⟨S128, .i1⟩
  | .hbm, ⟨56, _⟩ => ⟨S128, .i1⟩
  | .hbm, ⟨57, _⟩ => ⟨S128, .i32⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S_, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S8192x128, .f32⟩
  | .hbm, ⟨70, _⟩ => ⟨S8192x128, .f32⟩
  | .hbm, ⟨71, _⟩ => ⟨S1x128, .f32⟩
  | .hbm, ⟨72, _⟩ => ⟨S8192x128, .f32⟩
  | .hbm, ⟨73, _⟩ => ⟨S8192x128, .f32⟩
  | .hbm, ⟨74, _⟩ => ⟨S2048, .f32⟩
  | .hbm, ⟨75, _⟩ => ⟨S1x2048, .f32⟩
  | .hbm, ⟨76, _⟩ => ⟨S2048x3072, .f32⟩
  | .hbm, ⟨77, _⟩ => ⟨S2048x3072, .bf16⟩
  | .hbm, ⟨78, _⟩ => ⟨S128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S32768x2048, .bf16⟩
  | .hbm, ⟨83, _⟩ => ⟨S32768x512, .bf16⟩
  | .hbm, ⟨84, _⟩ => ⟨S32768x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | .local _ .vmem, ⟨11, _⟩ => ⟨S512x2048, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_1 : Ref sig .tc := ⟨.hbm, 46, rfl⟩
abbrev main_call0_v5 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v8 : Ref sig .tc := ⟨.hbm, 51, rfl⟩
abbrev main_call0_c_3 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_v29 : Ref sig .tc := ⟨.hbm, 59, rfl⟩
abbrev main_c_3 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47_0 : Ref sig .tc := ⟨.hbm, 82, rfl⟩
abbrev main_v47_1 : Ref sig .tc := ⟨.hbm, 83, rfl⟩
abbrev main_v47_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvKernelIdeal.lean ====
variable {F : FTy → Type} [FloatOps F] [Named F]
def κ : String → Option EReal := fun
  | "q_scale" => some (((Real.sqrt 128)⁻¹ * (Real.log 2)⁻¹ : ℝ) : EReal)
  | _ => none
-- ==== QkvReferenceIdeal.lean ====
abbrev S32768x2048 : Shape := ⟨2, ![32768, 2048]⟩
abbrev S1x2048 : Shape := ⟨2, ![1, 2048]⟩
abbrev S1x2048x3072 : Shape := ⟨3, ![1, 2048, 3072]⟩
abbrev S1x128 : Shape := ⟨2, ![1, 128]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x3072 : Shape := ⟨2, ![2048, 3072]⟩
abbrev S32768x3072 : Shape := ⟨2, ![32768, 3072]⟩
abbrev S4x8192x16x128 : Shape := ⟨4, ![4, 8192, 16, 128]⟩
abbrev S32768x512 : Shape := ⟨2, ![32768, 512]⟩
abbrev S4x8192x4x128 : Shape := ⟨4, ![4, 8192, 4, 128]⟩
abbrev S128 : Shape := ⟨1, ![128]⟩
abbrev S4x8192x16 : Shape := ⟨3, ![4, 8192, 16]⟩
abbrev S4x8192x16x1 : Shape := ⟨4, ![4, 8192, 16, 1]⟩
abbrev S1x1x1x128 : Shape := ⟨4, ![1, 1, 1, 128]⟩
abbrev S4x8192x4 : Shape := ⟨3, ![4, 8192, 4]⟩
abbrev S4x8192x4x1 : Shape := ⟨4, ![4, 8192, 4, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S4x8192x16x32 : Shape := ⟨4, ![4, 8192, 16, 32]⟩
abbrev S1x8192x1x128 : Shape := ⟨4, ![1, 8192, 1, 128]⟩
abbrev S4x8192x4x32 : Shape := ⟨4, ![4, 8192, 4, 32]⟩
abbrev S4x8192x4x127 : Shape := ⟨4, ![4, 8192, 4, 127]⟩
abbrev S4x8192x4x256 : Shape := ⟨4, ![4, 8192, 4, 256]⟩
abbrev S32768x1024 : Shape := ⟨2, ![32768, 1024]⟩

abbrev nBuf : Space → Nat
  | .hbm => 144
  | .vmem => 0
  | .smem => 0
  | _ => 0

abbrev hbmTy0_0 (i : Nat) : BufTy := match i % 128 with
  | 0 => ⟨S32768x2048, .f32⟩
  | 1 => ⟨S1x2048, .f32⟩
  | 2 => ⟨S1x2048x3072, .f32⟩
  | 3 => ⟨S1x128, .f32⟩
  | 4 => ⟨S1x128, .f32⟩
  | 5 => ⟨S2048, .f32⟩
  | 6 => ⟨S32768x2048, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x2048, .f32⟩
  | 18 => ⟨S32768x2048, .f32⟩
  | 19 => ⟨S1x2048, .f32⟩
  | 20 => ⟨S32768x2048, .f32⟩
  | 21 => ⟨S32768x2048, .f32⟩
  | 22 => ⟨S2048x3072, .f32⟩
  | 23 => ⟨S32768x3072, .f32⟩
  | 24 => ⟨S32768x2048, .f32⟩
  | 25 => ⟨S4x8192x16x128, .f32⟩
  | 26 => ⟨S32768x512, .f32⟩
  | 27 => ⟨S4x8192x4x128, .f32⟩
  | 28 => ⟨S32768x512, .f32⟩
  | 29 => ⟨S4x8192x4x128, .f32⟩
  | 30 => ⟨S128, .f32⟩
  | 31 => ⟨S4x8192x16x128, .f32⟩
  | 32 => ⟨S_, .f32⟩
  | 33 => ⟨S4x8192x16, .f32⟩
  | 34 => ⟨S4x8192x16x1, .f32⟩
  | 35 => ⟨S_, .f32⟩
  | 36 => ⟨S4x8192x16x1, .f32⟩
  | 37 => ⟨S4x8192x16x1, .f32⟩
  | 38 => ⟨S_, .f32⟩
  | 39 => ⟨S4x8192x16x1, .f32⟩
  | 40 => ⟨S4x8192x16x1, .f32⟩
  | 41 => ⟨S4x8192x16x1, .f32⟩
  | 42 => ⟨S4x8192x16x128, .f32⟩
  | 43 => ⟨S4x8192x16x128, .f32⟩
  | 44 => ⟨S1x1x1x128, .f32⟩
  | 45 => ⟨S4x8192x16x128, .f32⟩
  | 46 => ⟨S4x8192x16x128, .f32⟩
  | 47 => ⟨S128, .f32⟩
  | 48 => ⟨S4x8192x4x128, .f32⟩
  | 49 => ⟨S_, .f32⟩
  | 50 => ⟨S4x8192x4, .f32⟩
  | 51 => ⟨S4x8192x4x1, .f32⟩
  | 52 => ⟨S_, .f32⟩
  | 53 => ⟨S4x8192x4x1, .f32⟩
  | 54 => ⟨S4x8192x4x1, .f32⟩
  | 55 => ⟨S_, .f32⟩
  | 56 => ⟨S4x8192x4x1, .f32⟩
  | 57 => ⟨S4x8192x4x1, .f32⟩
  | 58 => ⟨S4x8192x4x1, .f32⟩
  | 59 => ⟨S4x8192x4x128, .f32⟩
  | 60 => ⟨S4x8192x4x128, .f32⟩
  | 61 => ⟨S1x1x1x128, .f32⟩
  | 62 => ⟨S4x8192x4x128, .f32⟩
  | 63 => ⟨S4x8192x4x128, .f32⟩
  | 64 => ⟨S128, .f32⟩
  | 65 => ⟨S128x64, .f32⟩
  | 66 => ⟨S8192, .f32⟩
  | 67 => ⟨S64, .f32⟩
  | 68 => ⟨S1x64, .f32⟩
  | 69 => ⟨S128x64, .f32⟩
  | 70 => ⟨S8192, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S8192x1, .f32⟩
  | 86 => ⟨S1x32, .f32⟩
  | 87 => ⟨S8192x32, .f32⟩
  | 88 => ⟨S8192x32, .f32⟩
  | 89 => ⟨S8192x32, .f32⟩
  | 90 => ⟨S8192x1, .f32⟩
  | 91 => ⟨S1x32, .f32⟩
  | 92 => ⟨S8192x32, .f32⟩
  | 93 => ⟨S8192x32, .f32⟩
  | 94 => ⟨S8192x32, .f32⟩
  | 95 => ⟨S8192x128, .f32⟩
  | 96 => ⟨S8192x128, .f32⟩
  | 97 => ⟨S8192x128, .f32⟩
  | 98 => ⟨S4x8192x16x32, .f32⟩
  | 99 => ⟨S4x8192x16x32, .f32⟩
  | 100 => ⟨S4x8192x16x32, .f32⟩
  | 101 => ⟨S4x8192x16x32, .f32⟩
  | 102 => ⟨S4x8192x16x32, .f32⟩
  | 103 => ⟨S4x8192x16x32, .f32⟩
  | 104 => ⟨S4x8192x16x128, .f32⟩
  | 105 => ⟨S1x8192x1x128, .f32⟩
  | 106 => ⟨S4x8192x16x128, .f32⟩
  | 107 => ⟨S4x8192x16x128, .f32⟩
  | 108 => ⟨S1x8192x1x128, .f32⟩
  | 109 => ⟨S4x8192x16x128, .f32⟩
  | 110 => ⟨S4x8192x16x128, .f32⟩
  | 111 => ⟨S4x8192x16x128, .f32⟩
  | 112 => ⟨S4x8192x4x32, .f32⟩
  | 113 => ⟨S4x8192x4x32, .f32⟩
  | 114 => ⟨S4x8192x4x32, .f32⟩
  | 115 => ⟨S4x8192x4x32, .f32⟩
  | 116 => ⟨S4x8192x4x32, .f32⟩
  | 117 => ⟨S4x8192x4x32, .f32⟩
  | 118 => ⟨S4x8192x4x128, .f32⟩
  | 119 => ⟨S1x8192x1x128, .f32⟩
  | 120 => ⟨S4x8192x4x128, .f32⟩
  | 121 => ⟨S4x8192x4x128, .f32⟩
  | 122 => ⟨S1x8192x1x128, .f32⟩
  | 123 => ⟨S4x8192x4x128, .f32⟩
  | 124 => ⟨S4x8192x4x128, .f32⟩
  | 125 => ⟨S4x8192x4x128, .f32⟩
  | 126 => ⟨S_, .f32⟩
  | 127 => ⟨S_, .f32⟩
  | _ => ⟨S32768x2048, .f32⟩

abbrev hbmTy0_1 (i : Nat) : BufTy := match i % 128 with
  | 0 => ⟨S_, .f32⟩
  | 1 => ⟨S_, .f32⟩
  | 2 => ⟨S_, .f32⟩
  | 3 => ⟨S4x8192x16x128, .f32⟩
  | 4 => ⟨S4x8192x16x128, .f32⟩
  | 5 => ⟨S_, .f32⟩
  | 6 => ⟨S4x8192x4x1, .f32⟩
  | 7 => ⟨S_, .f32⟩
  | 8 => ⟨S4x8192x4x127, .f32⟩
  | 9 => ⟨S4x8192x4x256, .f32⟩
  | 10 => ⟨S32768x2048, .f32⟩
  | 11 => ⟨S32768x2048, .bf16⟩
  | 12 => ⟨S32768x512, .f32⟩
  | 13 => ⟨S32768x512, .bf16⟩
  | 14 => ⟨S32768x1024, .f32⟩
  | 15 => ⟨S32768x1024, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_12 : Ref sig .tc := ⟨.hbm, 126, rfl⟩
abbrev main_v108 : Ref sig .tc := ⟨.hbm, 127, rfl⟩
abbrev main_cst_13 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_14 : Ref sig .tc := ⟨.hbm, 133, rfl⟩
abbrev main_v113 : Ref sig .tc := ⟨.hbm, 134, rfl⟩
abbrev main_cst_15 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩

abbrev nD : Nat := 1
abbrev τ : Topo := Topo.v7x

variable {F : FTy → Type} [FloatOps F]
-- ==== OutKernel.lean ====
abbrev S32768x2048 : Shape := ⟨2, ![32768, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S32768x2048, .f32⟩
  | .hbm, ⟨3, _⟩ => ⟨S2048x2048, .f32⟩
  | .hbm, ⟨4, _⟩ => ⟨S2048x2048, .bf16⟩
  | .hbm, ⟨5, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutReferenceIdeal.lean ====
abbrev S32768x2048 : Shape := ⟨2, ![32768, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S32768x2048, .f32⟩
  | .hbm, ⟨3, _⟩ => ⟨S32768x2048, .f32⟩
  | .hbm, ⟨4, _⟩ => ⟨S2048x2048, .f32⟩
  | .hbm, ⟨5, _⟩ => ⟨S32768x2048, .f32⟩
  | .hbm, ⟨6, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InKernel.lean ====
abbrev S32768x2048 : Shape := ⟨2, ![32768, 2048]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InReferenceIdeal.lean ====
abbrev S32768x2048 : Shape := ⟨2, ![32768, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x2048, .f32⟩
  | .hbm, ⟨21, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== PoolKernel.lean ====
abbrev S32768x2048 : Shape := ⟨2, ![32768, 2048]⟩
abbrev S1x4x512x512 : Shape := ⟨4, ![1, 4, 512, 512]⟩
abbrev S1x2048 : Shape := ⟨2, ![1, 2048]⟩
abbrev S1x2048x2048 : Shape := ⟨3, ![1, 2048, 2048]⟩
abbrev S4x512x512 : Shape := ⟨3, ![4, 512, 512]⟩
abbrev S2048 : Shape := ⟨1, ![2048]⟩
abbrev S2048x2048 : Shape := ⟨2, ![2048, 2048]⟩
abbrev S512x2048 : Shape := ⟨2, ![512, 2048]⟩
abbrev S8x2048 : Shape := ⟨2, ![8, 2048]⟩
abbrev S512x1 : Shape := ⟨2, ![512, 1]⟩
abbrev S512x512 : Shape := ⟨2, ![512, 512]⟩
abbrev S8x512 : Shape := ⟨2, ![8, 512]⟩
abbrev S528x512 : Shape := ⟨2, ![528, 512]⟩
abbrev S1x512x512 : Shape := ⟨3, ![1, 512, 512]⟩

abbrev nBuf : Space → Nat
  | .hbm => 12
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S1x4x512x512, .f32⟩
  | .hbm, ⟨2, _⟩ => ⟨S1x2048, .f32⟩
  | .hbm, ⟨3, _⟩ => ⟨S1x2048x2048, .f32⟩
  | .hbm, ⟨4, _⟩ => ⟨S32768x2048, .f32⟩
  | .hbm, ⟨5, _⟩ => ⟨S4x512x512, .f32⟩
  | .hbm, ⟨6, _⟩ => ⟨S4x512x512, .bf16⟩
  | .hbm, ⟨7, _⟩ => ⟨S2048, .f32⟩
  | .hbm, ⟨8, _⟩ => ⟨S1x2048, .f32⟩
  | .hbm, ⟨9, _⟩ => ⟨S2048x2048, .f32⟩
  | .hbm, ⟨10, _⟩ => ⟨S2048x2048, .bf16⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S4x512x512, .bf16⟩
  | .local _ .vmem, ⟨7, _⟩ => ⟨S1x2048, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PoolReferenceIdeal.lean ====
abbrev S32768x2048 : Shape := ⟨2, ![32768, 2048]⟩
abbrev S1x4x512x512 : Shape := ⟨4, ![1, 4, 512, 512]⟩
abbrev S1x2048 : Shape := ⟨2, ![1, 2048]⟩
abbrev S1x2048x2048 : Shape := ⟨3, ![1, 2048, 2048]⟩
abbrev S4x8192x2048 : Shape := ⟨3, ![4, 8192, 2048]⟩
abbrev S8192 : Shape := ⟨1, ![8192]⟩
abbrev S_ : Shape := ⟨0, ![]⟩
abbrev S4x8192x512 : Shape := ⟨3, ![4, 8192, 512]⟩
abbrev S4x8193x512 : Shape := ⟨3, ![4, 8193, 512]⟩
abbrev S1x8192x1 : Shape := ⟨3, ![1, 8192, 1]⟩
abbrev S4x8195x512 : Shape := ⟨3, ![4, 8195, 512]⟩
abbrev S4x8199x512 : Shape := ⟨3, ![4, 8199, 512]⟩
abbrev S4x8207x512 : Shape := ⟨3, ![4, 8207, 512]⟩
abbrev S4x8192x1x512 : Shape := ⟨4, ![4, 8192, 1, 512]⟩
abbrev S4x8192x4x512 : Shape := ⟨4, ![4, 8192, 4, 512]⟩
abbrev S4x512x512 : Shape := ⟨3, ![4, 512, 512]⟩
abbrev S4x512x4x8192 : Shape := ⟨4, ![4, 512, 4, 8192]⟩
abbrev S2048 : Shape := ⟨1, ![2048]⟩
abbrev S1x1x2048 : Shape := ⟨3, ![1, 1, 2048]⟩
abbrev S2048x2048 : Shape := ⟨2, ![2048, 2048]⟩

abbrev nBuf : Space → Nat
  | .hbm => 232
  | .vmem => 0
  | .smem => 0
  | _ => 0

abbrev hbmTy0_0 (i : Nat) : BufTy := match i % 128 with
  | 0 => ⟨S32768x2048, .f32⟩
  | 1 => ⟨S1x4x512x512, .f32⟩
  | 2 => ⟨S1x2048, .f32⟩
  | 3 => ⟨S1x2048x2048, .f32⟩
  | 4 => ⟨S32768x2048, .f32⟩
  | 5 => ⟨S4x8192x2048, .f32⟩
  | 6 => ⟨S8192, .i32⟩
  | 7 => ⟨S_, .i32⟩
  | 8 => ⟨S8192, .i32⟩
  | 9 => ⟨S8192, .i32⟩
  | 10 => ⟨S_, .i32⟩
  | 11 => ⟨S_, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S_, .i32⟩
  | 25 => ⟨S_, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S4x8192x512, .f32⟩
  | 33 => ⟨S_, .i32⟩
  | 34 => ⟨S_, .f32⟩
  | 35 => ⟨S4x8193x512, .f32⟩
  | 36 => ⟨S4x8192x512, .f32⟩
  | 37 => ⟨S_, .f32⟩
  | 38 => ⟨S4x8192x512, .f32⟩
  | 39 => ⟨S4x8192x512, .f32⟩
  | 40 => ⟨S4x8192x512, .f32⟩
  | 41 => ⟨S4x8192x512, .f32⟩
  | 42 => ⟨S8192, .i32⟩
  | 43 => ⟨S8192, .f32⟩
  | 44 => ⟨S1x8192x1, .f32⟩
  | 45 => ⟨S4x8192x512, .f32⟩
  | 46 => ⟨S4x8192x512, .f32⟩
  | 47 => ⟨S4x8192x512, .f32⟩
  | 48 => ⟨S_, .i32⟩
  | 49 => ⟨S8192, .i32⟩
  | 50 => ⟨S8192, .i32⟩
  | 51 => ⟨S_, .i32⟩
  | 52 => ⟨S_, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S_, .i32⟩
  | 66 => ⟨S_, .i32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S4x8192x512, .f32⟩
  | 74 => ⟨S_, .i32⟩
  | 75 => ⟨S_, .f32⟩
  | 76 => ⟨S4x8195x512, .f32⟩
  | 77 => ⟨S4x8192x512, .f32⟩
  | 78 => ⟨S_, .f32⟩
  | 79 => ⟨S4x8192x512, .f32⟩
  | 80 => ⟨S4x8192x512, .f32⟩
  | 81 => ⟨S4x8192x512, .f32⟩
  | 82 => ⟨S4x8192x512, .f32⟩
  | 83 => ⟨S4x8192x512, .f32⟩
  | 84 => ⟨S4x8192x512, .f32⟩
  | 85 => ⟨S4x8192x512, .f32⟩
  | 86 => ⟨S4x8192x512, .f32⟩
  | 87 => ⟨S8192, .i32⟩
  | 88 => ⟨S8192, .f32⟩
  | 89 => ⟨S1x8192x1, .f32⟩
  | 90 => ⟨S4x8192x512, .f32⟩
  | 91 => ⟨S4x8192x512, .f32⟩
  | 92 => ⟨S4x8192x512, .f32⟩
  | 93 => ⟨S_, .i32⟩
  | 94 => ⟨S8192, .i32⟩
  | 95 => ⟨S8192, .i32⟩
  | 96 => ⟨S_, .i32⟩
  | 97 => ⟨S_, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S_, .i32⟩
  | 108 => ⟨S8192, .i32⟩
  | 109 => ⟨S8192, .i32⟩
  | 110 => ⟨S_, .i32⟩
  | 111 => ⟨S_, .i32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S4x8192x512, .f32⟩
  | 119 => ⟨S_, .i32⟩
  | 120 => ⟨S_, .f32⟩
  | 121 => ⟨S4x8199x512, .f32⟩
  | 122 => ⟨S4x8192x512, .f32⟩
  | 123 => ⟨S_, .f32⟩
  | 124 => ⟨S4x8192x512, .f32⟩
  | 125 => ⟨S4x8192x512, .f32⟩
  | 126 => ⟨S4x8192x512, .f32⟩
  | 127 => ⟨S4x8192x512, .f32⟩
  | _ => ⟨S32768x2048, .f32⟩

abbrev hbmTy0_1 (i : Nat) : BufTy := match i % 128 with
  | 0 => ⟨S4x8192x512, .f32⟩
  | 1 => ⟨S4x8192x512, .f32⟩
  | 2 => ⟨S4x8192x512, .f32⟩
  | 3 => ⟨S4x8192x512, .f32⟩
  | 4 => ⟨S4x8192x512, .f32⟩
  | 5 => ⟨S4x8192x512, .f32⟩
  | 6 => ⟨S4x8192x512, .f32⟩
  | 7 => ⟨S4x8192x512, .f32⟩
  | 8 => ⟨S4x8192x512, .f32⟩
  | 9 => ⟨S4x8192x512, .f32⟩
  | 10 => ⟨S4x8192x512, .f32⟩
  | 11 => ⟨S4x8192x512, .f32⟩
  | 12 => ⟨S8192, .i32⟩
  | 13 => ⟨S8192, .f32⟩
  | 14 => ⟨S1x8192x1, .f32⟩
  | 15 => ⟨S4x8192x512, .f32⟩
  | 16 => ⟨S4x8192x512, .f32⟩
  | 17 => ⟨S4x8192x512, .f32⟩
  | 18 => ⟨S_, .i32⟩
  | 19 => ⟨S8192, .i32⟩
  | 20 => ⟨S8192, .i32⟩
  | 21 => ⟨S_, .i32⟩
  | 22 => ⟨S_, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S_, .i32⟩
  | 36 => ⟨S_, .i32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S4x8192x512, .f32⟩
  | 44 => ⟨S_, .i32⟩
  | 45 => ⟨S_, .f32⟩
  | 46 => ⟨S4x8207x512, .f32⟩
  | 47 => ⟨S4x8192x512, .f32⟩
  | 48 => ⟨S_, .f32⟩
  | 49 => ⟨S4x8192x512, .f32⟩
  | 50 => ⟨S4x8192x512, .f32⟩
  | 51 => ⟨S4x8192x512, .f32⟩
  | 52 => ⟨S4x8192x512, .f32⟩
  | 53 => ⟨S4x8192x512, .f32⟩
  | 54 => ⟨S4x8192x512, .f32⟩
  | 55 => ⟨S4x8192x512, .f32⟩
  | 56 => ⟨S4x8192x512, .f32⟩
  | 57 => ⟨S4x8192x512, .f32⟩
  | 58 => ⟨S4x8192x512, .f32⟩
  | 59 => ⟨S4x8192x512, .f32⟩
  | 60 => ⟨S4x8192x512, .f32⟩
  | 61 => ⟨S4x8192x512, .f32⟩
  | 62 => ⟨S4x8192x512, .f32⟩
  | 63 => ⟨S4x8192x512, .f32⟩
  | 64 => ⟨S4x8192x512, .f32⟩
  | 65 => ⟨S4x8192x512, .f32⟩
  | 66 => ⟨S4x8192x512, .f32⟩
  | 67 => ⟨S4x8192x512, .f32⟩
  | 68 => ⟨S4x8192x512, .f32⟩
  | 69 => ⟨S4x8192x512, .f32⟩
  | 70 => ⟨S4x8192x512, .f32⟩
  | 71 => ⟨S4x8192x512, .f32⟩
  | 72 => ⟨S4x8192x512, .f32⟩
  | 73 => ⟨S4x8192x512, .f32⟩
  | 74 => ⟨S4x8192x512, .f32⟩
  | 75 => ⟨S4x8192x512, .f32⟩
  | 76 => ⟨S4x8192x512, .f32⟩
  | 77 => ⟨S4x8192x512, .f32⟩
  | 78 => ⟨S4x8192x512, .f32⟩
  | 79 => ⟨S4x8192x512, .f32⟩
  | 80 => ⟨S4x8192x512, .f32⟩
  | 81 => ⟨S8192, .i32⟩
  | 82 => ⟨S8192, .f32⟩
  | 83 => ⟨S1x8192x1, .f32⟩
  | 84 => ⟨S4x8192x512, .f32⟩
  | 85 => ⟨S4x8192x512, .f32⟩
  | 86 => ⟨S4x8192x512, .f32⟩
  | 87 => ⟨S4x8192x1x512, .f32⟩
  | 88 => ⟨S4x8192x1x512, .f32⟩
  | 89 => ⟨S4x8192x1x512, .f32⟩
  | 90 => ⟨S4x8192x1x512, .f32⟩
  | 91 => ⟨S4x8192x4x512, .f32⟩
  | 92 => ⟨S4x512x512, .f32⟩
  | 93 => ⟨S4x512x4x8192, .f32⟩
  | 94 => ⟨S4x8192x4x512, .f32⟩
  | 95 => ⟨S4x8192x2048, .f32⟩
  | 96 => ⟨S2048, .f32⟩
  | 97 => ⟨S1x1x2048, .f32⟩
  | 98 => ⟨S4x8192x2048, .f32⟩
  | 99 => ⟨S4x8192x2048, .f32⟩
  | 100 => ⟨S2048x2048, .f32⟩
  | 101 => ⟨S4x8192x2048, .f32⟩
  | 102 => ⟨S32768x2048, .f32⟩
  | 103 => ⟨S32768x2048, .f32⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_c_4 : Ref sig .tc := ⟨.hbm, 24, rfl⟩
abbrev main_c_5 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v9 : Ref sig .tc := ⟨.hbm, 31, rfl⟩
abbrev main_v10 : Ref sig .tc := ⟨.hbm, 32, rfl⟩
abbrev main_c_6 : Ref sig .tc := ⟨.hbm, 33, rfl⟩
abbrev main_call2_v0 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_7 : Ref sig .tc := ⟨.hbm, 48, rfl⟩
abbrev main_v23 : Ref sig .tc := ⟨.hbm, 49, rfl⟩
abbrev main_v24 : Ref sig .tc := ⟨.hbm, 50, rfl⟩
abbrev main_c_8 : Ref sig .tc := ⟨.hbm, 51, rfl⟩
abbrev main_c_9 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v25 : Ref sig .tc := ⟨.hbm, 58, rfl⟩
abbrev main_c_10 : Ref sig .tc := ⟨.hbm, 59, rfl⟩
abbrev main_v26 : Ref sig .tc := ⟨.hbm, 60, rfl⟩
abbrev main_v27 : Ref sig .tc := ⟨.hbm, 61, rfl⟩
abbrev main_c_11 : Ref sig .tc := ⟨.hbm, 62, rfl⟩
abbrev main_v28 : Ref sig .tc := ⟨.hbm, 63, rfl⟩
abbrev main_v29 : Ref sig .tc := ⟨.hbm, 64, rfl⟩
abbrev main_c_12 : Ref sig .tc := ⟨.hbm, 65, rfl⟩
abbrev main_c_13 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_v30 : Ref sig .tc := ⟨.hbm, 72, rfl⟩
abbrev main_v31 : Ref sig .tc := ⟨.hbm, 73, rfl⟩
abbrev main_c_14 : Ref sig .tc := ⟨.hbm, 74, rfl⟩
abbrev main_call5_v0 : Ref sig .tc := ⟨.hbm, 75, rfl⟩
abbrev main_v32 : Ref sig .tc := ⟨.hbm, 76, rfl⟩
abbrev main_v33 : Ref sig .tc := ⟨.hbm, 77, rfl⟩
abbrev main_cst_15 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_c_16 : Ref sig .tc := ⟨.hbm, 93, rfl⟩
abbrev main_v48 : Ref sig .tc := ⟨.hbm, 94, rfl⟩
abbrev main_v49 : Ref sig .tc := ⟨.hbm, 95, rfl⟩
abbrev main_c_17 : Ref sig .tc := ⟨.hbm, 96, rfl⟩
abbrev main_c_18 : Ref sig .tc := ⟨.hbm, 97, rfl⟩
abbrev main_call6_v0 : Ref sig .tc := ⟨.hbm, 98, rfl⟩
abbrev main_call6_v1 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_v50 : Ref sig .tc := ⟨.hbm, 103, rfl⟩
abbrev main_c_19 : Ref sig .tc := ⟨.hbm, 104, rfl⟩
abbrev main_v51 : Ref sig .tc := ⟨.hbm, 105, rfl⟩
abbrev main_v52 : Ref sig .tc := ⟨.hbm, 106, rfl⟩
abbrev main_c_20 : Ref sig .tc := ⟨.hbm, 107, rfl⟩
abbrev main_v53 : Ref sig .tc := ⟨.hbm, 108, rfl⟩
abbrev main_v54 : Ref sig .tc := ⟨.hbm, 109, rfl⟩
abbrev main_c_21 : Ref sig .tc := ⟨.hbm, 110, rfl⟩
abbrev main_c_22 : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_v55 : Ref sig .tc := ⟨.hbm, 117, rfl⟩
abbrev main_v56 : Ref sig .tc := ⟨.hbm, 118, rfl⟩
abbrev main_c_23 : Ref sig .tc := ⟨.hbm, 119, rfl⟩
abbrev main_call8_v0 : Ref sig .tc := ⟨.hbm, 120, rfl⟩
abbrev main_v57 : Ref sig .tc := ⟨.hbm, 121, rfl⟩
abbrev main_v58 : Ref sig .tc := ⟨.hbm, 122, rfl⟩
abbrev main_cst_24 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_c_25 : Ref sig .tc := ⟨.hbm, 146, rfl⟩
abbrev main_v81 : Ref sig .tc := ⟨.hbm, 147, rfl⟩
abbrev main_v82 : Ref sig .tc := ⟨.hbm, 148, rfl⟩
abbrev main_c_26 : Ref sig .tc := ⟨.hbm, 149, rfl⟩
abbrev main_c_27 : Ref sig .tc := ⟨.hbm, 150, rfl⟩
abbrev main_call9_v0 : Ref sig .tc := ⟨.hbm, 151, rfl⟩
abbrev main_call9_v1 : Ref sig .tc := ⟨.hbm, 152, rfl⟩
abbrev main_call9_v2 : Ref sig .tc := ⟨.hbm, 153, rfl⟩
abbrev main_call9_v3 : Ref sig .tc := ⟨.hbm, 154, rfl⟩
abbrev main_call9_v4 : Ref sig .tc := ⟨.hbm, 155, rfl⟩
abbrev main_v83 : Ref sig .tc := ⟨.hbm, 156, rfl⟩
abbrev main_c_28 : Ref sig .tc := ⟨.hbm, 157, rfl⟩
abbrev main_v84 : Ref sig .tc := ⟨.hbm, 158, rfl⟩
abbrev main_v85 : Ref sig .tc := ⟨.hbm, 159, rfl⟩
abbrev main_c_29 : Ref sig .tc := ⟨.hbm, 160, rfl⟩
abbrev main_v86 : Ref sig .tc := ⟨.hbm, 161, rfl⟩
abbrev main_v87 : Ref sig .tc := ⟨.hbm, 162, rfl⟩
abbrev main_c_30 : Ref sig .tc := ⟨.hbm, 163, rfl⟩
abbrev main_c_31 : Ref sig .tc := ⟨.hbm, 164, rfl⟩
abbrev main_call10_v0 : Ref sig .tc := ⟨.hbm, 165, rfl⟩
abbrev main_call10_v1 : Ref sig .tc := ⟨.hbm, 166, rfl⟩
abbrev main_call10_v2 : Ref sig .tc := ⟨.hbm, 167, rfl⟩
abbrev main_call10_v3 : Ref sig .tc := ⟨.hbm, 168, rfl⟩
abbrev main_call10_v4 : Ref sig .tc := ⟨.hbm, 169, rfl⟩
abbrev main_v88 : Ref sig .tc := ⟨.hbm, 170, rfl⟩
abbrev main_v89 : Ref sig .tc := ⟨.hbm, 171, rfl⟩
abbrev main_c_32 : Ref sig .tc := ⟨.hbm, 172, rfl⟩
abbrev main_call11_v0 : Ref sig .tc := ⟨.hbm, 173, rfl⟩
abbrev main_v90 : Ref sig .tc := ⟨.hbm, 174, rfl⟩
abbrev main_v91 : Ref sig .tc := ⟨.hbm, 175, rfl⟩
abbrev main_cst_33 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩

abbrev nD : Nat := 1
abbrev τ : Topo := Topo.v7x

variable {F : FTy → Type} [FloatOps F]
-- ==== UKernel.lean ====
abbrev S2x16384x2048 : Shape := ⟨3, ![2, 16384, 2048]⟩
abbrev S32x4x512x512 : Shape := ⟨4, ![32, 4, 512, 512]⟩
abbrev S1x512x2048 : Shape := ⟨3, ![1, 512, 2048]⟩
abbrev S1x4x512x512 : Shape := ⟨4, ![1, 4, 512, 512]⟩
abbrev S1x512x512 : Shape := ⟨3, ![1, 512, 512]⟩
abbrev S512x512 : Shape := ⟨2, ![512, 512]⟩
abbrev S1x1x512x512 : Shape := ⟨4, ![1, 1, 512, 512]⟩

abbrev nBuf : Space → Nat
  | .hbm => 2
  | .vmem => 4
  | .smem => 0
  | _ => 0

abbrev bufTy : (tb : Table) → Fin (tcTables nBuf tb) → BufTy
  | .hbm, ⟨0, _⟩ => ⟨S2x16384x2048, .f32⟩
  | .hbm, ⟨1, _⟩ => ⟨S32x4x512x512, .bf16⟩
  | .local _ .vmem, ⟨0, _⟩ => ⟨S1x512x2048, .f32⟩
  | .local _ .vmem, ⟨1, _⟩ => ⟨S1x512x2048, .f32⟩
  | .local _ .vmem, ⟨2, _⟩ => ⟨S1x4x512x512, .bf16⟩
  | .local _ .vmem, ⟨3, _⟩ => ⟨S1x4x512x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UReferenceIdeal.lean ====
abbrev S2x16384x2048 : Shape := ⟨3, ![2, 16384, 2048]⟩
abbrev S1x16384x2048 : Shape := ⟨3, ![1, 16384, 2048]⟩
abbrev S16384x2048 : Shape := ⟨2, ![16384, 2048]⟩
abbrev S32x512x4x512 : Shape := ⟨4, ![32, 512, 4, 512]⟩
abbrev S32x4x512x512 : Shape := ⟨4, ![32, 4, 512, 512]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x16384x2048, .f32⟩
  | .hbm, ⟨2, _⟩ => ⟨S16384x2048, .f32⟩
  | .hbm, ⟨3, _⟩ => ⟨S32x512x4x512, .f32⟩
  | .hbm, ⟨4, _⟩ => ⟨S32x4x512x512, .f32⟩
  | .hbm, ⟨5, _⟩ => ⟨S32x4x512x512, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== VKernel.lean ====
abbrev S2x16384x2048 : Shape := ⟨3, ![2, 16384, 2048]⟩
abbrev S32x2048x512 : Shape := ⟨3, ![32, 2048, 512]⟩
abbrev S1x512x2048 : Shape := ⟨3, ![1, 512, 2048]⟩
abbrev S1x2048x512 : Shape := ⟨3, ![1, 2048, 512]⟩
abbrev S512x2048 : Shape := ⟨2, ![512, 2048]⟩
abbrev S2048x512 : Shape := ⟨2, ![2048, 512]⟩

abbrev nBuf : Space → Nat
  | .hbm => 2
  | .vmem => 4
  | .smem => 0
  | _ => 0

abbrev bufTy : (tb : Table) → Fin (tcTables nBuf tb) → BufTy
  | .hbm, ⟨0, _⟩ => ⟨S2x16384x2048, .f32⟩
  | .hbm, ⟨1, _⟩ => ⟨S32x2048x512, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048x512, .bf16⟩
  | .local _ .vmem, ⟨3, _⟩ => ⟨S1x2048x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== VReferenceIdeal.lean ====
abbrev S2x16384x2048 : Shape := ⟨3, ![2, 16384, 2048]⟩
abbrev S1x16384x2048 : Shape := ⟨3, ![1, 16384, 2048]⟩
abbrev S16384x2048 : Shape := ⟨2, ![16384, 2048]⟩
abbrev S32x512x2048 : Shape := ⟨3, ![32, 512, 2048]⟩
abbrev S32x2048x512 : Shape := ⟨3, ![32, 2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x16384x2048, .f32⟩
  | .hbm, ⟨2, _⟩ => ⟨S16384x2048, .f32⟩
  | .hbm, ⟨3, _⟩ => ⟨S32x512x2048, .f32⟩
  | .hbm, ⟨4, _⟩ => ⟨S32x2048x512, .f32⟩
  | .hbm, ⟨5, _⟩ => ⟨S32x2048x512, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Proof.Softmax.lean ====
/-
  The online softmax over the extended reals: weighted sums gathered chunk by chunk under a running maximum, divided by
  the gathered sum of the weights, are the softmax's weighted sum. Nothing here mentions a program.
-/
module

public import Idealize.ShloMosaic.PureOps.Ideal
public import Mathlib.Algebra.BigOperators.Fin
public import Mathlib.Data.EReal.Operations

@[expose] public section

noncomputable section

namespace Cert.Softmax

open Idealize.ShloMosaic

/-- A nonnegative real multiplier goes inside a finite sum of extended reals. -/
theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A finite sum of real numbers, seen among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A chunk's weighted sum, the weights taken relative to `M`: `∑ 2^(tᵢ - M) vᵢ`. -/
def part {ι : Type} [Fintype ι] (M : ℝ) (t : ι → ℝ) (v : ι → EReal) : EReal := ∑ i, ((2 : ℝ) ^ (t i - M) : ℝ) * v i

/-- Two to the power of a difference of real numbers. -/
theorem exp2_sub (x y : ℝ) : Ideal.exp2 ((x : EReal) - (y : EReal)) = (((2 : ℝ) ^ (x - y) : ℝ) : EReal) := by
  rw [← EReal.coe_sub, Ideal.exp2_coe]; rfl

/-- Moving the maximum rescales a chunk's weighted sum. -/
theorem rescale_part {ι : Type} [Fintype ι] (M M' : ℝ) (t : ι → ℝ) (v : ι → EReal) :
    (((2 : ℝ) ^ (M - M') : ℝ) : EReal) * part M t v = part M' t v := by
  unfold part
  rw [mul_sum _ _ (Real.rpow_nonneg (by norm_num) _)]
  refine Finset.sum_congr rfl fun i _ => ?_
  rw [← mul_assoc, ← EReal.coe_mul, ← Real.rpow_add (by norm_num)]
  congr 3; ring

/-- Multiplying a sum of two by a power of two. -/
theorem rescale_add (M M' : ℝ) (a b : EReal) :
    (((2 : ℝ) ^ (M - M') : ℝ) : EReal) * (a + b) = (((2 : ℝ) ^ (M - M') : ℝ) : EReal) * a + (((2 : ℝ) ^ (M - M') : ℝ) : EReal) * b :=
  EReal.left_distrib_of_nonneg_of_ne_top (EReal.coe_nonneg.mpr (Real.rpow_nonneg (by norm_num) _)) (EReal.coe_ne_top _) a b

/-- The greatest of some real numbers, and of one more that is real or `⊥`, is a real number. -/
theorem exists_max {n : ℕ} (hn : 0 < n) (m : EReal) (hm : m ≠ ⊤) (f : Fin n → ℝ) :
    ∃ M : ℝ, max m ((Finset.univ : Finset (Fin n)).fold max ⊥ fun j => (f j : EReal)) = (M : EReal) := by
  have htop : max m ((Finset.univ : Finset (Fin n)).fold max ⊥ fun j => (f j : EReal)) ≠ ⊤ := by
    refine (max_lt (lt_top_iff_ne_top.mpr hm) ((Finset.fold_max_lt _).mpr ⟨bot_lt_top, fun j _ => EReal.coe_lt_top _⟩)).ne
  have hbot : max m ((Finset.univ : Finset (Fin n)).fold max ⊥ fun j => (f j : EReal)) ≠ ⊥ := by
    refine (lt_of_lt_of_le ((Finset.lt_fold_max _).mpr (Or.inr ⟨(⟨0, hn⟩ : Fin n), Finset.mem_univ _, EReal.bot_lt_coe _⟩)) (le_max_right _ _)).ne'
  exact ⟨_, (EReal.coe_toReal htop hbot).symm⟩

/-- A sum over 8192 indices is four sums over 2048. -/
theorem sum_four {M : Type} [AddCommMonoid M] (f : Fin 8192 → M) :
    ∑ j : Fin 8192, f j = ∑ j : Fin 2048, f ⟨0 + j.val, by omega⟩ + ∑ j : Fin 2048, f ⟨2048 + j.val, by omega⟩
      + ∑ j : Fin 2048, f ⟨4096 + j.val, by omega⟩ + ∑ j : Fin 2048, f ⟨6144 + j.val, by omega⟩ := by
  rw [← Equiv.sum_comp (finProdFinEquiv (m := 4) (n := 2048)) f, Fintype.sum_prod_type, Fin.sum_univ_four]
  have h : ∀ (c : Fin 4) (n : ℕ) (hn : n = 2048 * c.val) (j : Fin 2048), finProdFinEquiv (m := 4) (n := 2048) (c, j) = ⟨n + j.val, by omega⟩ :=
    fun c n hn j => Fin.ext (by show j.val + 2048 * c.val = n + j.val; omega)
  simp only [h 0 0 rfl, h 1 2048 rfl, h 2 4096 rfl, h 3 6144 rfl]

/-- The softmax's weighted sum: `∑ⱼ (e^sⱼ / ∑ e^s) vⱼ`. -/
def attend {ι : Type} [Fintype ι] (s : ι → ℝ) (v : ι → EReal) : EReal :=
  ∑ j, ((Real.exp (s j) / ∑ i, Real.exp (s i) : ℝ) : EReal) * v j

/-- The gathered sum divided by the gathered weights is the softmax's weighted sum, whatever the maximum was. -/
theorem div_part {ι : Type} [Fintype ι] [Nonempty ι] (M : ℝ) (s : ι → ℝ) (v : ι → EReal) :
    Ideal.div (part M (fun i => s i / Real.log 2) v) (part M (fun i => s i / Real.log 2) fun _ => 1) = attend s v := by
  have hl : Real.log 2 ≠ 0 := (Real.log_pos (by norm_num)).ne'
  have hw : ∀ x : ℝ, (2 : ℝ) ^ (x / Real.log 2 - M) = (2 : ℝ) ^ (-M) * Real.exp x := fun x => by
    rw [sub_eq_add_neg, Real.rpow_add (by norm_num), mul_comm, Real.rpow_def_of_pos (by norm_num : (0 : ℝ) < 2) (x / _)]
    congr 2; field_simp
  have hden : part M (fun i => s i / Real.log 2) (fun _ => 1) = (((2 : ℝ) ^ (-M) * ∑ i, Real.exp (s i) : ℝ) : EReal) := by
    unfold part
    simp only [mul_one]
    rw [← coe_sum, Finset.mul_sum]
    simp only [hw]
  have hpos : (0 : ℝ) < (2 : ℝ) ^ (-M) * ∑ i, Real.exp (s i) :=
    mul_pos (Real.rpow_pos_of_pos (by norm_num) _) (Finset.sum_pos (fun i _ => Real.exp_pos _) Finset.univ_nonempty)
  rw [hden, Ideal.div_coe hpos.ne', mul_comm]
  unfold part attend
  rw [mul_sum _ _ (by positivity)]
  refine Finset.sum_congr rfl fun i _ => ?_
  rw [← mul_assoc, ← EReal.coe_mul, hw]
  congr 2
  have h1 : (2 : ℝ) ^ (-M) ≠ 0 := (Real.rpow_pos_of_pos (by norm_num) _).ne'
  have h2 : ∑ i, Real.exp (s i) ≠ 0 := (Finset.sum_pos (fun i _ => Real.exp_pos _) Finset.univ_nonempty).ne'
  field_simp

/-- The plain softmax, its maximum subtracted first, gives the same weighted sum, whatever the maximum was. -/
theorem softmax_attend {ι : Type} [Fintype ι] [Nonempty ι] (M : ℝ) (s : ι → ℝ) (v : ι → EReal) :
    ∑ j, v j * Ideal.div (Ideal.exp ((s j : EReal) - (M : EReal))) (0 + ∑ i, Ideal.exp ((s i : EReal) - (M : EReal))) = attend s v := by
  have he : ∀ x : ℝ, Ideal.exp ((x : EReal) - (M : EReal)) = ((Real.exp (-M) * Real.exp x : ℝ) : EReal) := fun x => by
    rw [← EReal.coe_sub, Ideal.exp_coe, sub_eq_add_neg, Real.exp_add, mul_comm]
  have h2 : ∑ i, Real.exp (s i) ≠ 0 := (Finset.sum_pos (fun i _ => Real.exp_pos _) Finset.univ_nonempty).ne'
  have h1 : Real.exp (-M) ≠ 0 := (Real.exp_pos _).ne'
  unfold attend
  refine Finset.sum_congr rfl fun j _ => ?_
  simp only [he]
  rw [zero_add, ← coe_sum, ← Finset.mul_sum, Ideal.div_coe (mul_ne_zero h1 h2), ← EReal.coe_mul, mul_comm]
  congr 2
  field_simp

end Cert.Softmax

end
-- ==== Proof.AttnSteps.lean ====
/-
  The attention kernel's body, one chunk of keys at a time: the arrays it computes in a chunk, named, and each read at
  an index over the extended reals.
-/
module

public import proofs.«01_k».proof.Proof.Gen.KernelIdeal.Value
public import Idealize.ShloMosaic.Lib.Pointwise
public import proofs.«01_k».proof.Proof.Softmax
public import Idealize.ShloMosaic.PureOps.Ideal.Laws

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-- Rows `n … n + 2047` of the keys. -/
def keysAt (x : Vec F S8192x128 .bf16) (n : Nat) (hn : n + 2048 ≤ 8192) : Vec F S2048x128 .bf16 :=
  fun j => x (ix2 ⟨n + (j 0).val, by have : (j 0).val < 2048 := (j 0).isLt; omega⟩ (j 1))

/-- Rows `n … n + 2047` of the values with their column of ones. -/
def valsAt (x : Vec F S8192x256 .bf16) (n : Nat) (hn : n + 2048 ≤ 8192) : Vec F S2048x256 .bf16 :=
  fun j => x (ix2 ⟨n + (j 0).val, by have : (j 0).val < 2048 := (j 0).isLt; omega⟩ (j 1))

/-- The four heads of a query block, one under the other. -/
def stacked (x : Vec F S512x512 .bf16) : FVec F S2048x128 .bf16 := k0_pay3 x

/-- A chunk's scores. -/
def scores (q : FVec F S2048x128 .bf16) (k : Vec F S2048x128 .bf16) : FVec F S2048x2048 .f32 :=
  matmul dot_S2048x128_S2048x128_S2048x2048_1_1_0_0_n_n none q k (constant S2048x2048 .f32 0x00000000#32)

/-- The running maximum after a chunk. -/
def newMax (s : FVec F S2048x2048 .f32) (m : FVec F S2048x1 .f32) : FVec F S2048x1 .f32 :=
  maximumf m (shapeCast S2048x1 (multiReduction .maximumf [1] S2048 s 0xFF800000#32 reduces_S2048x2048_S2048 (.inl rfl) rfl)
    shapeCasts_S2048_S2048x1)

/-- What the sums gathered so far are multiplied by when the maximum moves. -/
def rescale (m m' : FVec F S2048x1 .f32) : FVec F S2048x1 .f32 := exp2 (subf m m')

/-- A chunk's weights: two to the power of the score less the maximum. -/
def weights (s : FVec F S2048x2048 .f32) (m' : FVec F S2048x1 .f32) : FVec F S2048x2048 .bf16 :=
  truncf .bf16 (exp2 (subf s (broadcastTo S2048x2048 m' broadcasts_S2048x1_S2048x2048))) bitsLt_bf16_f32

/-- The upper half's sums after a chunk. -/
def newTop (a : FVec F S2048x1 .f32) (p : FVec F S2048x2048 .bf16) (v : Vec F S2048x256 .bf16) (acc : FVec F S1024x256 .f32) :
    FVec F S1024x256 .f32 :=
  addf (mulf (broadcastTo S1024x256 (extractStridedSlice S1024x1 ![0, 0] a slices_S2048x1_o0_0_S1024x1) broadcasts_S1024x1_S1024x256) acc)
    (matmul dot_S1024x2048_S2048x256_S1024x256_1_0_0_1_n_n none
      (extractStridedSlice S1024x2048 ![0, 0] p slices_S2048x2048_o0_0_S1024x2048) v (constant S1024x256 .f32 0x00000000#32))

/-- The lower half's sums after a chunk. -/
def newBot (a : FVec F S2048x1 .f32) (p : FVec F S2048x2048 .bf16) (v : Vec F S2048x256 .bf16) (acc : FVec F S1024x256 .f32) :
    FVec F S1024x256 .f32 :=
  addf (mulf (broadcastTo S1024x256 (extractStridedSlice S1024x1 ![1024, 0] a slices_S2048x1_o1024_0_S1024x1) broadcasts_S1024x1_S1024x256) acc)
    (matmul dot_S1024x2048_S2048x256_S1024x256_1_0_0_1_n_n none
      (extractStridedSlice S1024x2048 ![1024, 0] p slices_S2048x2048_o1024_0_S1024x2048) v (constant S1024x256 .f32 0x00000000#32))

/-- The rows' results: the first 128 columns of the sums divided by the next one. -/
def quotient (top bot : FVec F S1024x256 .f32) : FVec F S2048x128 .f32 :=
  have acc : FVec F S2048x256 .f32 := concatenate S2048x256 0 [⟨S1024x256, top⟩, ⟨S1024x256, bot⟩] concatenates_S1024x256_S1024x256_S2048x256_d0
  divf (extractStridedSlice S2048x128 ![0, 0] acc slices_S2048x256_o0_0_S2048x128)
    (broadcastTo S2048x128 (extractStridedSlice S2048x1 ![0, 128] acc slices_S2048x256_o0_128_S2048x1) broadcasts_S2048x1_S2048x128)

/-! ## Each at an index -/

theorem stacked_apply (x : Vec Ideal S512x512 .bf16) (r : Fin 2048) (d : Fin 128) :
    stacked x (ix2 r d) = x (ix2 ⟨r.val % 512, Nat.mod_lt _ (by decide)⟩ ⟨r.val / 512 * 128 + d.val, by have := d.isLt; have := r.isLt; omega⟩) := by
  have hr := r.isLt
  unfold stacked k0_pay3
  pointwise
  split
  · congr 2 <;> apply Fin.ext <;> simp only [] <;> omega
  · split
    · congr 2 <;> apply Fin.ext <;> simp only [] <;> omega
    · split <;> congr 2 <;> apply Fin.ext <;> simp only [] <;> omega

theorem scores_apply (q : FVec Ideal S2048x128 .bf16) (k : Vec Ideal S2048x128 .bf16) (r j : Fin 2048) :
    scores q k (ix2 r j) = ∑ d : Fin 128, (q (ix2 r d) : EReal) * k (ix2 j d) := by
  unfold scores
  pointwise

theorem rowMax_apply (s : FVec Ideal S2048x2048 .f32) (r : Fin 2048) :
    multiReduction .maximumf [1] S2048 s 0xFF800000#32 reduces_S2048x2048_S2048 (.inl rfl) rfl (ix1 r)
      = (Finset.univ : Finset (Fin 2048)).fold max ⊥ fun j => (s (ix2 r j) : EReal) := by
  refine (Ideal.multiReduction_maximumf_single (a := 1) s _ reduces_S2048x2048_S2048 (.inl rfl) rfl (ix1 r)).trans ?_
  have hb : (FloatOps.ofBits (F := Ideal) .f32 0xFF800000#32 : EReal) = ⊥ := by simp [Ideal.ofBits, Ideal.ieee]
  have hf : (s ∘ Shape.Reduces.lift reduces_S2048x2048_S2048 (ix1 r) : Fin 2048 → EReal) = fun j : Fin 2048 => s (ix2 r j) := by
    funext j
    refine congrArg s (funext fun a => Fin.ext ?_)
    match a with
    | ⟨0, _⟩ => rfl
    | ⟨1, _⟩ => rfl
  exact (congrArg (fun b : EReal => (Finset.univ : Finset (Fin 2048)).fold max b _) hb).trans
    (congrArg (fun f : Fin 2048 → EReal => (Finset.univ : Finset (Fin 2048)).fold max ⊥ f) hf)

theorem newMax_apply (s : FVec Ideal S2048x2048 .f32) (m : FVec Ideal S2048x1 .f32) (r : Fin 2048) :
    newMax s m (ix2 r 0) = max (m (ix2 r 0) : EReal) ((Finset.univ : Finset (Fin 2048)).fold max ⊥ fun j => (s (ix2 r j) : EReal)) := by
  rw [← rowMax_apply]
  unfold newMax
  generalize multiReduction .maximumf [1] S2048 s 0xFF800000#32 reduces_S2048x2048_S2048 (.inl rfl) rfl = y
  pointwise

theorem rescale_apply (m m' : FVec Ideal S2048x1 .f32) (r : Fin 2048) :
    rescale m m' (ix2 r 0) = Ideal.exp2 ((m (ix2 r 0) : EReal) - m' (ix2 r 0)) := rfl

theorem weights_apply (s : FVec Ideal S2048x2048 .f32) (m' : FVec Ideal S2048x1 .f32) (r j : Fin 2048) :
    weights s m' (ix2 r j) = Ideal.exp2 ((s (ix2 r j) : EReal) - m' (ix2 r 0)) := by
  unfold weights
  pointwise
  rfl

theorem newTop_apply (a : FVec Ideal S2048x1 .f32) (p : FVec Ideal S2048x2048 .bf16) (v : Vec Ideal S2048x256 .bf16) (acc : FVec Ideal S1024x256 .f32)
    (r : Fin 1024) (l : Fin 256) :
    newTop a p v acc (ix2 r l) = (a (ix2 ⟨r.val, by omega⟩ 0) : EReal) * acc (ix2 r l)
      + ∑ j : Fin 2048, (p (ix2 ⟨r.val, by omega⟩ j) : EReal) * v (ix2 j l) := by
  unfold newTop
  pointwise

theorem newBot_apply (a : FVec Ideal S2048x1 .f32) (p : FVec Ideal S2048x2048 .bf16) (v : Vec Ideal S2048x256 .bf16) (acc : FVec Ideal S1024x256 .f32)
    (r : Fin 1024) (l : Fin 256) :
    newBot a p v acc (ix2 r l) = (a (ix2 ⟨1024 + r.val, by omega⟩ 0) : EReal) * acc (ix2 r l)
      + ∑ j : Fin 2048, (p (ix2 ⟨1024 + r.val, by omega⟩ j) : EReal) * v (ix2 j l) := by
  unfold newBot
  pointwise

theorem quotient_apply (top bot : FVec Ideal S1024x256 .f32) (r : Fin 2048) (d : Fin 128) :
    quotient top bot (ix2 r d) = if h : r.val < 1024
      then Ideal.div (top (ix2 ⟨r.val, h⟩ ⟨d.val, by omega⟩)) (top (ix2 ⟨r.val, h⟩ ⟨128, by omega⟩))
      else Ideal.div (bot (ix2 ⟨r.val - 1024, by omega⟩ ⟨d.val, by omega⟩)) (bot (ix2 ⟨r.val - 1024, by omega⟩ ⟨128, by omega⟩)) := by
  unfold quotient
  pointwise
  split <;> rfl

/-! ## The running state -/

/-- What the loop carries: the running maximum, and the two halves' gathered sums. -/
structure St (F : FTy → Type) where
  m : FVec F S2048x1 .f32
  top : FVec F S1024x256 .f32
  bot : FVec F S1024x256 .f32

/-- Before the first chunk. -/
def St.init : St F := ⟨k0_pay5, k0_pay4, k0_pay4⟩

/-- One chunk. -/
def St.step (q : FVec F S2048x128 .bf16) (k : Vec F S2048x128 .bf16) (v : Vec F S2048x256 .bf16) (st : St F) : St F :=
  ⟨newMax (scores q k) st.m,
   newTop (rescale st.m (newMax (scores q k) st.m)) (weights (scores q k) (newMax (scores q k) st.m)) v st.top,
   newBot (rescale st.m (newMax (scores q k) st.m)) (weights (scores q k) (newMax (scores q k) st.m)) v st.bot⟩

/-- A row's gathered sums, whichever half it lies in. -/
def St.acc (st : St Ideal) (r : Fin 2048) (l : Fin 256) : EReal :=
  if h : r.val < 1024 then st.top (ix2 ⟨r.val, h⟩ l) else st.bot (ix2 ⟨r.val - 1024, by omega⟩ l)

theorem St.step_acc (q : FVec Ideal S2048x128 .bf16) (k : Vec Ideal S2048x128 .bf16) (v : Vec Ideal S2048x256 .bf16) (st : St Ideal)
    (r : Fin 2048) (l : Fin 256) :
    (st.step q k v).acc r l = Ideal.exp2 ((st.m (ix2 r 0) : EReal) - (st.step q k v).m (ix2 r 0)) * st.acc r l
      + ∑ j : Fin 2048, Ideal.exp2 ((scores q k (ix2 r j) : EReal) - (st.step q k v).m (ix2 r 0)) * v (ix2 j l) := by
  unfold St.acc
  split
  · show newTop _ _ _ _ _ = _
    rw [newTop_apply, rescale_apply]
    simp only [weights_apply]
    rfl
  · have hr : (⟨1024 + (r.val - 1024), by omega⟩ : Fin 2048) = r := Fin.ext (by simp only []; omega)
    show newBot _ _ _ _ _ = _
    rw [newBot_apply]
    simp only [hr, weights_apply, rescale_apply]
    rfl

theorem St.quotient_acc (st : St Ideal) (r : Fin 2048) (d : Fin 128) :
    quotient st.top st.bot (ix2 r d) = Ideal.div (st.acc r ⟨d.val, by omega⟩) (st.acc r ⟨128, by omega⟩) := by
  rw [quotient_apply]
  unfold St.acc
  split <;> rfl

/-- A row after a chunk whose scores are real numbers `t`, if what it gathered before, `A`, follows the maximum. -/
theorem St.step_next (q : FVec Ideal S2048x128 .bf16) (k : Vec Ideal S2048x128 .bf16) (v : Vec Ideal S2048x256 .bf16) (st : St Ideal)
    (r : Fin 2048) (t : Fin 2048 → ℝ) (ht : ∀ j, (scores q k (ix2 r j) : EReal) = (t j : EReal))
    (A : ℝ → Fin 256 → EReal) (hA : ∀ M M' l, (((2 : ℝ) ^ (M - M') : ℝ) : EReal) * A M l = A M' l)
    (M : ℝ) (hm : (st.m (ix2 r 0) : EReal) = (M : EReal)) (hacc : ∀ l, st.acc r l = A M l) :
    ∃ M' : ℝ, ((st.step q k v).m (ix2 r 0) : EReal) = (M' : EReal)
      ∧ ∀ l, (st.step q k v).acc r l = A M' l + Softmax.part M' t fun j => v (ix2 j l) := by
  obtain ⟨M', hM'⟩ := Softmax.exists_max (n := 2048) (by norm_num) (M : EReal) (EReal.coe_ne_top M) t
  have h1 : ((st.step q k v).m (ix2 r 0) : EReal) = (M' : EReal) := by
    show newMax _ _ _ = _
    rw [newMax_apply, hm, ← hM']
    simp only [ht]
  refine ⟨M', h1, fun l => ?_⟩
  rw [St.step_acc, h1, hm, hacc, Softmax.exp2_sub, hA]
  simp only [ht, Softmax.exp2_sub]
  rfl

/-- A row after the first chunk. -/
theorem St.step_first (q : FVec Ideal S2048x128 .bf16) (k : Vec Ideal S2048x128 .bf16) (v : Vec Ideal S2048x256 .bf16)
    (r : Fin 2048) (t : Fin 2048 → ℝ) (ht : ∀ j, (scores q k (ix2 r j) : EReal) = (t j : EReal)) :
    ∃ M' : ℝ, ((St.init.step q k v).m (ix2 r 0) : EReal) = (M' : EReal)
      ∧ ∀ l, (St.init.step q k v).acc r l = Softmax.part M' t fun j => v (ix2 j l) := by
  have hm : ((St.init (F := Ideal)).m (ix2 r 0) : EReal) = ⊥ := by
    show Ideal.ofBits .f32 0xFF800000#32 = ⊥
    simp [Ideal.ofBits, Ideal.ieee]
  have hz : ∀ l, (St.init (F := Ideal)).acc r l = 0 := fun l => by
    unfold St.acc
    split <;> exact Ideal.ofBits_zero_f32
  obtain ⟨M', hM'⟩ := Softmax.exists_max (n := 2048) (by norm_num) ⊥ (by simp) t
  have h1 : ((St.init.step q k v).m (ix2 r 0) : EReal) = (M' : EReal) := by
    show newMax _ _ _ = _
    rw [newMax_apply, hm, ← hM']
    simp only [ht]
  refine ⟨M', h1, fun l => ?_⟩
  rw [St.step_acc, h1, hm, hz, mul_zero, zero_add]
  simp only [ht, Softmax.exp2_sub]
  rfl

/-- The four chunks in turn. -/
def final (x0 : Vec F S512x512 .bf16) (x1 : Vec F S8192x128 .bf16) (x2 : Vec F S8192x256 .bf16) : St F :=
  (((St.init.step (stacked x0) (keysAt x1 0 (by norm_num)) (valsAt x2 0 (by norm_num))).step
      (stacked x0) (keysAt x1 2048 (by norm_num)) (valsAt x2 2048 (by norm_num))).step
    (stacked x0) (keysAt x1 4096 (by norm_num)) (valsAt x2 4096 (by norm_num))).step
  (stacked x0) (keysAt x1 6144 (by norm_num)) (valsAt x2 6144 (by norm_num))

/-- The rows of a block of results: the heads one under the other. -/
def rows (x0 : Vec F S512x512 .bf16) (x1 : Vec F S8192x128 .bf16) (x2 : Vec F S8192x256 .bf16) : FVec F S2048x128 .f32 :=
  quotient (final x0 x1 x2).top (final x0 x1 x2).bot

/-- What the 2048 keys from key `n` on bring to a row, column `l`, with the maximum at `M`. -/
def brings (x2 : Vec Ideal S8192x256 .bf16) (s : Fin 8192 → ℝ) (n : Nat) (hn : n + 2048 ≤ 8192) (M : ℝ) (l : Fin 256) : EReal :=
  Softmax.part M (fun j : Fin 2048 => s ⟨n + j.val, by omega⟩ / Real.log 2) fun j => valsAt x2 n hn (ix2 j l)

/-- A row of results is the softmax's weighted sum of the values, when the row's scores are real numbers. -/
theorem rows_apply (x0 : Vec Ideal S512x512 .bf16) (x1 : Vec Ideal S8192x128 .bf16) (x2 : Vec Ideal S8192x256 .bf16)
    (r : Fin 2048) (d : Fin 128) (s : Fin 8192 → ℝ)
    (hs : ∀ j : Fin 8192, ∑ e : Fin 128, (stacked x0 (ix2 r e) : EReal) * x1 (ix2 j e) = ((s j / Real.log 2 : ℝ) : EReal))
    (h1 : ∀ j : Fin 8192, (x2 (ix2 j ⟨128, by omega⟩) : EReal) = 1) :
    rows x0 x1 x2 (ix2 r d) = Softmax.attend s fun j => x2 (ix2 j ⟨d.val, by omega⟩) := by
  have hsc : ∀ (n : Nat) (hn : n + 2048 ≤ 8192) (j : Fin 2048),
      (scores (stacked x0) (keysAt x1 n hn) (ix2 r j) : EReal) = ((s ⟨n + j.val, by omega⟩ / Real.log 2 : ℝ) : EReal) := fun n hn j => by
    rw [scores_apply]; exact hs ⟨n + j.val, by omega⟩
  obtain ⟨M1, hm1, ha1⟩ := St.step_first (stacked x0) (keysAt x1 0 (by norm_num)) (valsAt x2 0 (by norm_num)) r _ (hsc 0 (by norm_num))
  obtain ⟨M2, hm2, ha2⟩ := St.step_next (stacked x0) (keysAt x1 2048 (by norm_num)) (valsAt x2 2048 (by norm_num)) _ r _ (hsc 2048 (by norm_num))
    (brings x2 s 0 (by norm_num)) (fun M M' l => Softmax.rescale_part M M' _ _) M1 hm1 ha1
  obtain ⟨M3, hm3, ha3⟩ := St.step_next (stacked x0) (keysAt x1 4096 (by norm_num)) (valsAt x2 4096 (by norm_num)) _ r _ (hsc 4096 (by norm_num))
    (fun M l => brings x2 s 0 (by norm_num) M l + brings x2 s 2048 (by norm_num) M l) (fun M M' l => by
      unfold brings
      rw [Softmax.rescale_add, Softmax.rescale_part M M', Softmax.rescale_part M M']) M2 hm2 ha2
  obtain ⟨M4, hm4, ha4⟩ := St.step_next (stacked x0) (keysAt x1 6144 (by norm_num)) (valsAt x2 6144 (by norm_num)) _ r _ (hsc 6144 (by norm_num))
    (fun M l => brings x2 s 0 (by norm_num) M l + brings x2 s 2048 (by norm_num) M l + brings x2 s 4096 (by norm_num) M l) (fun M M' l => by
      unfold brings
      rw [Softmax.rescale_add, Softmax.rescale_add, Softmax.rescale_part M M', Softmax.rescale_part M M', Softmax.rescale_part M M']) M3 hm3 ha3
  have hfin : ∀ l, (final x0 x1 x2).acc r l = Softmax.part M4 (fun j => s j / Real.log 2) fun j => x2 (ix2 j l) := fun l => by
    refine (ha4 l).trans ?_
    unfold Softmax.part
    rw [Softmax.sum_four]
    rfl
  unfold rows
  rw [St.quotient_acc, hfin, hfin]
  simp only [h1]
  exact Softmax.div_part M4 s _

end Cert.KernelIdeal.Attn

end
-- ==== Proof.AttnBlock.lean ====
/-
  What one grid point of the attention kernel writes to its block of results.
-/
module

public import proofs.«01_k».proof.Proof.AttnSteps
public import Idealize.ShloMosaic.Lib.Pipeline.ValueKit.Tiles
public import Idealize.ShloMosaic.Lib.Tactic

@[expose] public section

set_option maxRecDepth 16384

noncomputable section

namespace Cert.KernelIdeal.Attn

open Cert.KernelIdeal Cert.KernelIdeal.Gen Idealize.ShloMosaic Idealize.ShloMosaic.TcCoe Idealize.SL.Sem

/-- A block of results: row `i`, column `128 h + d` is row `512 h + i`, column `d` of the stacked heads' rows. -/
def blockOut (x0 : Vec Ideal S512x512 .bf16) (x1 : Vec Ideal S8192x128 .bf16) (x2 : Vec Ideal S8192x256 .bf16) : Vec Ideal S512x512 .bf16 :=
  fun y => rows x0 x1 x2 (ix2 (⟨(y 1).val / 128 * 512 + (y 0).val, by
    have h0 : (y 0).val < 512 := (y 0).isLt
    have h1 : (y 1).val < 512 := (y 1).isLt
    omega⟩ : Fin 2048) (⟨(y 1).val % 128, Nat.mod_lt _ (by norm_num)⟩ : Fin 128))

theorem hz : (![0, 0] : Fin 2 → Nat) = fun _ => 0 := funext fun a => by fin_cases a <;> rfl

/-- A chunk of keys, as loaded. -/
theorem ld_keys (x1 : Vec Ideal S8192x128 .bf16) (n : Nat) (hn : n + 2048 ≤ 8192) (inb) :
    View.ld x1 (Rect.unit (s := S8192x128) ![n, 0] ![2048, 128] inb) = keysAt x1 n hn :=
  funext fun x => View.ld_unit_apply_of x1 _ _ inb x _ fun a => by
    match a with
    | ⟨0, _⟩ => rfl
    | ⟨1, _⟩ => exact (Nat.zero_add _).symm

/-- A chunk of values, as loaded. -/
theorem ld_vals (x2 : Vec Ideal S8192x256 .bf16) (n : Nat) (hn : n + 2048 ≤ 8192) (inb) :
    View.ld x2 (Rect.unit (s := S8192x256) ![n, 0] ![2048, 256] inb) = valsAt x2 n hn :=
  funext fun x => View.ld_unit_apply_of x2 _ _ inb x _ fun a => by
    match a with
    | ⟨0, _⟩ => rfl
    | ⟨1, _⟩ => exact (Nat.zero_add _).symm

/-- After the first chunk. -/
theorem body_one (x0 : Vec Ideal S512x512 .bf16) (k0 : Vec Ideal S2048x128 .bf16) (v0 : Vec Ideal S2048x256 .bf16) :
    k0_pay8 x0 k0 = (St.init.step (stacked x0) k0 v0).m ∧ k0_pay11 x0 k0 v0 = (St.init.step (stacked x0) k0 v0).top
      ∧ k0_pay12 x0 k0 v0 = (St.init.step (stacked x0) k0 v0).bot := by
  have hv : k0_pay6 v0 = v0 := by unfold k0_pay6; exact shapeCast_self v0 _
  refine ⟨rfl, ?_, ?_⟩
  · unfold k0_pay11; rw [hv]; rfl
  · unfold k0_pay12; rw [hv]; rfl

/-- After the second and the third, from any state. -/
theorem body_two (q : FVec Ideal S2048x128 .bf16) (k1 k2 : Vec Ideal S2048x128 .bf16) (v1 v2 : Vec Ideal S2048x256 .bf16) (st : St Ideal) :
    k0_pay21 q st.m k1 k2 = ((st.step q k1 v1).step q k2 v2).m
      ∧ k0_pay22 q st.m k1 k2 = rescale (st.step q k1 v1).m ((st.step q k1 v1).step q k2 v2).m
      ∧ k0_pay23 q st.m k1 k2 = weights (scores q k2) ((st.step q k1 v1).step q k2 v2).m
      ∧ k0_pay24 q st.m st.top k1 v1 k2 v2 = ((st.step q k1 v1).step q k2 v2).top
      ∧ k0_pay18 q st.m st.bot k1 v1 = (st.step q k1 v1).bot := by
  have h1 : k0_pay13 v1 = v1 := by unfold k0_pay13; exact shapeCast_self v1 _
  have h2 : k0_pay19 v2 = v2 := by unfold k0_pay19; exact shapeCast_self v2 _
  refine ⟨rfl, rfl, rfl, ?_, ?_⟩
  · unfold k0_pay24; rw [h1, h2]; rfl
  · unfold k0_pay18; rw [h1]; rfl

/-- The fourth chunk and the division. -/
theorem body_last (q : FVec Ideal S2048x128 .bf16) (k2 k3 : Vec Ideal S2048x128 .bf16) (v2 v3 : Vec Ideal S2048x256 .bf16) (st st' : St Ideal)
    (h : st' = st.step q k2 v2) :
    k0_pay25 q st.bot v2 st'.m (rescale st.m st'.m) (weights (scores q k2) st'.m) st'.top k3 v3
      = quotient (st'.step q k3 v3).top (st'.step q k3 v3).bot := by
  unfold k0_pay25
  rw [shapeCast_self]
  subst h
  rfl

/-- The rows as the body computes them are `rows`. -/
theorem body_rows (x0 : Vec Ideal S512x512 .bf16) (k0 k1 k2 k3 : Vec Ideal S2048x128 .bf16) (v0 v1 v2 v3 : Vec Ideal S2048x256 .bf16)
    (x1 : Vec Ideal S8192x128 .bf16) (x2 : Vec Ideal S8192x256 .bf16)
    (e0 : k0 = keysAt x1 0 (by norm_num)) (e1 : k1 = keysAt x1 2048 (by norm_num)) (e2 : k2 = keysAt x1 4096 (by norm_num))
    (e3 : k3 = keysAt x1 6144 (by norm_num))
    (f0 : v0 = valsAt x2 0 (by norm_num)) (f1 : v1 = valsAt x2 2048 (by norm_num)) (f2 : v2 = valsAt x2 4096 (by norm_num))
    (f3 : v3 = valsAt x2 6144 (by norm_num)) :
    k0_pay25 (k0_pay3 x0) (k0_pay18 (k0_pay3 x0) (k0_pay8 x0 k0) (k0_pay12 x0 k0 v0) k1 v1) (k0_pay19 v2)
      (k0_pay21 (k0_pay3 x0) (k0_pay8 x0 k0) k1 k2) (k0_pay22 (k0_pay3 x0) (k0_pay8 x0 k0) k1 k2) (k0_pay23 (k0_pay3 x0) (k0_pay8 x0 k0) k1 k2)
      (k0_pay24 (k0_pay3 x0) (k0_pay8 x0 k0) (k0_pay11 x0 k0 v0) k1 v1 k2 v2) k3 v3 = rows x0 x1 x2 := by
  obtain ⟨a1, a2, a3⟩ := body_one x0 k0 v0
  rw [a1, a2, a3]
  obtain ⟨b1, b2, b3, b4, b5⟩ := body_two (k0_pay3 x0) k1 k2 v1 v2 (St.init.step (stacked x0) k0 v0)
  rw [b1, b2, b3, b4, b5]
  have h2 : k0_pay19 v2 = v2 := by unfold k0_pay19; exact shapeCast_self v2 _
  rw [h2, body_last _ k2 k3 v2 v3 _ _ rfl]
  subst e0 e1 e2 e3 f0 f1 f2 f3
  rfl

theorem out_A (c : Dev nD) (i : grid0.Coords) (a3 : Memref sig .tc .vmem S512x512 .bf16) (h3 : a3.IsWhole)
    (a4 : Memref sig .tc .vmem S8192x128 .bf16) (h4 : a4.IsWhole) (a5 : Memref sig .tc .vmem S8192x256 .bf16) (h5 : a5.IsWhole)
    (a6 : Memref sig .tc .vmem S512x512 .bf16) (h6 : a6.IsWhole)
    (x0 : Vec Ideal S512x512 .bf16) (x1 : Vec Ideal S8192x128 .bf16) (x2 : Vec Ideal S8192x256 .bf16) :
    out0_A_3 c i a3 h3 a4 h4 a5 h5 a6 h6 x0 x1 x2 = blockOut x0 x1 x2 := by
  unfold out0_A_3
  funext y
  rw [View.read_writes_eq_canon _ _ _ (cover0_A_3 c i a3 h3 a4 h4 a5 h5 a6 h6 x0 x1 x2)]
  refine View.canon_apply_of_pieces _ _ ?_ y (cover0_A_3 c i a3 h3 a4 h4 a5 h5 a6 h6 x0 x1 x2 y)
  unfold kernelRun0_A
  dsimp only
  sl_unfold_words
  simp only [View.readAt_eq_ld, h3.read_unread, h4.read_unread, h5.read_unread, View.ld_unit_zero (S := S512x512) hz]
  have hb := body_rows x0 _ _ _ _ _ _ _ _ x1 x2
    (ld_keys x1 0 (by norm_num) k0_part1_skel._proof_3) (ld_keys x1 2048 (by norm_num) k0_part1_skel._proof_7)
    (ld_keys x1 4096 (by norm_num) k0_part2_skel._proof_3) (ld_keys x1 6144 (by norm_num) k0_part3_skel._proof_1)
    (ld_vals x2 0 (by norm_num) k0_part1_skel._proof_5) (ld_vals x2 2048 (by norm_num) k0_part2_skel._proof_1)
    (ld_vals x2 4096 (by norm_num) k0_part2_skel._proof_5) (ld_vals x2 6144 (by norm_num) k0_part3_skel._proof_3)
  have hg : ∀ (h : Fin 4) (x0' : Fin 512) (x1' : Fin 128) (y : S512x512.Idx), (y 0).val = x0'.val → (y 1).val = 128 * h.val + x1'.val →
      rows x0 x1 x2 (ix2 (⟨512 * h.val + x0'.val, by omega⟩ : Fin 2048) x1') = blockOut x0 x1 x2 y := fun h x0' x1' y e0 e1 => by
    unfold blockOut
    generalize rows x0 x1 x2 = R
    have hh := h.isLt
    have h0 := x0'.isLt
    have h1 := x1'.isLt
    refine congrArg₂ (fun a b => R (ix2 a b)) (Fin.ext ?_) (Fin.ext ?_) <;> simp only [e0, e1] <;> omega
  refine List.forall_mem_cons.mpr ⟨fun x => ?_, List.forall_mem_cons.mpr ⟨fun x => ?_, List.forall_mem_cons.mpr ⟨fun x => ?_,
    List.forall_mem_cons.mpr ⟨fun x => ?_, fun _ hn => absurd hn List.not_mem_nil⟩⟩⟩⟩
  · refine Eq.trans ?_ ((congrFun hb (ix2 (⟨512 * 3 + (x 0).val, by have : (x 0).val < 512 := (x 0).isLt; omega⟩ : Fin 2048) (x 1))).trans
      (hg 3 (x 0) (x 1) _ ?_ ?_))
    · unfold k0_pay2
      pointwise
    · rw [Rect.emb_apply]; simp
    · rw [Rect.emb_apply]; simp
  · refine Eq.trans ?_ ((congrFun hb (ix2 (⟨512 * 2 + (x 0).val, by have : (x 0).val < 512 := (x 0).isLt; omega⟩ : Fin 2048) (x 1))).trans
      (hg 2 (x 0) (x 1) _ ?_ ?_))
    · unfold k0_pay1
      pointwise
    · rw [Rect.emb_apply]; simp
    · rw [Rect.emb_apply]; simp
  · refine Eq.trans ?_ ((congrFun hb (ix2 (⟨512 * 1 + (x 0).val, by have : (x 0).val < 512 := (x 0).isLt; omega⟩ : Fin 2048) (x 1))).trans
      (hg 1 (x 0) (x 1) _ ?_ ?_))
    · unfold k0_pay27
      pointwise
    · rw [Rect.emb_apply]; simp
    · rw [Rect.emb_apply]; simp
  · refine Eq.trans ?_ ((congrFun hb (ix2 (⟨512 * 0 + (x 0).val, by have : (x 0).val < 512 := (x 0).isLt; omega⟩ : Fin 2048) (x 1))).trans
      (hg 0 (x 0) (x 1) _ ?_ ?_))
    · unfold k0_pay26
      pointwise
    · rw [Rect.emb_apply]; simp
    · rw [Rect.emb_apply]; simp

end Cert.KernelIdeal.Attn

end
-- ==== Proof.AttnSpec.lean ====
/-
  Grouped-query attention, as plain mathematics: four prompts of 8192 rows, 16 query heads of width 128,
  every four of them sharing one of four key and value heads.
-/
module

public import proofs.«01_k».proof.Proof.Softmax
public import Idealize.ShloMosaic.Lib.Pointwise

@[expose] public section

noncomputable section

namespace Cert.Attention

open Idealize.ShloMosaic

/-- The queries: 16 heads side by side. -/
abbrev Queries : Type := FVec Ideal ⟨2, ![32768, 2048]⟩ .bf16

/-- Keys or values: four heads side by side. -/
abbrev Heads : Type := FVec Ideal ⟨2, ![32768, 512]⟩ .bf16

/-- Where a query row's key `j` lies: in the row's own prompt. -/
def keyRow (r : Fin 32768) (j : Fin 8192) : Fin 32768 := ⟨r.val / 8192 * 8192 + j.val, by omega⟩

/-- Column `e` of the query head that column `l` belongs to. -/
def queryCol (l : Fin 2048) (e : Fin 128) : Fin 2048 := ⟨l.val / 128 * 128 + e.val, by omega⟩

/-- Column `e` of the key head that column `l`'s query head shares. -/
def keyCol (l : Fin 2048) (e : Fin 128) : Fin 512 := ⟨l.val / 512 * 128 + e.val, by omega⟩

/-- Row `r`'s score of key `j`, for column `l`'s head: the inner product over the root of the head's width. -/
def score (q : Queries) (k : Heads) (r : Fin 32768) (l : Fin 2048) (j : Fin 8192) : ℝ :=
  (∑ e : Fin 128, (q (ix2 r (queryCol l e)) : EReal).toReal * (k (ix2 (keyRow r j) (keyCol l e)) : EReal).toReal) / Real.sqrt 128

/-- The attention: the softmax of the scores, weighing the values. -/
def attn (q : Queries) (k v : Heads) : Queries := fun y =>
  Softmax.attend (score q k (y 0) (y 1)) fun j => (v (ix2 (keyRow (y 0) j) (keyCol (y 1) ⟨(y 1).val % 128, Nat.mod_lt _ (by norm_num)⟩)) : EReal)

/-- Every entry is a real number. -/
def IsReal {s : Shape} (x : FVec Ideal s .bf16) : Prop := ∀ i, (((x i : EReal).toReal : ℝ) : EReal) = x i

end Cert.Attention

end
-- ==== Proof.AttnRun.lean ====
/-
  The attention kernel's result array after the run, an index at a time.
-/
module

public import proofs.«01_k».proof.Proof.AttnBlock
public import proofs.«01_k».proof.Proof.AttnSpec
public import Idealize.ShloMosaic.Lib.StableHlo.ReadAt

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- Device `c`'s queries, keys and values as launched. -/
abbrev argQ (c : Dev nD) : Vec Ideal S32768x2048 .bf16 := m ((c : Thread nD τ).loc main_arg0)
abbrev argK (c : Dev nD) : Vec Ideal S32768x512 .bf16 := m ((c : Thread nD τ).loc main_arg1)
abbrev argV (c : Dev nD) : Vec Ideal S32768x512 .bf16 := m ((c : Thread nD τ).loc main_arg2)

/-- The number the queries are multiplied by before the kernel. -/
def qScale : ℝ := 1 / (Real.sqrt 128 * Real.log 2)

theorem qScale_eq : Ideal.div 1 (Ideal.sqrt (Ideal.ofBits FTy.f32 1124073472#32) * Ideal.log (Ideal.ofBits FTy.f32 1073741824#32))
    = (qScale : EReal) := by
  have h1 : Ideal.ofBits FTy.f32 1124073472#32 = ((128 : ℝ) : EReal) := by
    simp [Ideal.ofBits, Ideal.ieee]; rw [← EReal.coe_mul]; norm_num
  have h2 : Ideal.ofBits FTy.f32 1073741824#32 = ((2 : ℝ) : EReal) := by
    simp [Ideal.ofBits, Ideal.ieee]; rw [← EReal.coe_mul]; norm_num
  have hs : Ideal.sqrt ((128 : ℝ) : EReal) = ((Real.sqrt 128 : ℝ) : EReal) := by
    rw [Ideal.sqrt_coe, if_neg (by norm_num)]
  have hl : Ideal.log ((2 : ℝ) : EReal) = ((Real.log 2 : ℝ) : EReal) := by
    rw [Ideal.log_coe, if_neg (by norm_num)]
  rw [h1, h2, hs, hl, ← EReal.coe_mul, Ideal.div_coe (by positivity), one_mul]
  rfl

/-- The scaled queries, at an index. -/
theorem V_q (c : Dev nD) (r : Fin 32768) (l : Fin 2048) :
    (V m c main_v7 (ix2 r l) : EReal) = (argQ m c (ix2 r l) : EReal) * (qScale : EReal) := by
  unfold V argQ
  after_reads_at
  rw [qScale_eq]

/-- The values with their column of ones, at an index. -/
theorem V_v (c : Dev nD) (r : Fin 32768) (g : Fin 4) (l : Fin 256) :
    (V m c main_v15 (ix2 r ⟨g.val * 256 + l.val, by omega⟩) : EReal)
      = if h : l.val < 128 then (argV m c (ix2 r ⟨g.val * 128 + l.val, by omega⟩) : EReal)
        else if l.val = 128 then (1 : EReal) else (0 : EReal) := by
  unfold V argV
  after_reads_at
  split
  · after_reads_at
  · rename_i h
    after_reads_at
    have hl := l.isLt
    split
    · rename_i h'
      rw [h']
      show (((IntOp.cmpi CmpIPredicate.eq (BitVec.ofNat 32 (128 - 128)) 0#32).toNat : ℝ) : EReal) = 1
      have : (IntOp.cmpi CmpIPredicate.eq (BitVec.ofNat 32 (128 - 128)) 0#32).toNat = 1 := by decide
      rw [this]; simp
    · rename_i h'
      have hne : IntOp.cmpi CmpIPredicate.eq (BitVec.ofNat 32 (l.val - 128)) 0#32 = 0#1 := by
        have : BitVec.ofNat 32 (l.val - 128) ≠ 0#32 := fun e => by
          have := congrArg BitVec.toNat e
          simp at this
          omega
        show BitVec.ofBool (BitVec.ofNat 32 (l.val - 128) == 0#32) = 0#1
        rw [beq_false_of_ne this]; rfl
      rw [hne]
      show (((0#1 : BitVec 1).toNat : ℝ) : EReal) = 0
      simp

/-- Where each window's block lies, at grid point `t`. -/
theorem index_q (t : Fin grid0.N) : win0_0.index t 0 = t.val / 64 * 16 + t.val % 16 ∧ win0_0.index t 1 = t.val / 16 % 4 := by
  revert t; decide +kernel
theorem index_k (t : Fin grid0.N) : win0_1.index t 0 = t.val / 64 ∧ win0_1.index t 1 = t.val / 16 % 4 := by
  revert t; decide +kernel
theorem index_v (t : Fin grid0.N) : win0_2.index t 0 = t.val / 64 ∧ win0_2.index t 1 = t.val / 16 % 4 := by
  revert t; decide +kernel
theorem index_o (t : Fin grid0.N) : win0_3.index t 0 = t.val / 64 * 16 + t.val % 16 ∧ win0_3.index t 1 = t.val / 16 % 4 := by
  revert t; decide +kernel

/-- An entry of the queries' block at grid point `t`. -/
theorem iblk_q (c : Dev nD) (t : Fin cfg0.N) (i : Fin 512) (l : Fin 512) (r : Fin 32768) (l' : Fin 2048)
    (hr : r.val = (t.val / 64 * 16 + t.val % 16) * 512 + i.val) (hl : l'.val = t.val / 16 % 4 * 512 + l.val) :
    (iblk m c 0 t (ix2 i l) : EReal) = (argQ m c (ix2 r l') : EReal) * (qScale : EReal) := by
  refine Eq.trans ?_ (V_q m c r l')
  show V m c main_v7 (((cfg0.win 0).blk t).view.emb (ix2 i l)) = V m c main_v7 (ix2 r l')
  obtain ⟨e0, e1⟩ := index_q t
  refine congrArg (V m c main_v7) (funext fun a => Fin.ext ?_)
  match a with
  | ⟨0, _⟩ => show win0_0.index t (0 : Fin 2) * 512 + 1 * i.val = r.val; omega
  | ⟨1, _⟩ => show win0_0.index t (1 : Fin 2) * 512 + 1 * l.val = l'.val; omega

/-- An entry of the keys' block. -/
theorem iblk_k (c : Dev nD) (t : Fin cfg0.N) (j : Fin 8192) (e : Fin 128) (r : Fin 32768) (l : Fin 512)
    (hr : r.val = t.val / 64 * 8192 + j.val) (hl : l.val = t.val / 16 % 4 * 128 + e.val) :
    (iblk m c 1 t (ix2 j e) : EReal) = (argK m c (ix2 r l) : EReal) := by
  refine Eq.trans ?_ (congrFun (V_main_arg1 m c) (ix2 r l))
  show V m c main_arg1 (((cfg0.win 1).blk t).view.emb (ix2 j e)) = V m c main_arg1 (ix2 r l)
  obtain ⟨e0, e1⟩ := index_k t
  refine congrArg (V m c main_arg1) (funext fun a => Fin.ext ?_)
  match a with
  | ⟨0, _⟩ => show win0_1.index t (0 : Fin 2) * 8192 + 1 * j.val = r.val; omega
  | ⟨1, _⟩ => show win0_1.index t (1 : Fin 2) * 128 + 1 * e.val = l.val; omega

/-- An entry of the values' block. -/
theorem iblk_v (c : Dev nD) (t : Fin cfg0.N) (j : Fin 8192) (l : Fin 256) (r : Fin 32768)
    (hr : r.val = t.val / 64 * 8192 + j.val) :
    (iblk m c 2 t (ix2 j l) : EReal)
      = if h : l.val < 128 then (argV m c (ix2 r ⟨t.val / 16 % 4 * 128 + l.val, by omega⟩) : EReal)
        else if l.val = 128 then (1 : EReal) else (0 : EReal) := by
  refine Eq.trans ?_ (V_v m c r ⟨t.val / 16 % 4, by omega⟩ l)
  show V m c main_v15 (((cfg0.win 2).blk t).view.emb (ix2 j l)) = V m c main_v15 _
  obtain ⟨e0, e1⟩ := index_v t
  refine congrArg (V m c main_v15) (funext fun a => Fin.ext ?_)
  match a with
  | ⟨0, _⟩ => show win0_2.index t (0 : Fin 2) * 8192 + 1 * j.val = r.val; omega
  | ⟨1, _⟩ => show win0_2.index t (1 : Fin 2) * 256 + 1 * l.val = t.val / 16 % 4 * 256 + l.val; omega

/-- The attention of the arguments as launched. -/
abbrev result (c : Dev nD) : Attention.Queries := Attention.attn (argQ m c) (argK m c) (argV m c)

/-- What grid point `t` writes back is its block of the attention. -/
theorem flushed_eq (c : Dev nD) (hq : Attention.IsReal (argQ m c)) (hk : Attention.IsReal (argK m c)) (t : Fin cfg0.N) :
    (dats m 0 c).flushed 3 t = ((cfg0.win 3).blk t).view.read (Elt Ideal) (result m c) := by
  rw [Value.flushed3_A, out_A]
  funext j
  have hj0 : (j 0).val < 512 := (j 0).isLt
  have hj1 : (j 1).val < 512 := (j 1).isLt
  have ht : t.val < 256 := lt_of_lt_of_eq t.isLt Gen.N_0
  obtain ⟨e0, e1⟩ := index_o t
  have hemb : ((cfg0.win 3).blk t).view.emb j
      = ix2 (⟨(t.val / 64 * 16 + t.val % 16) * 512 + (j 0).val, by omega⟩ : Fin 32768) (⟨t.val / 16 % 4 * 512 + (j 1).val, by omega⟩ : Fin 2048) :=
    funext fun a => Fin.ext (by
      match a with
      | ⟨0, _⟩ => show win0_3.index t (0 : Fin 2) * 512 + 1 * (j 0).val = (t.val / 64 * 16 + t.val % 16) * 512 + (j 0).val; omega
      | ⟨1, _⟩ => show win0_3.index t (1 : Fin 2) * 512 + 1 * (j 1).val = t.val / 16 % 4 * 512 + (j 1).val; omega)
  show blockOut (iblk m c 0 t) (iblk m c 1 t) (iblk m c 2 t) j = result m c (((cfg0.win 3).blk t).view.emb j)
  rw [hemb]
  generalize hR : (⟨(t.val / 64 * 16 + t.val % 16) * 512 + (j 0).val, by omega⟩ : Fin 32768) = R
  generalize hC : (⟨t.val / 16 % 4 * 512 + (j 1).val, by omega⟩ : Fin 2048) = C
  have hR' : R.val = (t.val / 64 * 16 + t.val % 16) * 512 + (j 0).val := by rw [← hR]
  have hC' : C.val = t.val / 16 % 4 * 512 + (j 1).val := by rw [← hC]
  unfold blockOut
  rw [rows_apply _ _ _ _ _ (Attention.score (argQ m c) (argK m c) R C) ?_ ?_]
  · unfold result Attention.attn
    refine congrArg (Softmax.attend (Attention.score (argQ m c) (argK m c) R C)) (funext fun n => ?_)
    refine (iblk_v m c t n _ (Attention.keyRow R n) (by unfold Attention.keyRow; simp only []; omega)).trans ?_
    rw [dif_pos (Nat.mod_lt _ (by norm_num))]
    refine congrArg (argV m c) (congrArg (ix2 _) (Fin.ext ?_))
    show t.val / 16 % 4 * 128 + (j 1).val % 128 = C.val / 512 * 128 + C.val % 128
    omega
  · intro n
    have hterm : ∀ e : Fin 128, (stacked (iblk m c 0 t) (ix2 (⟨(j 1).val / 128 * 512 + (j 0).val, by omega⟩ : Fin 2048) e) : EReal) * iblk m c 1 t (ix2 n e)
        = (((argQ m c (ix2 R (Attention.queryCol C e)) : EReal).toReal * (argK m c (ix2 (Attention.keyRow R n) (Attention.keyCol C e)) : EReal).toReal * qScale : ℝ) : EReal) := fun e => by
      rw [stacked_apply, iblk_q m c t _ _ R (Attention.queryCol C e) (by simp only []; omega) (by unfold Attention.queryCol; simp only []; omega),
        iblk_k m c t n e (Attention.keyRow R n) (Attention.keyCol C e) (by unfold Attention.keyRow; simp only []; omega)
          (by unfold Attention.keyCol; simp only []; omega)]
      rw [← hq (ix2 R (Attention.queryCol C e)), ← hk (ix2 (Attention.keyRow R n) (Attention.keyCol C e)), ← EReal.coe_mul, ← EReal.coe_mul]
      simp only [EReal.toReal_coe]
      congr 1
      ring
    simp only [hterm]
    rw [← Softmax.coe_sum, ← Finset.sum_mul]
    congr 1
    unfold Attention.score qScale
    have : Real.sqrt 128 ≠ 0 := by positivity
    have : Real.log 2 ≠ 0 := (Real.log_pos (by norm_num)).ne'
    field_simp
  · intro n
    refine (iblk_v m c t n _ (Attention.keyRow R n) (by unfold Attention.keyRow; simp only []; omega)).trans ?_
    rw [dif_neg (by norm_num), if_pos rfl]

/-- Every index of the result lies in some grid point's block. -/
theorem covered (i : S32768x2048.Idx) : ∃ t : Fin cfg0.N, (cfg0.win 3).flush t = true ∧ i ∈ ((cfg0.win 3).blk t).view.set := by
  have h0 : (i 0).val < 32768 := (i 0).isLt
  have h1 : (i 1).val < 2048 := (i 1).isLt
  have hb : (i 0).val / 8192 * 64 + (i 1).val / 512 * 16 + (i 0).val / 512 % 16 < cfg0.N := lt_of_lt_of_eq (by omega) Gen.N_0.symm
  refine ⟨⟨_, hb⟩, flush0_3 _, ?_⟩
  generalize ht : (⟨_, hb⟩ : Fin cfg0.N) = t
  have ht' : t.val = (i 0).val / 8192 * 64 + (i 1).val / 512 * 16 + (i 0).val / 512 % 16 := by rw [← ht]
  obtain ⟨e0, e1⟩ := index_o t
  have he : ((cfg0.win 3).blk t).view.emb (ix2 (⟨(i 0).val % 512, Nat.mod_lt _ (by norm_num)⟩ : Fin 512) (⟨(i 1).val % 512, Nat.mod_lt _ (by norm_num)⟩ : Fin 512)) = i :=
    funext fun a => Fin.ext (by
      match a with
      | ⟨0, _⟩ => show win0_3.index t (0 : Fin 2) * 512 + 1 * ((i 0).val % 512) = (i 0).val; omega
      | ⟨1, _⟩ => show win0_3.index t (1 : Fin 2) * 512 + 1 * ((i 1).val % 512) = (i 1).val; omega)
  have h := ((cfg0.win 3).blk t).view.emb_mem_set (ix2 (⟨(i 0).val % 512, Nat.mod_lt _ (by norm_num)⟩ : Fin 512) (⟨(i 1).val % 512, Nat.mod_lt _ (by norm_num)⟩ : Fin 512))
  rwa [he] at h

/-- The result array after the run. -/
theorem final3 (c : Dev nD) (hq : Attention.IsReal (argQ m c)) (hk : Attention.IsReal (argK m c)) :
    (dats m 0 c).arrAt 3 cfg0.N = result m c :=
  (dats m 0 c).arrAt_eq_of_cover 3 (result m c) (fun t _ => flushed_eq m c hq hk t) covered

end Cert.KernelIdeal.Attn

end
-- ==== Proof.AttnRef.lean ====
/-
  The reference's result, an index at a time: the plain softmax attention.
-/
module

public import proofs.«01_k».proof.Proof.Gen.ReferenceIdeal.Read
public import proofs.«01_k».proof.Proof.AttnSpec
public import Idealize.ShloMosaic.PureOps.Ideal.Laws

@[expose] public section

set_option maxRecDepth 16384

noncomputable section

namespace Cert.ReferenceIdeal.Attn

open Cert.ReferenceIdeal Cert.ReferenceIdeal.Gen Cert.ReferenceIdeal.Read Idealize.ShloMosaic

variable (q : Attention.Queries) (k v : Attention.Heads)

/-- The scores are real numbers, the specification's. -/
theorem scores_real (hq : Attention.IsReal q) (hk : Attention.IsReal k) (y : S4x4x4x8192x8192.Idx) (R : Fin 32768) (C : Fin 2048)
    (hR : R.val = (y 0).val * 8192 + (y 3).val) (hC : C.val / 128 = (y 1).val * 4 + (y 2).val) :
    (val_main_v10 (F := Ideal) q k y : EReal) = (Attention.score q k R C (y 4) : EReal) := by
  have h0 : (y 0).val < 4 := (y 0).isLt
  have h1 : (y 1).val < 4 := (y 1).isLt
  have h2 : (y 2).val < 4 := (y 2).isLt
  have h3 : (y 3).val < 8192 := (y 3).isLt
  have h4 : (y 4).val < 8192 := (y 4).isLt
  have hc : Ideal.ofBits FTy.f32 0x43000000#32 = ((128 : ℝ) : EReal) := by
    simp [Ideal.ofBits, Ideal.ieee]; rw [← EReal.coe_mul]; norm_num
  have hd : (val_main_v9 (F := Ideal) y : EReal) = ((Real.sqrt 128 : ℝ) : EReal) := by
    rw [val_main_v9_apply, val_main_v8_apply, val_main_cst_apply]
    show Ideal.sqrt (Ideal.ofBits FTy.f32 0x43000000#32) = _
    rw [hc, Ideal.sqrt_coe, if_neg (by norm_num)]
  rw [val_main_v10_apply, hd, val_main_v7_apply, val_main_v6_apply]
  have hterm : ∀ e : Fin 128, (val_main_v3 (F := Ideal) k (lidx_main_v6 (idx_main_v7 y) e) : EReal) * val_main_v1 (F := Ideal) q (ridx_main_v6 (idx_main_v7 y) e)
      = (((q (ix2 R (Attention.queryCol C e)) : EReal).toReal * (k (ix2 (Attention.keyRow R (y 4)) (Attention.keyCol C e)) : EReal).toReal : ℝ) : EReal) := fun e => by
    have he := e.isLt
    rw [val_main_v3_apply, val_main_v2_apply, val_main_v1_apply, val_main_v0_apply, EReal.coe_mul, hq, hk, mul_comm]
    refine congrArg₂ (fun a b : EReal => a * b) (congrArg q (funext fun a => Fin.ext ?_)) (congrArg k (funext fun a => Fin.ext ?_))
    · match a with
      | ⟨0, _⟩ => show (((((y 0).val * 8192 + (y 3).val) * 4 + (y 1).val) * 4 + (y 2).val) * 128 + e.val) / 2048 = R.val; omega
      | ⟨1, _⟩ => show (((((y 0).val * 8192 + (y 3).val) * 4 + (y 1).val) * 4 + (y 2).val) * 128 + e.val) % 2048 = C.val / 128 * 128 + e.val; omega
    · match a with
      | ⟨0, _⟩ => show ((((y 0).val * 8192 + (y 4).val) * 4 + (y 1).val) * 128 + e.val) / 512 = R.val / 8192 * 8192 + (y 4).val; omega
      | ⟨1, _⟩ => show ((((y 0).val * 8192 + (y 4).val) * 4 + (y 1).val) * 128 + e.val) % 512 = C.val / 512 * 128 + e.val; omega
  simp only [hterm]
  show Ideal.div _ _ = _
  have hp : Real.sqrt 128 ≠ 0 := by positivity
  rw [← Softmax.coe_sum, Ideal.div_coe hp, ← EReal.coe_mul]
  unfold Attention.score
  congr 1
  ring

/-- The maximum that is subtracted is a real number. -/
theorem max_real (hq : Attention.IsReal q) (hk : Attention.IsReal k) (z : S4x4x4x8192.Idx) :
    ∃ M : ℝ, (val_main_v13 (F := Ideal) q k z : EReal) = (M : EReal) := by
  have h0 : (z 0).val < 4 := (z 0).isLt
  have h1 : (z 1).val < 4 := (z 1).isLt
  have h2 : (z 2).val < 4 := (z 2).isLt
  have h3 : (z 3).val < 8192 := (z 3).isLt
  have hb : Ideal.ofBits FTy.f32 0xFF800000#32 = ⊥ := by simp [Ideal.ofBits, Ideal.ieee]
  have h11 : (val_main_v11 (F := Ideal) q k z : EReal)
      = (Finset.univ : Finset (Fin 8192)).fold max ⊥ fun j => (val_main_v10 (F := Ideal) q k (idx_main_v18 z j) : EReal) := by
    unfold val_main_v11
    generalize val_main_v10 (F := Ideal) q k = x
    have hc : val_main_cst_0 (F := Ideal) (Shape.Idx.first h_S_) = (⊥ : EReal) := hb
    rw [Host.reduce_eq_fold, Shape.ReducesTo.fold_fiber_r5_a4, hc]
    refine congrArg (fun f : Fin 8192 → EReal => Finset.fold max ⊥ f Finset.univ) (funext fun j => congrArg x (funext fun a => ?_))
    match a with
    | ⟨0, _⟩ => rfl
    | ⟨1, _⟩ => rfl
    | ⟨2, _⟩ => rfl
    | ⟨3, _⟩ => rfl
    | ⟨4, _⟩ => rfl
  rw [val_main_v13_apply, val_main_v12_apply, val_main_cst_1_apply]
  show ∃ M : ℝ, max (Ideal.ofBits FTy.f32 0xFF800000#32) (val_main_v11 (F := Ideal) q k z : EReal) = (M : EReal)
  rw [hb, h11]
  have hs : ∀ j : Fin 8192, (val_main_v10 (F := Ideal) q k (idx_main_v18 z j) : EReal)
      = (Attention.score q k ⟨(z 0).val * 8192 + (z 3).val, by omega⟩ ⟨((z 1).val * 4 + (z 2).val) * 128, by omega⟩ j : EReal) := fun j =>
    scores_real q k hq hk (idx_main_v18 z j) _ _ rfl (by show ((z 1).val * 4 + (z 2).val) * 128 / 128 = (z 1).val * 4 + (z 2).val; omega)
  simp only [hs]
  exact Softmax.exists_max (by norm_num) ⊥ (by simp) _

/-- The reference's result is the attention. -/
theorem result_eq (hq : Attention.IsReal q) (hk : Attention.IsReal k) : val_main_v25 (F := Ideal) q k v = Attention.attn q k v := by
  funext i
  have h0 : (i 0).val < 32768 := (i 0).isLt
  have h1 : (i 1).val < 2048 := (i 1).isLt
  rw [val_main_v25_apply]
  show (val_main_v24 (F := Ideal) q k v i : EReal) = _
  rw [val_main_v24_apply, val_main_v23_apply, val_main_v22_apply]
  unfold Attention.attn
  obtain ⟨M, hM⟩ := max_real q k hq hk (idx_main_v14 (idx_main_v15 (ridx_main_v22 (idx_main_v23 (idx_main_v24 i)) 0)))
  have he : ∀ j : Fin 8192, (val_main_v17 (F := Ideal) q k (ridx_main_v22 (idx_main_v23 (idx_main_v24 i)) j) : EReal)
      = Ideal.exp ((Attention.score q k (i 0) (i 1) j : EReal) - (M : EReal)) := fun j => by
    have hs : (val_main_v10 (F := Ideal) q k (ridx_main_v22 (idx_main_v23 (idx_main_v24 i)) j) : EReal) = (Attention.score q k (i 0) (i 1) j : EReal) :=
      scores_real q k hq hk (ridx_main_v22 (idx_main_v23 (idx_main_v24 i)) j) (i 0) (i 1)
        (by show (i 0).val = ((i 0).val * 2048 + (i 1).val) / 16777216 * 8192 + ((i 0).val * 2048 + (i 1).val) / 2048 % 8192; omega)
        (by show (i 1).val / 128 = ((i 0).val * 2048 + (i 1).val) / 512 % 4 * 4 + ((i 0).val * 2048 + (i 1).val) / 128 % 4; omega)
    have hm : (val_main_v15 (F := Ideal) q k (ridx_main_v22 (idx_main_v23 (idx_main_v24 i)) j) : EReal) = (M : EReal) := by
      rw [val_main_v15_apply, val_main_v14_apply]
      refine Eq.trans (congrArg (val_main_v13 (F := Ideal) q k) (funext fun a => ?_)) hM
      match a with
      | ⟨0, _⟩ => rfl
      | ⟨1, _⟩ => rfl
      | ⟨2, _⟩ => rfl
      | ⟨3, _⟩ => rfl
    rw [val_main_v17_apply, val_main_v16_apply, hs, hm]
    rfl
  rw [← Softmax.softmax_attend M]
  refine Finset.sum_congr rfl fun j _ => ?_
  have hj := j.isLt
  rw [val_main_v21_apply, he, val_main_v20_apply, val_main_v19_apply, val_main_v18_apply, val_main_v5_apply, val_main_v4_apply]
  have hz : val_main_cst_2 (F := Ideal) (Shape.Idx.first h_S_) = (0 : EReal) := Ideal.ofBits_zero_f32
  rw [hz]
  refine congrArg₂ (fun a b : EReal => a * b) (congrArg v (funext fun a => Fin.ext ?_)) (congrArg (Ideal.div _) (congrArg (fun x : EReal => 0 + x) (Finset.sum_congr rfl fun l _ => ?_)))
  · have e0 : ((i 0).val * 2048 + (i 1).val) / 16777216 = (i 0).val / 8192 := by omega
    have e1 : ((i 0).val * 2048 + (i 1).val) / 512 % 4 = (i 1).val / 512 := by omega
    have e2 : ((i 0).val * 2048 + (i 1).val) % 128 = (i 1).val % 128 := by omega
    match a with
    | ⟨0, _⟩ =>
      show (((((i 0).val * 2048 + (i 1).val) / 16777216 * 8192 + j.val) * 4 + ((i 0).val * 2048 + (i 1).val) / 512 % 4) * 128 + ((i 0).val * 2048 + (i 1).val) % 128) / 512 = (i 0).val / 8192 * 8192 + j.val
      rw [e0, e1, e2]; omega
    | ⟨1, _⟩ =>
      show (((((i 0).val * 2048 + (i 1).val) / 16777216 * 8192 + j.val) * 4 + ((i 0).val * 2048 + (i 1).val) / 512 % 4) * 128 + ((i 0).val * 2048 + (i 1).val) % 128) % 512 = (i 1).val / 512 * 128 + (i 1).val % 128
      rw [e0, e1, e2]; omega
  · exact (congrArg (val_main_v17 (F := Ideal) q k) (funext fun a => by match a with | ⟨0, _⟩ => rfl | ⟨1, _⟩ => rfl | ⟨2, _⟩ => rfl | ⟨3, _⟩ => rfl | ⟨4, _⟩ => rfl)).trans (he l)

end Cert.ReferenceIdeal.Attn

end
-- ==== Proof.Finite.lean ====
/-
  The precondition read at an index: every query and every key is a real number.
-/
module

public import proofs.«01_k».proof.Pre_finite
public import proofs.«01_k».proof.Proof.AttnSpec
public import Idealize.ShloMosaic.Lib.ReduceAll

@[expose] public section

noncomputable section

namespace Cert.Attention

open Idealize.ShloMosaic

/-- A number whose absolute value is below infinity is a real number. -/
theorem isReal_of_abs_lt (x : EReal) (h : Ideal.cmp .olt (max x (-x)) (Ideal.ofBits .f32 0x7F800000#32) = 1#1) :
    ((x.toReal : ℝ) : EReal) = x := by
  have ht : Ideal.ofBits .f32 0x7F800000#32 = ⊤ := by simp [Ideal.ofBits, Ideal.ieee]
  rw [ht] at h
  refine EReal.coe_toReal (fun e => ?_) (fun e => ?_) <;> subst e <;> simp [Ideal.cmp] at h

/-- The precondition says what it says: every query and every key is a real number. -/
theorem isReal_of_finite [Cert.Pre_finite.Facts] (q : Queries) (k v : Heads) (h : Cert.Pre_finite.fn (F := Ideal) q k v = fun _ => 1#1) :
    IsReal q ∧ IsReal k := by
  have h0 := congrFun h (fun a => a.elim0)
  dsimp only [Cert.Pre_finite.fn] at h0
  haveI : Subsingleton Cert.Pre_finite.S_.Idx := ⟨fun a b => funext fun x => x.elim0⟩
  obtain ⟨h1, h2⟩ := IntOp.andi_eq_one.mp h0
  exact ⟨fun i => isReal_of_abs_lt _ (Host.reduce_andi_all _ _ _ _ _ h1 i), fun i => isReal_of_abs_lt _ (Host.reduce_andi_all _ _ _ _ _ h2 i)⟩

end Cert.Attention

end
-- ==== Proof.Norm.lean ====
/-
  The root-mean-square normalisation of a row and of a head, in real arithmetic.
-/
module

public import Idealize.ShloMosaic.Lib.Pointwise

@[expose] public section

noncomputable section

namespace Cert.Norm

open Idealize.ShloMosaic

/-- `h / √(mean h² + ε) * g` at entry `k` of a row of 2048. -/
def rms (h g : Fin 2048 → EReal) (k : Fin 2048) : EReal :=
  h k * Ideal.rsqrt (Ideal.div (∑ j, h j * h j) (Ideal.ofBits .f32 0x45000000#32) + Ideal.ofBits .f32 0x358637BD#32) * g k

/-- `h / √(mean h² + ε) * g` at entry `l` of a head of 128. -/
def head (h g : Fin 128 → EReal) (l : Fin 128) : EReal :=
  h l * Ideal.rsqrt (Ideal.div (∑ j, h j * h j) (Ideal.ofBits .f32 0x43000000#32) + Ideal.ofBits .f32 0x358637BD#32) * g l

end Cert.Norm

end
-- ==== Proof.QkvHead.lean ====
/-
  One head of the query, key and value projection on a block of 512 rows: the normalised rows' product with the weights, the
  normalisation of a head, its turning by the position's angles and its scale.
-/
module

public import proofs.«01_k».proof.Proof.Gen.QkvKernelIdeal.Value
public import proofs.«01_k».proof.Proof.Norm
public import Idealize.ShloMosaic.Lib.Pointwise
public import Idealize.ShloMosaic.Lib.KernelVsHost
public import Idealize.ShloMosaic.Lib.Pipeline.ValueKit.Tiles

@[expose] public section

set_option maxRecDepth 16384

noncomputable section

namespace Cert.QkvKernelIdeal.Qkv

open Cert.QkvKernelIdeal Cert.QkvKernelIdeal.Gen Idealize.ShloMosaic

theorem hz : (![0, 0] : Fin 2 → Nat) = fun _ => 0 := funext fun a => by fin_cases a <;> rfl

/-- The lane a head's turning pairs lane `l` with: 32 further in the first half of an axis, 32 back in the second. -/
def other (l : Fin 128) : Fin 128 := ⟨(l.val + if l.val % 64 < 32 then 32 else 96) % 128, Nat.mod_lt _ (by norm_num)⟩

/-- A head's rows normalised. -/
def normed (y : FVec Ideal S512x128 .f32) (g : FVec Ideal S1x128 .f32) : FVec Ideal S512x128 .f32 :=
  mulf (mulf y (broadcastTo S512x128 (rsqrt (addf (divf (shapeCast S512x1 (multiReduction .add [1] S512 (mulf y y) 0x00000000#32 reduces_S512x128_S512 (.inl rfl) rfl)
    shapeCasts_S512_S512x1) (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)

/-- A head's rows turned by the tables and scaled. -/
def turned (y cos sin : FVec Ideal S512x128 .f32) (s : Ideal .f32) : FVec Ideal S512x128 .bf16 :=
  truncf .bf16 (mulf (addf (mulf y cos) (mulf (select k0_pay6 (dynamicRotate 1 96#32 none y rotates_S512x128_d1) (dynamicRotate 1 32#32 none y rotates_S512x128_d1)) sin))
    (broadcast S512x128 s)) bitsLt_bf16_f32

/-- The lanes in the first half of their axis. -/
theorem mask_apply (i : Fin 512) (l : Fin 128) : k0_pay6 (ix2 i l) = if l.val % 64 < 32 then 1#1 else 0#1 := by
  have h : ∀ l : Fin 128, (k0_pay6 (ix2 (0 : Fin 512) l) = if l.val % 64 < 32 then 1#1 else 0#1) := by decide +kernel
  exact Eq.trans rfl (h l)

/-- A normalised head, at an index. -/
theorem normed_apply (y : FVec Ideal S512x128 .f32) (g : FVec Ideal S1x128 .f32) (i : Fin 512) (l : Fin 128) :
    (normed y g (ix2 i l) : EReal) = Norm.head (fun j => y (ix2 i j)) (fun j => g (ix2 0 j)) l := by
  unfold normed Norm.head
  rw [shapeCast_self]
  pointwise

/-- A turned and scaled head, at an index. -/
theorem turned_apply (y cos sin : FVec Ideal S512x128 .f32) (s : Ideal .f32) (i : Fin 512) (l : Fin 128) :
    (turned y cos sin s (ix2 i l) : EReal) = ((y (ix2 i l) : EReal) * cos (ix2 i l) + y (ix2 i (other l)) * sin (ix2 i l)) * s := by
  have hl := l.isLt
  have hr : (select k0_pay6 (dynamicRotate 1 96#32 none y rotates_S512x128_d1) (dynamicRotate 1 32#32 none y rotates_S512x128_d1) (ix2 i l) : EReal) = y (ix2 i (other l)) := by
    have hm := mask_apply i l
    by_cases h : l.val % 64 < 32
    · rw [if_pos h] at hm
      refine (if_pos hm).trans (dynamicRotate_apply 1 96#32 y rotates_S512x128_d1 (ix2 i l) (ix2 i (other l)) fun b => ?_)
      match b with
      | ⟨0, _⟩ => rfl
      | ⟨1, _⟩ => show (l.val + if l.val % 64 < 32 then 32 else 96) % 128 = (l.val + 128 - 96 % 128) % 128; rw [if_pos h]; omega
    · rw [if_neg h] at hm
      refine (if_neg (by rw [hm]; decide)).trans (dynamicRotate_apply 1 32#32 y rotates_S512x128_d1 (ix2 i l) (ix2 i (other l)) fun b => ?_)
      match b with
      | ⟨0, _⟩ => rfl
      | ⟨1, _⟩ => show (l.val + if l.val % 64 < 32 then 32 else 96) % 128 = (l.val + 128 - 32 % 128) % 128; rw [if_neg h]; omega
  exact congrArg (fun z : EReal => ((y (ix2 i l) : EReal) * cos (ix2 i l) + z * sin (ix2 i l)) * s) hr

/-- The normalised rows, at an index. -/
theorem rows_apply (x0 : Vec Ideal S512x2048 .f32) (x1 : Vec Ideal S1x2048 .f32) (i : Fin 512) (k : Fin 2048) :
    (k0_pay3 x0 x1 (ix2 i k) : EReal) = Norm.rms (fun j => x0 (ix2 i j)) (fun j => x1 (ix2 0 j)) k := by
  unfold k0_pay3 Norm.rms
  rw [shapeCast_self]
  pointwise

/-- The product with 512 columns of the weights, at an index. -/
theorem dot_apply (x : FVec Ideal S512x2048 .bf16) (w : Vec Ideal S2048x512 .bf16) (i : Fin 512) (l : Fin 512) :
    (k0_pay7 x w (ix2 i l) : EReal) = ∑ k : Fin 2048, (x (ix2 i k) : EReal) * w (ix2 k l) := by
  unfold k0_pay7
  rw [shapeCast_self]
  pointwise

end Cert.QkvKernelIdeal.Qkv

end
-- ==== Proof.QkvBlock.lean ====
/-
  A grid point's blocks of queries, keys and values, at an index.
-/
module

public import proofs.«01_k».proof.Proof.QkvHead

@[expose] public section

set_option maxRecDepth 16384

noncomputable section

namespace Cert.QkvKernelIdeal.Qkv

open Cert.QkvKernelIdeal Cert.QkvKernelIdeal.Gen Idealize.ShloMosaic

variable (x0 : Vec Ideal S512x2048 .f32) (x1 : Vec Ideal S1x2048 .f32) (x2 : Vec Ideal S2048x3072 .bf16) (x3 x4 : Vec Ideal S1x128 .f32) (x5 x6 : Vec Ideal S512x128 .f32)

/-- Row `i` normalised, times column `n` of the weights. -/
def colAt (i : Fin 512) (n : Nat) : EReal :=
  ∑ k : Fin 2048, Norm.rms (fun j => x0 (ix2 i j)) (fun j => x1 (ix2 0 j)) k * (x2 (ix2 k (⟨n % 3072, Nat.mod_lt _ (by norm_num)⟩ : Fin 3072)) : EReal)

/-- Lane `l` of row `i` of the head whose columns start at `n`: normalised, turned and scaled. -/
def headAt (g : Vec Ideal S1x128 .f32) (s : EReal) (n : Nat) (i : Fin 512) (l : Fin 128) : EReal :=
  (Norm.head (fun j => colAt x0 x1 x2 i (n + j.val)) (fun j => g (ix2 0 j)) l * x5 (ix2 i l)
    + Norm.head (fun j => colAt x0 x1 x2 i (n + j.val)) (fun j => g (ix2 0 j)) (other l) * x6 (ix2 i l)) * s

theorem headAt_congr (g : Vec Ideal S1x128 .f32) (s : EReal) {n n' : Nat} {i i' : Fin 512} {l l' : Fin 128} (hn : n = n') (hi : i = i') (hl : l = l') :
    headAt x0 x1 x2 x5 x6 g s n i l = headAt x0 x1 x2 x5 x6 g s n' i' l' := by
  subst hn hi hl
  rfl

/-- The queries' scale. -/
def qScale : EReal := (Named.named (F := Ideal) κ "q_scale" 0x3E0293EE#32 : Ideal .f32)

/-- A block of queries. -/
def blockQ : Vec Ideal S512x2048 .bf16 := fun y =>
  headAt x0 x1 x2 x5 x6 x3 qScale (128 * ((y 1).val / 128)) (y 0) (⟨(y 1).val % 128, Nat.mod_lt _ (by norm_num)⟩ : Fin 128)

/-- A block of keys. -/
def blockK : Vec Ideal S512x512 .bf16 := fun y =>
  headAt x0 x1 x2 x5 x6 x4 1 (2048 + 128 * ((y 1).val / 128)) (y 0) (⟨(y 1).val % 128, Nat.mod_lt _ (by norm_num)⟩ : Fin 128)

/-- A block of values, each head followed by a column of ones and zeros. -/
def blockV : Vec Ideal S512x1024 .bf16 := fun y =>
  (if (y 1).val % 256 < 128 then colAt x0 x1 x2 (y 0) (2560 + 128 * ((y 1).val / 256) + (y 1).val % 256) else if (y 1).val % 256 = 128 then 1 else 0 : EReal)

/-- A column of the product, from the 512 columns of weights it was taken with. -/
theorem col_apply (n o : Nat) (h : n + o + 128 ≤ 3072) (ho : o + 128 ≤ 512) (inb) (hs : S512x512.Slices ![0, o] S512x128) (i : Fin 512) (l : Fin 128) :
    (extractStridedSlice S512x128 ![0, o] (k0_pay7 (k0_pay3 (View.ld x0 r0_0) (View.ld x1 r0_1))
      (View.ld x2 (Rect.unit (s := S2048x3072) ![0, n] S2048x512.size inb))) hs (ix2 i l) : EReal) = colAt x0 x1 x2 i (n + o + l.val) := by
  have hl := l.isLt
  have ho' : o + l.val < 512 := by omega
  refine (extractStridedSlice_apply ![0, o] _ hs (ix2 i l) (ix2 i (⟨o + l.val, ho'⟩ : Fin 512)) fun a => ?_).trans ((dot_apply _ _ _ _).trans ?_)
  · match a with
    | ⟨0, _⟩ => exact (Nat.zero_add _).symm
    | ⟨1, _⟩ => rfl
  · unfold colAt
    refine Finset.sum_congr rfl fun k _ => congrArg₂ (fun a b : EReal => a * b) ?_ ?_
    · rw [rows_apply, View.ld_unit_zero hz, View.ld_unit_zero hz]
    · refine View.ld_unit_apply_of x2 _ _ inb _ _ fun a => ?_
      match a with
      | ⟨0, _⟩ => exact (Nat.zero_add _).symm
      | ⟨1, _⟩ => show (n + o + l.val) % 3072 = n + (o + l.val); omega

/-- A head's result, at an index. -/
theorem head_apply (g : Vec Ideal S1x128 .f32) (s : Ideal .f32) (n o : Nat) (h : n + o + 128 ≤ 3072) (ho : o + 128 ≤ 512) (inb) (hs : S512x512.Slices ![0, o] S512x128)
    (i : Fin 512) (l : Fin 128) :
    (turned (normed (extractStridedSlice S512x128 ![0, o] (k0_pay7 (k0_pay3 (View.ld x0 r0_0) (View.ld x1 r0_1))
      (View.ld x2 (Rect.unit (s := S2048x3072) ![0, n] S2048x512.size inb))) hs) (View.ld g r0_4)) (k0_pay4 (View.ld x5 r0_2)) (k0_pay5 (View.ld x6 r0_2)) s (ix2 i l) : EReal)
      = headAt x0 x1 x2 x5 x6 g s (n + o) i l := by
  rw [turned_apply, normed_apply, normed_apply]
  unfold headAt k0_pay4 k0_pay5
  have hc : (fun j : Fin 128 => (extractStridedSlice S512x128 ![0, o] (k0_pay7 (k0_pay3 (View.ld x0 r0_0) (View.ld x1 r0_1))
      (View.ld x2 (Rect.unit (s := S2048x3072) ![0, n] S2048x512.size inb))) hs (ix2 i j) : EReal)) = fun j => colAt x0 x1 x2 i (n + o + j.val) :=
    funext fun j => col_apply x0 x1 x2 n o h ho inb hs i j
  have hg : View.ld g r0_4 = g := View.ld_unit_zero (S := S1x128) hz _ g
  have h5 : View.ld x5 r0_2 = x5 := View.ld_unit_zero (S := S512x128) hz _ x5
  have h6 : View.ld x6 r0_2 = x6 := View.ld_unit_zero (S := S512x128) hz _ x6
  rw [shapeCast_self, shapeCast_self, hg, h5, h6]
  exact congrArg (fun f : Fin 128 → EReal => (Norm.head f (fun j => g (ix2 0 j)) l * x5 (ix2 i l) + Norm.head f (fun j => g (ix2 0 j)) (other l) * x6 (ix2 i l)) * s) hc

/-- A head of queries is its part of the block. -/
theorem q_piece (n o p : Nat) (h : n + o + 128 ≤ 2048) (ho : o + 128 ≤ 512) (hp : p = n + o) (hd : p % 128 = 0) (inb) (hs : S512x512.Slices ![0, o] S512x128) (inr)
    (x : S512x128.Idx) :
    turned (normed (extractStridedSlice S512x128 ![0, o] (k0_pay7 (k0_pay3 (View.ld x0 r0_0) (View.ld x1 r0_1))
      (View.ld x2 (Rect.unit (s := S2048x3072) ![0, n] S2048x512.size inb))) hs) (View.ld x3 r0_4)) (k0_pay4 (View.ld x5 r0_2)) (k0_pay5 (View.ld x6 r0_2))
      (Named.named κ "q_scale" 0x3E0293EE#32) x
      = blockQ x0 x1 x2 x3 x5 x6 ((Rect.unit (s := S512x2048) ![0, p] S512x128.size inr).emb x) := by
  obtain ⟨i, l, rfl⟩ : ∃ (i : Fin 512) (l : Fin 128), x = ix2 i l := ⟨x 0, x 1, by funext a; match a with | ⟨0, _⟩ => rfl | ⟨1, _⟩ => rfl⟩
  have hl := l.isLt
  refine (head_apply x0 x1 x2 x5 x6 x3 _ n o (by omega) ho inb hs i l).trans ?_
  have e0 : (Rect.unit (s := S512x2048) ![0, p] S512x128.size inr).emb (ix2 i l) 0 = i := Fin.ext (by rw [Rect.emb_apply]; simp)
  have e1 : ((Rect.unit (s := S512x2048) ![0, p] S512x128.size inr).emb (ix2 i l) 1).val = p + l.val := by rw [Rect.emb_apply]; simp
  exact headAt_congr x0 x1 x2 x5 x6 x3 _ (by rw [e1]; omega) e0.symm (Fin.ext (by show l.val = ((Rect.unit (s := S512x2048) ![0, p] S512x128.size inr).emb (ix2 i l) 1).val % 128; rw [e1]; omega))

/-- A head of keys is its part of the block. -/
theorem k_piece (o : Nat) (ho : o + 128 ≤ 512) (hd : o % 128 = 0) (inb) (hs : S512x512.Slices ![0, o] S512x128) (inr)
    (x : S512x128.Idx) :
    turned (normed (extractStridedSlice S512x128 ![0, o] (k0_pay7 (k0_pay3 (View.ld x0 r0_0) (View.ld x1 r0_1))
      (View.ld x2 (Rect.unit (s := S2048x3072) ![0, 2048] S2048x512.size inb))) hs) (View.ld x4 r0_4)) (k0_pay4 (View.ld x5 r0_2)) (k0_pay5 (View.ld x6 r0_2))
      (Scalar.ofBits .f32 0x3F800000#32) x
      = blockK x0 x1 x2 x4 x5 x6 ((Rect.unit (s := S512x512) ![0, o] S512x128.size inr).emb x) := by
  obtain ⟨i, l, rfl⟩ : ∃ (i : Fin 512) (l : Fin 128), x = ix2 i l := ⟨x 0, x 1, by funext a; match a with | ⟨0, _⟩ => rfl | ⟨1, _⟩ => rfl⟩
  have hl := l.isLt
  refine (head_apply x0 x1 x2 x5 x6 x4 _ 2048 o (by omega) ho inb hs i l).trans ?_
  have e0 : (Rect.unit (s := S512x512) ![0, o] S512x128.size inr).emb (ix2 i l) 0 = i := Fin.ext (by rw [Rect.emb_apply]; simp)
  have e1 : ((Rect.unit (s := S512x512) ![0, o] S512x128.size inr).emb (ix2 i l) 1).val = o + l.val := by rw [Rect.emb_apply]; simp
  have h1 : (Scalar.ofBits (F := Ideal) .f32 0x3F800000#32 : EReal) = 1 := by
    show Ideal.ofBits .f32 0x3F800000#32 = 1
    simp [Ideal.ofBits, Ideal.ieee]; rw [← EReal.coe_mul]; norm_num
  refine (congrArg (fun s : EReal => headAt x0 x1 x2 x5 x6 x4 s (2048 + o) i l) h1).trans ?_
  exact headAt_congr x0 x1 x2 x5 x6 x4 _ (by rw [e1]; omega) e0.symm (Fin.ext (by show l.val = ((Rect.unit (s := S512x512) ![0, o] S512x128.size inr).emb (ix2 i l) 1).val % 128; rw [e1]; omega))

/-- A head of values is its part of the block. -/
theorem v_piece (o p : Nat) (ho : o + 128 ≤ 512) (hd : o % 128 = 0) (hp : p = 2 * o) (inb) (hs : S512x512.Slices ![0, o] S512x128) (inr) (x : S512x128.Idx) :
    (truncf .bf16 (extractStridedSlice S512x128 ![0, o] (k0_pay7 (k0_pay3 (View.ld x0 r0_0) (View.ld x1 r0_1))
      (View.ld x2 (Rect.unit (s := S2048x3072) ![0, 2560] S2048x512.size inb))) hs) bitsLt_bf16_f32 : FVec Ideal S512x128 .bf16) x
      = blockV x0 x1 x2 ((Rect.unit (s := S512x1024) ![0, p] S512x128.size inr).emb x) := by
  obtain ⟨i, l, rfl⟩ : ∃ (i : Fin 512) (l : Fin 128), x = ix2 i l := ⟨x 0, x 1, by funext a; match a with | ⟨0, _⟩ => rfl | ⟨1, _⟩ => rfl⟩
  have hl := l.isLt
  refine (col_apply x0 x1 x2 2560 o (by omega) ho inb hs i l).trans ?_
  have e0 : (Rect.unit (s := S512x1024) ![0, p] S512x128.size inr).emb (ix2 i l) 0 = i := Fin.ext (by rw [Rect.emb_apply]; simp)
  have e1 : ((Rect.unit (s := S512x1024) ![0, p] S512x128.size inr).emb (ix2 i l) 1).val = p + l.val := by rw [Rect.emb_apply]; simp
  unfold blockV
  rw [e0, e1, if_pos (show (p + l.val) % 256 < 128 by omega), show 2560 + o + l.val = 2560 + 128 * ((p + l.val) / 256) + (p + l.val) % 256 by omega]

/-- The ones and zeros, at an index. -/
theorem ones_apply (i : Fin 512) (l : Fin 128) : ((k0_pay59 (F := Ideal)) (ix2 i l) : EReal) = if l.val = 0 then 1 else 0 := by
  have hw : ∀ l : Fin 128, (extui 32 (cmpi .eq (iota .tc S512x128 32 [1] iota_S512x128_d1_w32) (broadcast S512x128 0#32)) natLt_1_32 (ix2 (0 : Fin 512) l)) = if l.val = 0 then 1#32 else 0#32 := by
    decide +kernel
  have h : ((k0_pay59 (F := Ideal)) (ix2 i l) : EReal) = (((if l.val = 0 then 1#32 else 0#32 : BitVec 32).toInt : ℝ) : EReal) :=
    congrArg (fun b : BitVec 32 => ((b.toInt : ℝ) : EReal)) (Eq.trans rfl (hw l))
  rw [h]
  by_cases h0 : l.val = 0
  · rw [if_pos h0, if_pos h0]; norm_num
  · rw [if_neg h0, if_neg h0]; norm_num

/-- The ones and zeros beside a head of values are their part of the block. -/
theorem o_piece (p : Nat) (hp : p % 256 = 128) (inr) (x : S512x128.Idx) :
    k0_pay59 (F := Ideal) x = blockV x0 x1 x2 ((Rect.unit (s := S512x1024) ![0, p] S512x128.size inr).emb x) := by
  obtain ⟨i, l, rfl⟩ : ∃ (i : Fin 512) (l : Fin 128), x = ix2 i l := ⟨x 0, x 1, by funext a; match a with | ⟨0, _⟩ => rfl | ⟨1, _⟩ => rfl⟩
  have hl := l.isLt
  refine (ones_apply i l).trans ?_
  have e1 : ((Rect.unit (s := S512x1024) ![0, p] S512x128.size inr).emb (ix2 i l) 1).val = p + l.val := by rw [Rect.emb_apply]; simp
  unfold blockV
  rw [e1, if_neg (show ¬(p + l.val) % 256 < 128 by omega)]
  by_cases h : l.val = 0
  · exact (if_pos h).trans (if_pos (show (p + l.val) % 256 = 128 by omega)).symm
  · exact (if_neg h).trans (if_neg (show ¬(p + l.val) % 256 = 128 by omega)).symm

/-- The block of queries a grid point leaves. -/
theorem out7_eq : out0_7 x0 x1 x2 x3 x4 x5 x6 = blockQ x0 x1 x2 x3 x5 x6 := by
  funext y
  unfold out0_7
  refine View.canon_apply_of_pieces (blockQ x0 x1 x2 x3 x5 x6) _ ?_ y (cover0_7 _ _ _ _ _ _ _ _ _ _ _ _ _ _ _ _ y)
  exact List.forall_mem_cons.mpr ⟨fun x => q_piece x0 x1 x2 x3 x5 x6 1536 384 1920 (by norm_num) (by norm_num) rfl rfl inb_S2048x3072_S2048x512_0_1536 slices_S512x512_o0_384_S512x128 inb_S512x2048_S512x128_0_1920 x,
    List.forall_mem_cons.mpr ⟨fun x => q_piece x0 x1 x2 x3 x5 x6 1536 256 1792 (by norm_num) (by norm_num) rfl rfl inb_S2048x3072_S2048x512_0_1536 slices_S512x512_o0_256_S512x128 inb_S512x2048_S512x128_0_1792 x,
    List.forall_mem_cons.mpr ⟨fun x => q_piece x0 x1 x2 x3 x5 x6 1536 128 1664 (by norm_num) (by norm_num) rfl rfl inb_S2048x3072_S2048x512_0_1536 slices_S512x512_o0_128_S512x128 inb_S512x2048_S512x128_0_1664 x,
    List.forall_mem_cons.mpr ⟨fun x => q_piece x0 x1 x2 x3 x5 x6 1536 0 1536 (by norm_num) (by norm_num) rfl rfl inb_S2048x3072_S2048x512_0_1536 slices_S512x512_o0_0_S512x128 inb_S512x2048_S512x128_0_1536 x,
    List.forall_mem_cons.mpr ⟨fun x => q_piece x0 x1 x2 x3 x5 x6 1024 384 1408 (by norm_num) (by norm_num) rfl rfl inb_S2048x3072_S2048x512_0_1024 slices_S512x512_o0_384_S512x128 inb_S512x2048_S512x128_0_1408 x,
    List.forall_mem_cons.mpr ⟨fun x => q_piece x0 x1 x2 x3 x5 x6 1024 256 1280 (by norm_num) (by norm_num) rfl rfl inb_S2048x3072_S2048x512_0_1024 slices_S512x512_o0_256_S512x128 inb_S512x2048_S512x128_0_1280 x,
    List.forall_mem_cons.mpr ⟨fun x => q_piece x0 x1 x2 x3 x5 x6 1024 128 1152 (by norm_num) (by norm_num) rfl rfl inb_S2048x3072_S2048x512_0_1024 slices_S512x512_o0_128_S512x128 inb_S512x2048_S512x128_0_1152 x,
    List.forall_mem_cons.mpr ⟨fun x => q_piece x0 x1 x2 x3 x5 x6 1024 0 1024 (by norm_num) (by norm_num) rfl rfl inb_S2048x3072_S2048x512_0_1024 slices_S512x512_o0_0_S512x128 inb_S512x2048_S512x128_0_1024 x,
    List.forall_mem_cons.mpr ⟨fun x => q_piece x0 x1 x2 x3 x5 x6 512 384 896 (by norm_num) (by norm_num) rfl rfl inb_S2048x3072_S2048x512_0_512 slices_S512x512_o0_384_S512x128 inb_S512x2048_S512x128_0_896 x,
    List.forall_mem_cons.mpr ⟨fun x => q_piece x0 x1 x2 x3 x5 x6 512 256 768 (by norm_num) (by norm_num) rfl rfl inb_S2048x3072_S2048x512_0_512 slices_S512x512_o0_256_S512x128 inb_S512x2048_S512x128_0_768 x,
    List.forall_mem_cons.mpr ⟨fun x => q_piece x0 x1 x2 x3 x5 x6 512 128 640 (by norm_num) (by norm_num) rfl rfl inb_S2048x3072_S2048x512_0_512 slices_S512x512_o0_128_S512x128 inb_S512x2048_S512x128_0_640 x,
    List.forall_mem_cons.mpr ⟨fun x => q_piece x0 x1 x2 x3 x5 x6 512 0 512 (by norm_num) (by norm_num) rfl rfl inb_S2048x3072_S2048x512_0_512 slices_S512x512_o0_0_S512x128 inb_S512x2048_S512x128_0_512 x,
    List.forall_mem_cons.mpr ⟨fun x => q_piece x0 x1 x2 x3 x5 x6 0 384 384 (by norm_num) (by norm_num) rfl rfl inb_S2048x3072_S2048x512_0_0 slices_S512x512_o0_384_S512x128 inb_S512x2048_S512x128_0_384 x,
    List.forall_mem_cons.mpr ⟨fun x => q_piece x0 x1 x2 x3 x5 x6 0 256 256 (by norm_num) (by norm_num) rfl rfl inb_S2048x3072_S2048x512_0_0 slices_S512x512_o0_256_S512x128 inb_S512x2048_S512x128_0_256 x,
    List.forall_mem_cons.mpr ⟨fun x => q_piece x0 x1 x2 x3 x5 x6 0 128 128 (by norm_num) (by norm_num) rfl rfl inb_S2048x3072_S2048x512_0_0 slices_S512x512_o0_128_S512x128 inb_S512x2048_S512x128_0_128 x,
    List.forall_mem_cons.mpr ⟨fun x => q_piece x0 x1 x2 x3 x5 x6 0 0 0 (by norm_num) (by norm_num) rfl rfl inb_S2048x3072_S2048x512_0_0 slices_S512x512_o0_0_S512x128 inb_S512x2048_S512x128_0_0 x,
    fun _ hn => absurd hn List.not_mem_nil⟩⟩⟩⟩⟩⟩⟩⟩⟩⟩⟩⟩⟩⟩⟩⟩

/-- The block of keys a grid point leaves. -/
theorem out8_eq : out0_8 x0 x1 x2 x3 x4 x5 x6 = blockK x0 x1 x2 x4 x5 x6 := by
  funext y
  unfold out0_8
  refine View.canon_apply_of_pieces (blockK x0 x1 x2 x4 x5 x6) _ ?_ y (cover0_8 _ _ _ _ y)
  exact List.forall_mem_cons.mpr ⟨fun x => k_piece x0 x1 x2 x4 x5 x6 384 (by norm_num) rfl inb_S2048x3072_S2048x512_0_2048 slices_S512x512_o0_384_S512x128 inb_S512x512_S512x128_0_384 x,
    List.forall_mem_cons.mpr ⟨fun x => k_piece x0 x1 x2 x4 x5 x6 256 (by norm_num) rfl inb_S2048x3072_S2048x512_0_2048 slices_S512x512_o0_256_S512x128 inb_S512x512_S512x128_0_256 x,
    List.forall_mem_cons.mpr ⟨fun x => k_piece x0 x1 x2 x4 x5 x6 128 (by norm_num) rfl inb_S2048x3072_S2048x512_0_2048 slices_S512x512_o0_128_S512x128 inb_S512x512_S512x128_0_128 x,
    List.forall_mem_cons.mpr ⟨fun x => k_piece x0 x1 x2 x4 x5 x6 0 (by norm_num) rfl inb_S2048x3072_S2048x512_0_2048 slices_S512x512_o0_0_S512x128 inb_S512x512_S512x128_0_0 x,
    fun _ hn => absurd hn List.not_mem_nil⟩⟩⟩⟩

/-- The block of values a grid point leaves. -/
theorem out9_eq : out0_9 x0 x1 x2 x3 x4 x5 x6 = blockV x0 x1 x2 := by
  funext y
  unfold out0_9
  refine View.canon_apply_of_pieces (blockV x0 x1 x2) _ ?_ y (cover0_9 _ _ _ _ _ _ _ _ y)
  exact List.forall_mem_cons.mpr ⟨fun x => o_piece x0 x1 x2 896 rfl inb_S512x1024_S512x128_0_896 x,
    List.forall_mem_cons.mpr ⟨fun x => v_piece x0 x1 x2 384 768 (by norm_num) rfl rfl inb_S2048x3072_S2048x512_0_2560 slices_S512x512_o0_384_S512x128 inb_S512x1024_S512x128_0_768 x,
    List.forall_mem_cons.mpr ⟨fun x => o_piece x0 x1 x2 640 rfl inb_S512x1024_S512x128_0_640 x,
    List.forall_mem_cons.mpr ⟨fun x => v_piece x0 x1 x2 256 512 (by norm_num) rfl rfl inb_S2048x3072_S2048x512_0_2560 slices_S512x512_o0_256_S512x128 inb_S512x1024_S512x128_0_512 x,
    List.forall_mem_cons.mpr ⟨fun x => o_piece x0 x1 x2 384 rfl inb_S512x1024_S512x128_0_384 x,
    List.forall_mem_cons.mpr ⟨fun x => v_piece x0 x1 x2 128 256 (by norm_num) rfl rfl inb_S2048x3072_S2048x512_0_2560 slices_S512x512_o0_128_S512x128 inb_S512x1024_S512x128_0_256 x,
    List.forall_mem_cons.mpr ⟨fun x => o_piece x0 x1 x2 128 rfl inb_S512x1024_S512x128_0_128 x,
    List.forall_mem_cons.mpr ⟨fun x => v_piece x0 x1 x2 0 0 (by norm_num) rfl rfl inb_S2048x3072_S2048x512_0_2560 slices_S512x512_o0_0_S512x128 inb_S512x1024_S512x128_0_0 x,
    fun _ hn => absurd hn List.not_mem_nil⟩⟩⟩⟩⟩⟩⟩⟩

end Cert.QkvKernelIdeal.Qkv

end
-- ==== Proof.QkvSpec.lean ====
/-
  The queries, keys and values of a layer: normalised rows times the weights, the heads of queries and keys normalised and turned
  by their position's angles, the queries divided by the root of the head's width and the logarithm of two, and the values followed
  by a column of ones.
-/
module

public import proofs.«01_k».proof.Proof.Norm

@[expose] public section

noncomputable section

namespace Cert.Qkv

open Idealize.ShloMosaic

/-- Column `n` of row `r`'s product with the weights, the row normalised first. -/
def product (x : FVec Ideal ⟨2, ![32768, 2048]⟩ .f32) (g : FVec Ideal ⟨2, ![1, 2048]⟩ .f32) (w : FVec Ideal ⟨3, ![1, 2048, 3072]⟩ .f32)
    (r : Fin 32768) (n : Nat) : EReal :=
  ∑ k : Fin 2048, Norm.rms (fun j => x (ix2 r j)) (fun j => g (ix2 0 j)) k * (w (ix3 0 k (⟨n % 3072, Nat.mod_lt _ (by norm_num)⟩ : Fin 3072)) : EReal)

/-- The whole number `n`, as the conversion from 32-bit integers gives it. -/
def count (n : Nat) : EReal := ((BitVec.ofNat 32 n).toInt : ℝ)

/-- The angle lane `l` of a head is turned by at position `s`: the first 64 lanes go by the position's row of 64, the others by its
    column, at the frequency `10000 ^ (-2 (l mod 32) / 64)`. -/
def angle (s l : Nat) : EReal :=
  count (if l < 64 then s / 64 else s % 64)
    * Ideal.pow (Ideal.ofBits .f32 0x461C4000#32) (Ideal.div (-(Ideal.ofBits .f32 0x40000000#32 * count (l % 32))) (Ideal.ofBits .f32 0x42800000#32))

/-- The lane that turns with lane `l`: 32 further in the first half of 64 lanes, 32 back in the second. -/
def partner (l : Fin 128) : Fin 128 := ⟨(l.val + if l.val % 64 < 32 then 32 else 96) % 128, Nat.mod_lt _ (by norm_num)⟩

/-- A head turned by position `s`'s angles. -/
def turn (h : Fin 128 → EReal) (s : Nat) (l : Fin 128) : EReal :=
  h l * Ideal.cos (angle s l.val) + (if l.val % 64 < 32 then -h (partner l) else h (partner l)) * Ideal.sin (angle s l.val)

/-- Lane `l` of the head whose columns start at `n`, in row `r`: normalised and turned. -/
def head (x : FVec Ideal ⟨2, ![32768, 2048]⟩ .f32) (g : FVec Ideal ⟨2, ![1, 2048]⟩ .f32) (w : FVec Ideal ⟨3, ![1, 2048, 3072]⟩ .f32)
    (gh : FVec Ideal ⟨2, ![1, 128]⟩ .f32) (r : Fin 32768) (n : Nat) (l : Fin 128) : EReal :=
  turn (Norm.head (fun j => product x g w r (n + j.val)) (fun j => gh (ix2 0 j))) (r.val % 8192) l

/-- The queries. -/
def queries (x : FVec Ideal ⟨2, ![32768, 2048]⟩ .f32) (g : FVec Ideal ⟨2, ![1, 2048]⟩ .f32) (w : FVec Ideal ⟨3, ![1, 2048, 3072]⟩ .f32)
    (gq : FVec Ideal ⟨2, ![1, 128]⟩ .f32) : FVec Ideal ⟨2, ![32768, 2048]⟩ .bf16 := fun y =>
  (Ideal.div (head x g w gq (y 0) (128 * ((y 1).val / 128)) ⟨(y 1).val % 128, Nat.mod_lt _ (by norm_num)⟩)
    ((Real.sqrt 128 * Real.log 2 : ℝ) : EReal) : EReal)

/-- The keys. -/
def keys (x : FVec Ideal ⟨2, ![32768, 2048]⟩ .f32) (g : FVec Ideal ⟨2, ![1, 2048]⟩ .f32) (w : FVec Ideal ⟨3, ![1, 2048, 3072]⟩ .f32)
    (gk : FVec Ideal ⟨2, ![1, 128]⟩ .f32) : FVec Ideal ⟨2, ![32768, 512]⟩ .bf16 := fun y =>
  (head x g w gk (y 0) (2048 + 128 * ((y 1).val / 128)) ⟨(y 1).val % 128, Nat.mod_lt _ (by norm_num)⟩ : EReal)

/-- The values, each head followed by a column of ones and by zeros. -/
def values (x : FVec Ideal ⟨2, ![32768, 2048]⟩ .f32) (g : FVec Ideal ⟨2, ![1, 2048]⟩ .f32) (w : FVec Ideal ⟨3, ![1, 2048, 3072]⟩ .f32) :
    FVec Ideal ⟨2, ![32768, 1024]⟩ .bf16 := fun y =>
  (if (y 1).val % 256 < 128 then product x g w (y 0) (2560 + 128 * ((y 1).val / 256) + (y 1).val % 256)
    else if (y 1).val % 256 = 128 then 1 else 0 : EReal)

/-- Turning by a signed sine is turning with the partner lane's sign. -/
theorem turn_signed (h : Fin 128 → EReal) (s : Nat) (l : Fin 128) :
    h l * Ideal.cos (angle s l.val) + h (partner l) * (Ideal.sin (angle s l.val) * (if l.val % 64 < 32 then -1 else 1)) = turn h s l := by
  unfold turn
  split
  · rw [mul_neg, mul_one, mul_neg, neg_mul]
  · rw [mul_one]

/-- Multiplying by the inverse is dividing. -/
theorem mul_scale (y : EReal) : y * (((Real.sqrt 128)⁻¹ * (Real.log 2)⁻¹ : ℝ) : EReal) = Ideal.div y ((Real.sqrt 128 * Real.log 2 : ℝ) : EReal) := by
  have h1 : Real.sqrt 128 ≠ 0 := by positivity
  have h2 : Real.log 2 ≠ 0 := (Real.log_pos (by norm_num)).ne'
  rw [Ideal.div_coe (mul_ne_zero h1 h2)]
  congr 2
  field_simp

end Cert.Qkv

end
-- ==== Proof.QkvRun.lean ====
/-
  The query, key and value projection's kernel over its grid: the arrays the call gets, what each grid point writes back, and the
  three result arrays after the run.
-/
module

public import proofs.«01_k».proof.Proof.QkvBlock
public import proofs.«01_k».proof.Proof.QkvSpec
public import Idealize.ShloMosaic.Lib.StableHlo.ReadAt

@[expose] public section

set_option maxRecDepth 16384

noncomputable section

namespace Cert.QkvKernelIdeal.Qkv

open Cert.QkvKernelIdeal Cert.QkvKernelIdeal.Gen Idealize.ShloMosaic Idealize.ShloMosaic.TcCoe Idealize.SL.Sem

variable (m : (ℓ : Loc nD τ sig) → Buf (Elt Ideal) ℓ)

abbrev argX (c : Dev nD) : Vec Ideal S32768x2048 .f32 := m ((c : Thread nD τ).loc main_arg0)
abbrev argG (c : Dev nD) : Vec Ideal S1x2048 .f32 := m ((c : Thread nD τ).loc main_arg1)
abbrev argW (c : Dev nD) : Vec Ideal S1x2048x3072 .f32 := m ((c : Thread nD τ).loc main_arg2)
abbrev argQ (c : Dev nD) : Vec Ideal S1x128 .f32 := m ((c : Thread nD τ).loc main_arg3)
abbrev argK (c : Dev nD) : Vec Ideal S1x128 .f32 := m ((c : Thread nD τ).loc main_arg4)

/-- The rows' gains as the call gets them. -/
theorem V_g (c : Dev nD) (l : Fin 2048) : (V m c main_v40 (ix2 0 l) : EReal) = (argG m c (ix2 0 l) : EReal) := by
  unfold V argG
  after_reads_at

/-- The weights as the call gets them. -/
theorem V_w (c : Dev nD) (k : Fin 2048) (l : Fin 3072) : (V m c main_v42 (ix2 k l) : EReal) = (argW m c (ix3 0 k l) : EReal) := by
  unfold V argW
  after_reads_at

/-- The queries' gains as the call gets them. -/
theorem V_gq (c : Dev nD) (l : Fin 128) : (V m c main_v44 (ix2 0 l) : EReal) = (argQ m c (ix2 0 l) : EReal) := by
  unfold V argQ
  after_reads_at

/-- The keys' gains as the call gets them. -/
theorem V_gk (c : Dev nD) (l : Fin 128) : (V m c main_v46 (ix2 0 l) : EReal) = (argK m c (ix2 0 l) : EReal) := by
  unfold V argK
  after_reads_at

/-- An angle of the first 64 lanes. -/
theorem angle_row (s l j : Nat) (hl : l < 64) (hj : j = l % 32) :
    (Qkv.angle s l : EReal) = (FloatOps.sitofp (F := Ideal) .f32 (BitVec.ofNat 32 (s / 64)) : EReal)
      * Ideal.pow (Ideal.ofBits .f32 0x461C4000#32) (Ideal.div (-(Ideal.ofBits .f32 0x40000000#32 * (FloatOps.sitofp (F := Ideal) .f32 (BitVec.ofNat 32 j) : EReal)))
        (Ideal.ofBits .f32 0x42800000#32)) := by
  subst hj
  unfold Qkv.angle
  rw [if_pos hl]
  rfl

/-- An angle of the last 64 lanes. -/
theorem angle_col (s l j : Nat) (hl : ¬ l < 64) (hj : j = l % 32) :
    (Qkv.angle s l : EReal) = (FloatOps.sitofp (F := Ideal) .f32 (BitVec.ofNat 32 (s % 64)) : EReal)
      * Ideal.pow (Ideal.ofBits .f32 0x461C4000#32) (Ideal.div (-(Ideal.ofBits .f32 0x40000000#32 * (FloatOps.sitofp (F := Ideal) .f32 (BitVec.ofNat 32 j) : EReal)))
        (Ideal.ofBits .f32 0x42800000#32)) := by
  subst hj
  unfold Qkv.angle
  rw [if_neg hl]
  rfl

/-- The table of cosines. -/
theorem V_cos (c : Dev nD) (s : Fin 8192) (l : Fin 128) : (V m c main_v34 (ix2 s l) : EReal) = Ideal.cos (Qkv.angle s.val l.val) := by
  have hl := l.isLt
  unfold V
  after_reads_at
  refine congrArg Ideal.cos ?_
  split
  · after_reads_at
    exact (angle_row s.val l.val _ (by omega) (by omega)).symm
  split
  · after_reads_at
    exact (angle_row s.val l.val _ (by omega) (by omega)).symm
  split
  · after_reads_at
    exact (angle_col s.val l.val _ (by omega) (by omega)).symm
  · after_reads_at
    exact (angle_col s.val l.val _ (by omega) (by omega)).symm

/-- Which lanes take the sine's negative: the remainder of the lane by 64, signed as the divisor, is below 32. -/
def lowHalf : IVec S128 1 :=
  cmpi .slt (select (andi (cmpi .ne
      (cmpi .slt (Host.remsi (iotaInDim S128 32 0) (broadcastInDim S128 ![] bcast_S_S128
        (select (cmpi .eq (id (constantI S_ 32 64#32)) (constantI S_ 32 0#32)) (constantI S_ 32 1#32) (id (constantI S_ 32 64#32)))))
        (broadcastInDim S128 ![] bcast_S_S128 (constantI S_ 32 0#32)))
      (broadcastInDim S128 ![] bcast_S_S128 (cmpi .slt
        (select (cmpi .eq (id (constantI S_ 32 64#32)) (constantI S_ 32 0#32)) (constantI S_ 32 1#32) (id (constantI S_ 32 64#32))) (constantI S_ 32 0#32))))
    (cmpi .ne (Host.remsi (iotaInDim S128 32 0) (broadcastInDim S128 ![] bcast_S_S128
        (select (cmpi .eq (id (constantI S_ 32 64#32)) (constantI S_ 32 0#32)) (constantI S_ 32 1#32) (id (constantI S_ 32 64#32)))))
      (broadcastInDim S128 ![] bcast_S_S128 (constantI S_ 32 0#32))))
    (addi (Host.remsi (iotaInDim S128 32 0) (broadcastInDim S128 ![] bcast_S_S128
        (select (cmpi .eq (id (constantI S_ 32 64#32)) (constantI S_ 32 0#32)) (constantI S_ 32 1#32) (id (constantI S_ 32 64#32)))))
      (broadcastInDim S128 ![] bcast_S_S128
        (select (cmpi .eq (id (constantI S_ 32 64#32)) (constantI S_ 32 0#32)) (constantI S_ 32 1#32) (id (constantI S_ 32 64#32)))))
    (Host.remsi (iotaInDim S128 32 0) (broadcastInDim S128 ![] bcast_S_S128
      (select (cmpi .eq (id (constantI S_ 32 64#32)) (constantI S_ 32 0#32)) (constantI S_ 32 1#32) (id (constantI S_ 32 64#32))))))
    (broadcastInDim S128 ![] bcast_S_S128 (constantI S_ 32 32#32))

theorem lowHalf_apply : ∀ l : Fin 128, lowHalf (ix1 l) = if l.val % 64 < 32 then 1#1 else 0#1 := by decide +kernel

/-- The sign of a lane. -/
theorem sign_apply (l : Fin 128) :
    (id (select lowHalf (broadcastInDim S128 ![] bcast_S_S128 (constant (F := Ideal) S_ .f32 3212836864#32))
      (broadcastInDim S128 ![] bcast_S_S128 (constant (F := Ideal) S_ .f32 1065353216#32))) (ix1 l) : EReal) = (if l.val % 64 < 32 then -1 else 1 : EReal) := by
  have hm := lowHalf_apply l
  by_cases h : l.val % 64 < 32
  · rw [if_pos h] at hm ⊢
    refine (if_pos hm).trans ?_
    show Ideal.ofBits .f32 3212836864#32 = -1
    simp [Ideal.ofBits, Ideal.ieee]
    rw [← EReal.coe_mul]
    norm_num
  · rw [if_neg h] at hm ⊢
    refine (if_neg (by rw [hm]; decide)).trans ?_
    show Ideal.ofBits .f32 1065353216#32 = 1
    simp [Ideal.ofBits, Ideal.ieee]
    rw [← EReal.coe_mul]
    norm_num

/-- The table of signed sines. -/
theorem V_sin (c : Dev nD) (s : Fin 8192) (l : Fin 128) :
    (V m c main_v38 (ix2 s l) : EReal) = Ideal.sin (Qkv.angle s.val l.val) * (if l.val % 64 < 32 then -1 else 1) := by
  have hl := l.isLt
  unfold V
  after_reads_at
  refine congrArg₂ (fun a b : EReal => a * b) (congrArg Ideal.sin ?_) (sign_apply l)
  split
  · after_reads_at
    exact (angle_row s.val l.val _ (by omega) (by omega)).symm
  split
  · after_reads_at
    exact (angle_row s.val l.val _ (by omega) (by omega)).symm
  split
  · after_reads_at
    exact (angle_col s.val l.val _ (by omega) (by omega)).symm
  · after_reads_at
    exact (angle_col s.val l.val _ (by omega) (by omega)).symm

theorem index_x (t : Fin grid0.N) : win0_0.index t 0 = t.val ∧ win0_0.index t 1 = 0 := by revert t; decide +kernel
theorem index_g (t : Fin grid0.N) : win0_1.index t 0 = 0 ∧ win0_1.index t 1 = 0 := by revert t; decide +kernel
theorem index_w (t : Fin grid0.N) : win0_2.index t 0 = 0 ∧ win0_2.index t 1 = 0 := by revert t; decide +kernel
theorem index_gq (t : Fin grid0.N) : win0_3.index t 0 = 0 ∧ win0_3.index t 1 = 0 := by revert t; decide +kernel
theorem index_gk (t : Fin grid0.N) : win0_4.index t 0 = 0 ∧ win0_4.index t 1 = 0 := by revert t; decide +kernel
theorem index_cos (t : Fin grid0.N) : win0_5.index t 0 = t.val % 16 ∧ win0_5.index t 1 = 0 := by revert t; decide +kernel
theorem index_sin (t : Fin grid0.N) : win0_6.index t 0 = t.val % 16 ∧ win0_6.index t 1 = 0 := by revert t; decide +kernel
theorem index_q (t : Fin grid0.N) : win0_7.index t 0 = t.val ∧ win0_7.index t 1 = 0 := by revert t; decide +kernel
theorem index_k (t : Fin grid0.N) : win0_8.index t 0 = t.val ∧ win0_8.index t 1 = 0 := by revert t; decide +kernel
theorem index_v (t : Fin grid0.N) : win0_9.index t 0 = t.val ∧ win0_9.index t 1 = 0 := by revert t; decide +kernel

/-- An entry of the rows' block. -/
theorem iblk_x (c : Dev nD) (t : Fin cfg0.N) (i : Fin 512) (l : Fin 2048) (r : Fin 32768) (hr : r.val = t.val * 512 + i.val) :
    (iblk m c 0 t (ix2 i l) : EReal) = (argX m c (ix2 r l) : EReal) := by
  refine Eq.trans ?_ (congrFun (V_main_arg0 m c) (ix2 r l))
  show V m c main_arg0 (((cfg0.win 0).blk t).view.emb (ix2 i l)) = V m c main_arg0 (ix2 r l)
  obtain ⟨e0, e1⟩ := index_x t
  refine congrArg (V m c main_arg0) (funext fun a => Fin.ext ?_)
  match a with
  | ⟨0, _⟩ => show win0_0.index t (0 : Fin 2) * 512 + 1 * i.val = r.val; omega
  | ⟨1, _⟩ => show win0_0.index t (1 : Fin 2) * 2048 + 1 * l.val = l.val; omega

/-- An entry of the weights' block. -/
theorem iblk_w (c : Dev nD) (t : Fin cfg0.N) (k : Fin 2048) (l : Fin 3072) : (iblk m c 2 t (ix2 k l) : EReal) = (argW m c (ix3 0 k l) : EReal) := by
  refine Eq.trans ?_ (V_w m c k l)
  show V m c main_v42 (((cfg0.win 2).blk t).view.emb (ix2 k l)) = V m c main_v42 (ix2 k l)
  obtain ⟨e0, e1⟩ := index_w t
  refine congrArg (V m c main_v42) (funext fun a => Fin.ext ?_)
  match a with
  | ⟨0, _⟩ => show win0_2.index t (0 : Fin 2) * 2048 + 1 * k.val = k.val; omega
  | ⟨1, _⟩ => show win0_2.index t (1 : Fin 2) * 3072 + 1 * l.val = l.val; omega

/-- An entry of the rows' gains' block. -/
theorem iblk_g (c : Dev nD) (t : Fin cfg0.N) (l : Fin 2048) : (iblk m c 1 t (ix2 0 l) : EReal) = (argG m c (ix2 0 l) : EReal) := by
  refine Eq.trans ?_ (V_g m c l)
  show V m c main_v40 (((cfg0.win 1).blk t).view.emb (ix2 0 l)) = V m c main_v40 (ix2 0 l)
  obtain ⟨e0, e1⟩ := index_g t
  refine congrArg (V m c main_v40) (funext fun a => Fin.ext ?_)
  match a with
  | ⟨0, _⟩ => show win0_1.index t (0 : Fin 2) * 1 + 1 * 0 = 0; omega
  | ⟨1, _⟩ => show win0_1.index t (1 : Fin 2) * 2048 + 1 * l.val = l.val; omega

/-- An entry of the queries' gains' block. -/
theorem iblk_gq (c : Dev nD) (t : Fin cfg0.N) (l : Fin 128) : (iblk m c 3 t (ix2 0 l) : EReal) = (argQ m c (ix2 0 l) : EReal) := by
  refine Eq.trans ?_ (V_gq m c l)
  show V m c main_v44 (((cfg0.win 3).blk t).view.emb (ix2 0 l)) = V m c main_v44 (ix2 0 l)
  obtain ⟨e0, e1⟩ := index_gq t
  refine congrArg (V m c main_v44) (funext fun a => Fin.ext ?_)
  match a with
  | ⟨0, _⟩ => show win0_3.index t (0 : Fin 2) * 1 + 1 * 0 = 0; omega
  | ⟨1, _⟩ => show win0_3.index t (1 : Fin 2) * 128 + 1 * l.val = l.val; omega

/-- An entry of the keys' gains' block. -/
theorem iblk_gk (c : Dev nD) (t : Fin cfg0.N) (l : Fin 128) : (iblk m c 4 t (ix2 0 l) : EReal) = (argK m c (ix2 0 l) : EReal) := by
  refine Eq.trans ?_ (V_gk m c l)
  show V m c main_v46 (((cfg0.win 4).blk t).view.emb (ix2 0 l)) = V m c main_v46 (ix2 0 l)
  obtain ⟨e0, e1⟩ := index_gk t
  refine congrArg (V m c main_v46) (funext fun a => Fin.ext ?_)
  match a with
  | ⟨0, _⟩ => show win0_4.index t (0 : Fin 2) * 1 + 1 * 0 = 0; omega
  | ⟨1, _⟩ => show win0_4.index t (1 : Fin 2) * 128 + 1 * l.val = l.val; omega

/-- An entry of the table's block. -/
theorem iblk_cos (c : Dev nD) (t : Fin cfg0.N) (i : Fin 512) (l : Fin 128) (r : Fin 32768) (hr : r.val = t.val * 512 + i.val) :
    (iblk m c 5 t (ix2 i l) : EReal) = Ideal.cos (Qkv.angle (r.val % 8192) l.val) := by
  refine Eq.trans ?_ (V_cos m c ⟨r.val % 8192, Nat.mod_lt _ (by norm_num)⟩ l)
  show V m c main_v34 (((cfg0.win 5).blk t).view.emb (ix2 i l)) = V m c main_v34 (ix2 (⟨r.val % 8192, Nat.mod_lt _ (by norm_num)⟩ : Fin 8192) l)
  obtain ⟨e0, e1⟩ := index_cos t
  have hi := i.isLt
  have ht : t.val < 64 := lt_of_lt_of_eq t.isLt Gen.N_0
  refine congrArg (V m c main_v34) (funext fun a => Fin.ext ?_)
  match a with
  | ⟨0, _⟩ => show win0_5.index t (0 : Fin 2) * 512 + 1 * i.val = r.val % 8192; omega
  | ⟨1, _⟩ => show win0_5.index t (1 : Fin 2) * 128 + 1 * l.val = l.val; omega

/-- An entry of the table's block. -/
theorem iblk_sin (c : Dev nD) (t : Fin cfg0.N) (i : Fin 512) (l : Fin 128) (r : Fin 32768) (hr : r.val = t.val * 512 + i.val) :
    (iblk m c 6 t (ix2 i l) : EReal) = Ideal.sin (Qkv.angle (r.val % 8192) l.val) * (if l.val % 64 < 32 then -1 else 1) := by
  refine Eq.trans ?_ (V_sin m c ⟨r.val % 8192, Nat.mod_lt _ (by norm_num)⟩ l)
  show V m c main_v38 (((cfg0.win 6).blk t).view.emb (ix2 i l)) = V m c main_v38 (ix2 (⟨r.val % 8192, Nat.mod_lt _ (by norm_num)⟩ : Fin 8192) l)
  obtain ⟨e0, e1⟩ := index_sin t
  have hi := i.isLt
  have ht : t.val < 64 := lt_of_lt_of_eq t.isLt Gen.N_0
  refine congrArg (V m c main_v38) (funext fun a => Fin.ext ?_)
  match a with
  | ⟨0, _⟩ => show win0_6.index t (0 : Fin 2) * 512 + 1 * i.val = r.val % 8192; omega
  | ⟨1, _⟩ => show win0_6.index t (1 : Fin 2) * 128 + 1 * l.val = l.val; omega

/-- A block's column is the product's column. -/
theorem col_eq (c : Dev nD) (t : Fin cfg0.N) (i : Fin 512) (r : Fin 32768) (hr : r.val = t.val * 512 + i.val) (n : Nat) :
    colAt (iblk m c 0 t) (iblk m c 1 t) (iblk m c 2 t) i n = Qkv.product (argX m c) (argG m c) (argW m c) r n := by
  unfold colAt Qkv.product
  refine Finset.sum_congr rfl fun k _ => congrArg₂ (fun a b : EReal => a * b) ?_ (iblk_w m c t k _)
  exact congrArg₂ (fun a b => Norm.rms a b k) (funext fun j => iblk_x m c t i j r hr) (funext fun j => iblk_g m c t j)

/-- A block's head is the turned head, times the scale. -/
theorem head_eq (c : Dev nD) (t : Fin cfg0.N) (i : Fin 512) (r : Fin 32768) (hr : r.val = t.val * 512 + i.val) (gb ga : Vec Ideal S1x128 .f32)
    (hg : ∀ j : Fin 128, (gb (ix2 0 j) : EReal) = ga (ix2 0 j)) (s : EReal) (n : Nat) (l : Fin 128) :
    headAt (iblk m c 0 t) (iblk m c 1 t) (iblk m c 2 t) (iblk m c 5 t) (iblk m c 6 t) gb s n i l
      = Qkv.head (argX m c) (argG m c) (argW m c) ga r n l * s := by
  unfold headAt Qkv.head
  refine congrArg (fun a : EReal => a * s) ?_
  have hh : (Norm.head (fun j => colAt (iblk m c 0 t) (iblk m c 1 t) (iblk m c 2 t) i (n + j.val)) (fun j => gb (ix2 0 j)))
      = Norm.head (fun j => Qkv.product (argX m c) (argG m c) (argW m c) r (n + j.val)) (fun j => ga (ix2 0 j)) :=
    congrArg₂ Norm.head (funext fun j => col_eq m c t i r hr _) (funext hg)
  rw [hh]
  refine Eq.trans ?_ (Qkv.turn_signed _ (r.val % 8192) l)
  exact congrArg₂ (fun a b : EReal => _ * a + _ * b) (iblk_cos m c t i l r hr) (iblk_sin m c t i l r hr)

/-- The queries, keys and values of the arguments as launched. -/
abbrev result7 (c : Dev nD) : FVec Ideal S32768x2048 .bf16 := Qkv.queries (argX m c) (argG m c) (argW m c) (argQ m c)
abbrev result8 (c : Dev nD) : FVec Ideal S32768x512 .bf16 := Qkv.keys (argX m c) (argG m c) (argW m c) (argK m c)
abbrev result9 (c : Dev nD) : FVec Ideal S32768x1024 .bf16 := Qkv.values (argX m c) (argG m c) (argW m c)

/-- Where grid point `t`'s block of queries lies. -/
theorem emb_q (t : Fin cfg0.N) (i : Fin 512) (l : Fin 2048) (r : Fin 32768) (hr : r.val = t.val * 512 + i.val) :
    ((cfg0.win 7).blk t).view.emb (ix2 i l) = ix2 r l :=
  funext fun a => Fin.ext (by
    obtain ⟨e0, e1⟩ := index_q t
    match a with
    | ⟨0, _⟩ => show win0_7.index t (0 : Fin 2) * 512 + 1 * i.val = r.val; omega
    | ⟨1, _⟩ => show win0_7.index t (1 : Fin 2) * 2048 + 1 * l.val = l.val; omega)

/-- What grid point `t` writes back is its block of the queries. -/
theorem flushed_q (c : Dev nD) (t : Fin cfg0.N) :
    (dats m 0 c).flushed 7 t = ((cfg0.win 7).blk t).view.read (Elt Ideal) (result7 m c) := by
  rw [Value.flushed7, out7_eq]
  funext j
  have ht : t.val < 64 := lt_of_lt_of_eq t.isLt Gen.N_0
  obtain ⟨i, l, rfl⟩ : ∃ (i : Fin 512) (l : Fin 2048), j = ix2 i l := ⟨j 0, j 1, by funext a; match a with | ⟨0, _⟩ => rfl | ⟨1, _⟩ => rfl⟩
  have hi := i.isLt
  have hr : t.val * 512 + i.val < 32768 := by omega
  refine Eq.trans ?_ (congrArg (result7 m c) (emb_q t i l ⟨t.val * 512 + i.val, hr⟩ rfl)).symm
  show blockQ (iblk m c 0 t) (iblk m c 1 t) (iblk m c 2 t) (iblk m c 3 t) (iblk m c 5 t) (iblk m c 6 t) (ix2 i l) = _
  refine (head_eq m c t i ⟨t.val * 512 + i.val, hr⟩ rfl _ (argQ m c) (iblk_gq m c t) _ _ _).trans ?_
  exact Qkv.mul_scale _

/-- Every index of the queries lies in some grid point's block. -/
theorem covered_q (i : (⟨2, ![32768, 2048]⟩ : Shape).Idx) : ∃ t : Fin cfg0.N, (cfg0.win 7).flush t = true ∧ i ∈ ((cfg0.win 7).blk t).view.set := by
  have h0 : (i 0).val < 32768 := (i 0).isLt
  have hb : (i 0).val / 512 < cfg0.N := lt_of_lt_of_eq (by omega) Gen.N_0.symm
  refine ⟨⟨_, hb⟩, flush0_7 _, ?_⟩
  have h := ((cfg0.win 7).blk ⟨_, hb⟩).view.emb_mem_set (ix2 (⟨(i 0).val % 512, Nat.mod_lt _ (by norm_num)⟩ : Fin 512) (i 1 : Fin 2048))
  have h2 := emb_q ⟨_, hb⟩ (⟨(i 0).val % 512, Nat.mod_lt _ (by norm_num)⟩ : Fin 512) (i 1 : Fin 2048) (i 0 : Fin 32768)
    (by show (i 0).val = (i 0).val / 512 * 512 + (i 0).val % 512; omega)
  have he : i = ix2 (i 0 : Fin 32768) (i 1 : Fin 2048) := by funext a; match a with | ⟨0, _⟩ => rfl | ⟨1, _⟩ => rfl
  exact (congrArg (fun j => j ∈ ((cfg0.win 7).blk ⟨_, hb⟩).view.set) (he.trans h2.symm)).mpr h

/-- The array of queries after the run. -/
theorem final7 (c : Dev nD) : (dats m 0 c).arrAt 7 cfg0.N = result7 m c :=
  (dats m 0 c).arrAt_eq_of_cover 7 (result7 m c) (fun t _ => flushed_q m c t) covered_q

/-- Where grid point `t`'s block of keys lies. -/
theorem emb_k (t : Fin cfg0.N) (i : Fin 512) (l : Fin 512) (r : Fin 32768) (hr : r.val = t.val * 512 + i.val) :
    ((cfg0.win 8).blk t).view.emb (ix2 i l) = ix2 r l :=
  funext fun a => Fin.ext (by
    obtain ⟨e0, e1⟩ := index_k t
    match a with
    | ⟨0, _⟩ => show win0_8.index t (0 : Fin 2) * 512 + 1 * i.val = r.val; omega
    | ⟨1, _⟩ => show win0_8.index t (1 : Fin 2) * 512 + 1 * l.val = l.val; omega)

/-- What grid point `t` writes back is its block of the keys. -/
theorem flushed_k (c : Dev nD) (t : Fin cfg0.N) :
    (dats m 0 c).flushed 8 t = ((cfg0.win 8).blk t).view.read (Elt Ideal) (result8 m c) := by
  rw [Value.flushed8, out8_eq]
  funext j
  have ht : t.val < 64 := lt_of_lt_of_eq t.isLt Gen.N_0
  obtain ⟨i, l, rfl⟩ : ∃ (i : Fin 512) (l : Fin 512), j = ix2 i l := ⟨j 0, j 1, by funext a; match a with | ⟨0, _⟩ => rfl | ⟨1, _⟩ => rfl⟩
  have hi := i.isLt
  have hr : t.val * 512 + i.val < 32768 := by omega
  refine Eq.trans ?_ (congrArg (result8 m c) (emb_k t i l ⟨t.val * 512 + i.val, hr⟩ rfl)).symm
  show blockK (iblk m c 0 t) (iblk m c 1 t) (iblk m c 2 t) (iblk m c 4 t) (iblk m c 5 t) (iblk m c 6 t) (ix2 i l) = _
  refine (head_eq m c t i ⟨t.val * 512 + i.val, hr⟩ rfl _ (argK m c) (iblk_gk m c t) _ _ _).trans ?_
  exact mul_one _

/-- Every index of the keys lies in some grid point's block. -/
theorem covered_k (i : (⟨2, ![32768, 512]⟩ : Shape).Idx) : ∃ t : Fin cfg0.N, (cfg0.win 8).flush t = true ∧ i ∈ ((cfg0.win 8).blk t).view.set := by
  have h0 : (i 0).val < 32768 := (i 0).isLt
  have hb : (i 0).val / 512 < cfg0.N := lt_of_lt_of_eq (by omega) Gen.N_0.symm
  refine ⟨⟨_, hb⟩, flush0_8 _, ?_⟩
  have h := ((cfg0.win 8).blk ⟨_, hb⟩).view.emb_mem_set (ix2 (⟨(i 0).val % 512, Nat.mod_lt _ (by norm_num)⟩ : Fin 512) (i 1 : Fin 512))
  have h2 := emb_k ⟨_, hb⟩ (⟨(i 0).val % 512, Nat.mod_lt _ (by norm_num)⟩ : Fin 512) (i 1 : Fin 512) (i 0 : Fin 32768)
    (by show (i 0).val = (i 0).val / 512 * 512 + (i 0).val % 512; omega)
  have he : i = ix2 (i 0 : Fin 32768) (i 1 : Fin 512) := by funext a; match a with | ⟨0, _⟩ => rfl | ⟨1, _⟩ => rfl
  exact (congrArg (fun j => j ∈ ((cfg0.win 8).blk ⟨_, hb⟩).view.set) (he.trans h2.symm)).mpr h

/-- The array of keys after the run. -/
theorem final8 (c : Dev nD) : (dats m 0 c).arrAt 8 cfg0.N = result8 m c :=
  (dats m 0 c).arrAt_eq_of_cover 8 (result8 m c) (fun t _ => flushed_k m c t) covered_k

/-- Where grid point `t`'s block of values lies. -/
theorem emb_v (t : Fin cfg0.N) (i : Fin 512) (l : Fin 1024) (r : Fin 32768) (hr : r.val = t.val * 512 + i.val) :
    ((cfg0.win 9).blk t).view.emb (ix2 i l) = ix2 r l :=
  funext fun a => Fin.ext (by
    obtain ⟨e0, e1⟩ := index_v t
    match a with
    | ⟨0, _⟩ => show win0_9.index t (0 : Fin 2) * 512 + 1 * i.val = r.val; omega
    | ⟨1, _⟩ => show win0_9.index t (1 : Fin 2) * 1024 + 1 * l.val = l.val; omega)

/-- What grid point `t` writes back is its block of the values. -/
theorem flushed_v (c : Dev nD) (t : Fin cfg0.N) :
    (dats m 0 c).flushed 9 t = ((cfg0.win 9).blk t).view.read (Elt Ideal) (result9 m c) := by
  rw [Value.flushed9, out9_eq]
  funext j
  have ht : t.val < 64 := lt_of_lt_of_eq t.isLt Gen.N_0
  obtain ⟨i, l, rfl⟩ : ∃ (i : Fin 512) (l : Fin 1024), j = ix2 i l := ⟨j 0, j 1, by funext a; match a with | ⟨0, _⟩ => rfl | ⟨1, _⟩ => rfl⟩
  have hi := i.isLt
  have hr : t.val * 512 + i.val < 32768 := by omega
  refine Eq.trans ?_ (congrArg (result9 m c) (emb_v t i l ⟨t.val * 512 + i.val, hr⟩ rfl)).symm
  show blockV (iblk m c 0 t) (iblk m c 1 t) (iblk m c 2 t) (ix2 i l) = _
  refine ite_congr rfl (fun _ => ?_) fun _ => rfl
  exact col_eq m c t i ⟨t.val * 512 + i.val, hr⟩ rfl _

/-- Every index of the values lies in some grid point's block. -/
theorem covered_v (i : (⟨2, ![32768, 1024]⟩ : Shape).Idx) : ∃ t : Fin cfg0.N, (cfg0.win 9).flush t = true ∧ i ∈ ((cfg0.win 9).blk t).view.set := by
  have h0 : (i 0).val < 32768 := (i 0).isLt
  have hb : (i 0).val / 512 < cfg0.N := lt_of_lt_of_eq (by omega) Gen.N_0.symm
  refine ⟨⟨_, hb⟩, flush0_9 _, ?_⟩
  have h := ((cfg0.win 9).blk ⟨_, hb⟩).view.emb_mem_set (ix2 (⟨(i 0).val % 512, Nat.mod_lt _ (by norm_num)⟩ : Fin 512) (i 1 : Fin 1024))
  have h2 := emb_v ⟨_, hb⟩ (⟨(i 0).val % 512, Nat.mod_lt _ (by norm_num)⟩ : Fin 512) (i 1 : Fin 1024) (i 0 : Fin 32768)
    (by show (i 0).val = (i 0).val / 512 * 512 + (i 0).val % 512; omega)
  have he : i = ix2 (i 0 : Fin 32768) (i 1 : Fin 1024) := by funext a; match a with | ⟨0, _⟩ => rfl | ⟨1, _⟩ => rfl
  exact (congrArg (fun j => j ∈ ((cfg0.win 9).blk ⟨_, hb⟩).view.set) (he.trans h2.symm)).mpr h

/-- The array of values after the run. -/
theorem final9 (c : Dev nD) : (dats m 0 c).arrAt 9 cfg0.N = result9 m c :=
  (dats m 0 c).arrAt_eq_of_cover 9 (result9 m c) (fun t _ => flushed_v m c t) covered_v

end Cert.QkvKernelIdeal.Qkv

end
-- ==== Proof.QkvRef.lean ====
/-
  The reference of the query, key and value projection, at an index: the queries, keys and values of the specification.
-/
module

public import proofs.«01_k».proof.Proof.Gen.QkvReferenceIdeal.Read
public import proofs.«01_k».proof.Proof.QkvSpec
public import Idealize.ShloMosaic.Lib.Pointwise

@[expose] public section

set_option maxRecDepth 16384

noncomputable section

namespace Cert.QkvReferenceIdeal.Qkv

open Cert.QkvReferenceIdeal Cert.QkvReferenceIdeal.Gen Cert.QkvReferenceIdeal.Read Idealize.ShloMosaic

variable (x : FVec Ideal S32768x2048 .f32) (g : FVec Ideal S1x2048 .f32) (w : FVec Ideal S1x2048x3072 .f32) (gh : FVec Ideal S1x128 .f32)

/-- A normalised row, at an index. -/
theorem norm_eq (r : Fin 32768) (k : Fin 2048) :
    (val_main_v13 (F := Ideal) x g (ix2 r k) : EReal) = Norm.rms (fun j => x (ix2 r j)) (fun j => g (ix2 0 j)) k := by
  have hk := k.isLt
  rw [val_main_v13_apply, val_main_v10_apply, val_main_v9_apply, val_main_v8_apply, val_main_v7_apply, val_main_v5_apply, val_main_v3_apply,
    val_main_v2_apply, val_main_v4_apply, val_main_v6_apply, val_main_v12_apply, val_main_v11_apply, val_main_v0_apply]
  unfold Norm.rms
  refine congrArg₂ (fun a b : EReal => a * b) (congrArg₂ (fun a b : EReal => a * b) rfl (congrArg Ideal.rsqrt (congrArg₂ (fun a b : EReal => a + b)
    (congrArg₂ Ideal.div (Eq.trans (congrArg₂ (fun a b : EReal => a + b) Ideal.ofBits_zero_f32 (Finset.sum_congr rfl fun j _ => ?_)) (zero_add _)) rfl) rfl)))
    (congrArg g (funext fun a => Fin.ext ?_))
  · refine congrArg (fun z : EReal => z * z) (congrArg x (funext fun a => Fin.ext ?_))
    match a with
    | ⟨0, _⟩ => rfl
    | ⟨1, _⟩ => rfl
  · match a with
    | ⟨0, _⟩ => rfl
    | ⟨1, _⟩ => show k.val % 2048 = k.val; omega

/-- The product with the weights, at an index. -/
theorem product_eq (i : S32768x3072.Idx) (r : Fin 32768) (n : Nat) (hr : r.val = (i 0).val) (hn : n = (i 1).val) :
    (val_main_v15 (F := Ideal) x g w i : EReal) = Qkv.product x g w r n := by
  have h1 : (i 1).val < 3072 := (i 1).isLt
  subst hn
  rw [val_main_v15_apply]
  unfold Qkv.product
  refine Finset.sum_congr rfl fun k _ => ?_
  have hk := k.isLt
  rw [val_main_v14_apply]
  refine congrArg₂ (fun a b : EReal => a * b) (Eq.trans (congrArg (val_main_v13 (F := Ideal) x g) (funext fun a => Fin.ext ?_)) (norm_eq x g r k))
    (congrArg w (funext fun a => Fin.ext ?_))
  · match a with
    | ⟨0, _⟩ => exact hr.symm
    | ⟨1, _⟩ => rfl
  · match a with
    | ⟨0, _⟩ => rfl
    | ⟨1, _⟩ => show (k.val * 3072 + (i 1).val) / 3072 % 2048 = k.val; omega
    | ⟨2, _⟩ => show (k.val * 3072 + (i 1).val) % 3072 = (i 1).val % 3072; omega

/-- A frequency. -/
theorem freq_eq (j : Fin 32) : (val_main_v66 (F := Ideal) (ix1 j) : EReal)
    = Ideal.pow (Ideal.ofBits .f32 0x461C4000#32) (Ideal.div (-(Ideal.ofBits .f32 0x40000000#32 * Qkv.count j.val)) (Ideal.ofBits .f32 0x42800000#32)) := by
  rw [val_main_v66_apply, val_main_v65_apply, val_main_v64_apply, val_main_v63_apply, val_main_v62_apply, val_main_v61_apply, val_main_v60_apply,
    val_main_v59_apply, val_main_v58_apply]
  refine congrArg (fun z : EReal => Ideal.pow (Ideal.ofBits .f32 0x461C4000#32) (Ideal.div (-z) (Ideal.ofBits .f32 0x42800000#32))) ?_
  exact (congrArg (fun z : EReal => z + Ideal.ofBits .f32 0x40000000#32 * Qkv.count j.val) Ideal.ofBits_zero_f32).trans (zero_add _)

/-- The angles by the position's row. -/
theorem row_eq (s : Fin 8192) (j : Fin 32) (l : Nat) (hl : l < 64) (hj : l % 32 = j.val) : (val_main_v71 (F := Ideal) (ix2 s j) : EReal) = Qkv.angle s.val l := by
  unfold Qkv.angle
  rw [val_main_v71_apply, val_main_v69_apply, val_main_v67_apply, val_main_v52_apply, val_main_v51_apply, val_main_v70_apply, val_main_v68_apply, if_pos hl, hj]
  refine congrArg₂ (fun a b : EReal => a * b) rfl (Eq.trans (congrArg (val_main_v66 (F := Ideal)) (funext fun a => Fin.ext ?_)) (freq_eq j))
  match a with
  | ⟨0, _⟩ => rfl

/-- The angles by the position's column. -/
theorem col_eq (s : Fin 8192) (j : Fin 32) (l : Nat) (hl : ¬ l < 64) (hj : l % 32 = j.val) : (val_main_v76 (F := Ideal) (ix2 s j) : EReal) = Qkv.angle s.val l := by
  unfold Qkv.angle
  rw [val_main_v76_apply, val_main_v74_apply, val_main_v72_apply, val_main_v56_apply, val_main_v55_apply, val_main_v54_apply, val_main_v75_apply, val_main_v73_apply,
    if_neg hl, hj]
  refine congrArg₂ (fun a b : EReal => a * b) (congrArg Qkv.count ?_) (Eq.trans (congrArg (val_main_v66 (F := Ideal)) (funext fun a => Fin.ext ?_)) (freq_eq j))
  · show 0 * 64 + s.val % 64 = s.val % 64
    omega
  · match a with
    | ⟨0, _⟩ => rfl

/-- The angles of a position. -/
theorem angle_eq (s : Fin 8192) (l : Fin 128) : (val_main_v77 (F := Ideal) (ix2 s l) : EReal) = Qkv.angle s.val l.val := by
  have hl := l.isLt
  have h1 := row_eq s
  have h2 := col_eq s
  unfold val_main_v77
  generalize val_main_v71 (F := Ideal) = a at h1 ⊢
  generalize val_main_v76 (F := Ideal) = b at h2 ⊢
  pointwise
  split
  · exact h1 _ _ (by omega) (by show l.val % 32 = _; simp only []; omega)
  split
  · exact h1 _ _ (by omega) (by simp only []; omega)
  split
  · exact h2 _ _ (by omega) (by simp only []; omega)
  · exact h2 _ _ (by omega) (by simp only []; omega)

/-- The queries before their normalisation, at an index. -/
theorem raw_q (i : S4x8192x16x128.Idx) (r : Fin 32768) (n : Nat) (hr : r.val = (i 0).val * 8192 + (i 1).val) (hn : n = 128 * (i 2).val + (i 3).val) :
    (val_main_v17 (F := Ideal) x g w i : EReal) = Qkv.product x g w r n := by
  have h0 : (i 0).val < 4 := (i 0).isLt
  have h1 : (i 1).val < 8192 := (i 1).isLt
  have h2 : (i 2).val < 16 := (i 2).isLt
  have h3 : (i 3).val < 128 := (i 3).isLt
  rw [val_main_v17_apply, val_main_v16_apply]
  refine product_eq x g w _ r n ?_ ?_
  · show r.val = ((((i 0).val * 8192 + (i 1).val) * 16 + (i 2).val) * 128 + (i 3).val) / 2048
    omega
  · show n = ((((i 0).val * 8192 + (i 1).val) * 16 + (i 2).val) * 128 + (i 3).val) % 2048
    omega

/-- The normalised queries, at an index. -/
theorem normed_q (b : Fin 4) (s : Fin 8192) (h : Fin 16) (l : Fin 128) (r : Fin 32768) (n : Nat) (hr : r.val = b.val * 8192 + s.val) (hn : n = 128 * h.val) :
    (val_main_v35 (F := Ideal) x g w gh (ix4 b s h l) : EReal) = Norm.head (fun j => Qkv.product x g w r (n + j.val)) (fun j => gh (ix2 0 j)) l := by
  have hl := l.isLt
  rw [val_main_v35_apply, val_main_v32_apply, val_main_v31_apply, val_main_v30_apply, val_main_v29_apply, val_main_v27_apply, val_main_v25_apply, val_main_v24_apply, val_main_v26_apply, val_main_v28_apply, val_main_v34_apply, val_main_v33_apply, val_main_v22_apply]
  unfold Norm.head
  refine congrArg₂ (fun a b : EReal => a * b) (congrArg₂ (fun a b : EReal => a * b) (raw_q x g w _ r _ hr (by subst hn; rfl)) (congrArg Ideal.rsqrt (congrArg₂ (fun a b : EReal => a + b)
    (congrArg₂ Ideal.div (Eq.trans (congrArg₂ (fun a b : EReal => a + b) Ideal.ofBits_zero_f32 (Finset.sum_congr rfl fun j _ => ?_)) (zero_add _)) rfl) rfl)))
    (congrArg gh (funext fun a => Fin.ext ?_))
  · rw [val_main_v23_apply]
    exact congrArg (fun z : EReal => z * z) (raw_q x g w _ r _ hr (by subst hn; rfl))
  · match a with
    | ⟨0, _⟩ => rfl
    | ⟨1, _⟩ => show l.val % 128 = l.val; omega

/-- The queries' partner lanes, with their signs. -/
theorem rot_q (b : Fin 4) (s : Fin 8192) (h : Fin 16) (l : Fin 128) (f : Fin 128 → EReal)
    (hf : ∀ l : Fin 128, (val_main_v35 (F := Ideal) x g w gh (ix4 b s h l) : EReal) = f l) :
    (val_main_v86 (F := Ideal) x g w gh (ix4 b s h l) : EReal) = if l.val % 64 < 32 then -f (Qkv.partner l) else f (Qkv.partner l) := by
  have hl := l.isLt
  have hp : (Qkv.partner l).val = (l.val + if l.val % 64 < 32 then 32 else 96) % 128 := rfl
  have e0 : ∀ j : Fin 32, j.val = (Qkv.partner l).val → (val_main_v80 (F := Ideal) x g w gh (ix4 b s h j) : EReal) = f (Qkv.partner l) := fun j hj => by
    refine Eq.trans ?_ (hf (Qkv.partner l))
    rw [val_main_v80_apply]
    refine congrArg (val_main_v35 (F := Ideal) x g w gh) (funext fun a => Fin.ext ?_)
    match a with
    | ⟨0, _⟩ => rfl
    | ⟨1, _⟩ => rfl
    | ⟨2, _⟩ => rfl
    | ⟨3, _⟩ => exact hj
  have e1 : ∀ j : Fin 32, 32 + j.val = (Qkv.partner l).val → (val_main_v81 (F := Ideal) x g w gh (ix4 b s h j) : EReal) = f (Qkv.partner l) := fun j hj => by
    refine Eq.trans ?_ (hf (Qkv.partner l))
    rw [val_main_v81_apply]
    refine congrArg (val_main_v35 (F := Ideal) x g w gh) (funext fun a => Fin.ext ?_)
    match a with
    | ⟨0, _⟩ => rfl
    | ⟨1, _⟩ => rfl
    | ⟨2, _⟩ => rfl
    | ⟨3, _⟩ => exact hj
  have e2 : ∀ j : Fin 32, 64 + j.val = (Qkv.partner l).val → (val_main_v82 (F := Ideal) x g w gh (ix4 b s h j) : EReal) = f (Qkv.partner l) := fun j hj => by
    refine Eq.trans ?_ (hf (Qkv.partner l))
    rw [val_main_v82_apply]
    refine congrArg (val_main_v35 (F := Ideal) x g w gh) (funext fun a => Fin.ext ?_)
    match a with
    | ⟨0, _⟩ => rfl
    | ⟨1, _⟩ => rfl
    | ⟨2, _⟩ => rfl
    | ⟨3, _⟩ => exact hj
  have e3 : ∀ j : Fin 32, 96 + j.val = (Qkv.partner l).val → (val_main_v83 (F := Ideal) x g w gh (ix4 b s h j) : EReal) = f (Qkv.partner l) := fun j hj => by
    refine Eq.trans ?_ (hf (Qkv.partner l))
    rw [val_main_v83_apply]
    refine congrArg (val_main_v35 (F := Ideal) x g w gh) (funext fun a => Fin.ext ?_)
    match a with
    | ⟨0, _⟩ => rfl
    | ⟨1, _⟩ => rfl
    | ⟨2, _⟩ => rfl
    | ⟨3, _⟩ => exact hj
  have n1 : ∀ j : Fin 32, 32 + j.val = (Qkv.partner l).val → (val_main_v84 (F := Ideal) x g w gh (ix4 b s h j) : EReal) = -f (Qkv.partner l) := fun j hj => by
    rw [val_main_v84_apply]
    exact congrArg (fun z : EReal => -z) (e1 j hj)
  have n3 : ∀ j : Fin 32, 96 + j.val = (Qkv.partner l).val → (val_main_v85 (F := Ideal) x g w gh (ix4 b s h j) : EReal) = -f (Qkv.partner l) := fun j hj => by
    rw [val_main_v85_apply]
    exact congrArg (fun z : EReal => -z) (e3 j hj)
  unfold val_main_v86
  generalize val_main_v80 (F := Ideal) x g w gh = y0 at e0 ⊢
  generalize val_main_v82 (F := Ideal) x g w gh = y2 at e2 ⊢
  generalize val_main_v84 (F := Ideal) x g w gh = y1 at n1 ⊢
  generalize val_main_v85 (F := Ideal) x g w gh = y3 at n3 ⊢
  pointwise
  split
  · rw [if_pos (show l.val % 64 < 32 by omega)] at hp ⊢
    exact n1 _ (by simp only []; omega)
  split
  · rw [if_neg (show ¬ l.val % 64 < 32 by omega)] at hp ⊢
    exact e0 _ (by simp only []; omega)
  split
  · rw [if_pos (show l.val % 64 < 32 by omega)] at hp ⊢
    exact n3 _ (by simp only []; omega)
  · rw [if_neg (show ¬ l.val % 64 < 32 by omega)] at hp ⊢
    exact e2 _ (by simp only []; omega)

/-- The turned queries, at an index. -/
theorem turned_q (b : Fin 4) (s : Fin 8192) (h : Fin 16) (l : Fin 128) (r : Fin 32768) (n : Nat) (hr : r.val = b.val * 8192 + s.val) (hn : n = 128 * h.val) :
    (val_main_v93 (F := Ideal) x g w gh (ix4 b s h l) : EReal) = Qkv.head x g w gh r n l := by
  have hs := s.isLt
  have hrs : r.val % 8192 = s.val := by omega
  unfold Qkv.head Qkv.turn
  rw [val_main_v93_apply, val_main_v89_apply, val_main_v92_apply, val_main_v88_apply, val_main_v87_apply, val_main_v78_apply, val_main_v91_apply, val_main_v90_apply, val_main_v79_apply, hrs]
  have ha : ∀ z : S8192x128.Idx, z = ix2 s l → (val_main_v77 (F := Ideal) z : EReal) = Qkv.angle s.val l.val := fun z hz => by rw [hz]; exact angle_eq s l
  refine congrArg₂ (fun a b : EReal => a + b)
    (congrArg₂ (fun a b : EReal => a * b) (normed_q x g w gh b s h l r n hr hn) (congrArg Ideal.cos (ha _ (funext fun a => ?_))))
    (congrArg₂ (fun a b : EReal => a * b) (rot_q x g w gh b s h l _ fun l => normed_q x g w gh b s h l r n hr hn) (congrArg Ideal.sin (ha _ (funext fun a => ?_))))
  · match a with
    | ⟨0, _⟩ => rfl
    | ⟨1, _⟩ => rfl
  · match a with
    | ⟨0, _⟩ => rfl
    | ⟨1, _⟩ => rfl

/-- The keys before their normalisation, at an index. -/
theorem raw_k (i : S4x8192x4x128.Idx) (r : Fin 32768) (n : Nat) (hr : r.val = (i 0).val * 8192 + (i 1).val) (hn : n = 2048 + 128 * (i 2).val + (i 3).val) :
    (val_main_v19 (F := Ideal) x g w i : EReal) = Qkv.product x g w r n := by
  have h0 : (i 0).val < 4 := (i 0).isLt
  have h1 : (i 1).val < 8192 := (i 1).isLt
  have h2 : (i 2).val < 4 := (i 2).isLt
  have h3 : (i 3).val < 128 := (i 3).isLt
  rw [val_main_v19_apply, val_main_v18_apply]
  refine product_eq x g w _ r n ?_ ?_
  · show r.val = ((((i 0).val * 8192 + (i 1).val) * 4 + (i 2).val) * 128 + (i 3).val) / 512
    omega
  · show n = 2048 + ((((i 0).val * 8192 + (i 1).val) * 4 + (i 2).val) * 128 + (i 3).val) % 512
    omega

/-- The normalised keys, at an index. -/
theorem normed_k (b : Fin 4) (s : Fin 8192) (h : Fin 4) (l : Fin 128) (r : Fin 32768) (n : Nat) (hr : r.val = b.val * 8192 + s.val) (hn : n = 2048 + 128 * h.val) :
    (val_main_v49 (F := Ideal) x g w gh (ix4 b s h l) : EReal) = Norm.head (fun j => Qkv.product x g w r (n + j.val)) (fun j => gh (ix2 0 j)) l := by
  have hl := l.isLt
  rw [val_main_v49_apply, val_main_v46_apply, val_main_v45_apply, val_main_v44_apply, val_main_v43_apply, val_main_v41_apply, val_main_v39_apply, val_main_v38_apply, val_main_v40_apply, val_main_v42_apply, val_main_v48_apply, val_main_v47_apply, val_main_v36_apply]
  unfold Norm.head
  refine congrArg₂ (fun a b : EReal => a * b) (congrArg₂ (fun a b : EReal => a * b) (raw_k x g w _ r _ hr (by subst hn; rfl)) (congrArg Ideal.rsqrt (congrArg₂ (fun a b : EReal => a + b)
    (congrArg₂ Ideal.div (Eq.trans (congrArg₂ (fun a b : EReal => a + b) Ideal.ofBits_zero_f32 (Finset.sum_congr rfl fun j _ => ?_)) (zero_add _)) rfl) rfl)))
    (congrArg gh (funext fun a => Fin.ext ?_))
  · rw [val_main_v37_apply]
    exact congrArg (fun z : EReal => z * z) (raw_k x g w _ r _ hr (by subst hn; rfl))
  · match a with
    | ⟨0, _⟩ => rfl
    | ⟨1, _⟩ => show l.val % 128 = l.val; omega

/-- The keys' partner lanes, with their signs. -/
theorem rot_k (b : Fin 4) (s : Fin 8192) (h : Fin 4) (l : Fin 128) (f : Fin 128 → EReal)
    (hf : ∀ l : Fin 128, (val_main_v49 (F := Ideal) x g w gh (ix4 b s h l) : EReal) = f l) :
    (val_main_v100 (F := Ideal) x g w gh (ix4 b s h l) : EReal) = if l.val % 64 < 32 then -f (Qkv.partner l) else f (Qkv.partner l) := by
  have hl := l.isLt
  have hp : (Qkv.partner l).val = (l.val + if l.val % 64 < 32 then 32 else 96) % 128 := rfl
  have e0 : ∀ j : Fin 32, j.val = (Qkv.partner l).val → (val_main_v94 (F := Ideal) x g w gh (ix4 b s h j) : EReal) = f (Qkv.partner l) := fun j hj => by
    refine Eq.trans ?_ (hf (Qkv.partner l))
    rw [val_main_v94_apply]
    refine congrArg (val_main_v49 (F := Ideal) x g w gh) (funext fun a => Fin.ext ?_)
    match a with
    | ⟨0, _⟩ => rfl
    | ⟨1, _⟩ => rfl
    | ⟨2, _⟩ => rfl
    | ⟨3, _⟩ => exact hj
  have e1 : ∀ j : Fin 32, 32 + j.val = (Qkv.partner l).val → (val_main_v95 (F := Ideal) x g w gh (ix4 b s h j) : EReal) = f (Qkv.partner l) := fun j hj => by
    refine Eq.trans ?_ (hf (Qkv.partner l))
    rw [val_main_v95_apply]
    refine congrArg (val_main_v49 (F := Ideal) x g w gh) (funext fun a => Fin.ext ?_)
    match a with
    | ⟨0, _⟩ => rfl
    | ⟨1, _⟩ => rfl
    | ⟨2, _⟩ => rfl
    | ⟨3, _⟩ => exact hj
  have e2 : ∀ j : Fin 32, 64 + j.val = (Qkv.partner l).val → (val_main_v96 (F := Ideal) x g w gh (ix4 b s h j) : EReal) = f (Qkv.partner l) := fun j hj => by
    refine Eq.trans ?_ (hf (Qkv.partner l))
    rw [val_main_v96_apply]
    refine congrArg (val_main_v49 (F := Ideal) x g w gh) (funext fun a => Fin.ext ?_)
    match a with
    | ⟨0, _⟩ => rfl
    | ⟨1, _⟩ => rfl
    | ⟨2, _⟩ => rfl
    | ⟨3, _⟩ => exact hj
  have e3 : ∀ j : Fin 32, 96 + j.val = (Qkv.partner l).val → (val_main_v97 (F := Ideal) x g w gh (ix4 b s h j) : EReal) = f (Qkv.partner l) := fun j hj => by
    refine Eq.trans ?_ (hf (Qkv.partner l))
    rw [val_main_v97_apply]
    refine congrArg (val_main_v49 (F := Ideal) x g w gh) (funext fun a => Fin.ext ?_)
    match a with
    | ⟨0, _⟩ => rfl
    | ⟨1, _⟩ => rfl
    | ⟨2, _⟩ => rfl
    | ⟨3, _⟩ => exact hj
  have n1 : ∀ j : Fin 32, 32 + j.val = (Qkv.partner l).val → (val_main_v98 (F := Ideal) x g w gh (ix4 b s h j) : EReal) = -f (Qkv.partner l) := fun j hj => by
    rw [val_main_v98_apply]
    exact congrArg (fun z : EReal => -z) (e1 j hj)
  have n3 : ∀ j : Fin 32, 96 + j.val = (Qkv.partner l).val → (val_main_v99 (F := Ideal) x g w gh (ix4 b s h j) : EReal) = -f (Qkv.partner l) := fun j hj => by
    rw [val_main_v99_apply]
    exact congrArg (fun z : EReal => -z) (e3 j hj)
  unfold val_main_v100
  generalize val_main_v94 (F := Ideal) x g w gh = y0 at e0 ⊢
  generalize val_main_v96 (F := Ideal) x g w gh = y2 at e2 ⊢
  generalize val_main_v98 (F := Ideal) x g w gh = y1 at n1 ⊢
  generalize val_main_v99 (F := Ideal) x g w gh = y3 at n3 ⊢
  pointwise
  split
  · rw [if_pos (show l.val % 64 < 32 by omega)] at hp ⊢
    exact n1 _ (by simp only []; omega)
  split
  · rw [if_neg (show ¬ l.val % 64 < 32 by omega)] at hp ⊢
    exact e0 _ (by simp only []; omega)
  split
  · rw [if_pos (show l.val % 64 < 32 by omega)] at hp ⊢
    exact n3 _ (by simp only []; omega)
  · rw [if_neg (show ¬ l.val % 64 < 32 by omega)] at hp ⊢
    exact e2 _ (by simp only []; omega)

/-- The turned keys, at an index. -/
theorem turned_k (b : Fin 4) (s : Fin 8192) (h : Fin 4) (l : Fin 128) (r : Fin 32768) (n : Nat) (hr : r.val = b.val * 8192 + s.val) (hn : n = 2048 + 128 * h.val) :
    (val_main_v107 (F := Ideal) x g w gh (ix4 b s h l) : EReal) = Qkv.head x g w gh r n l := by
  have hs := s.isLt
  have hrs : r.val % 8192 = s.val := by omega
  unfold Qkv.head Qkv.turn
  rw [val_main_v107_apply, val_main_v103_apply, val_main_v106_apply, val_main_v102_apply, val_main_v101_apply, val_main_v78_apply, val_main_v105_apply, val_main_v104_apply, val_main_v79_apply, hrs]
  have ha : ∀ z : S8192x128.Idx, z = ix2 s l → (val_main_v77 (F := Ideal) z : EReal) = Qkv.angle s.val l.val := fun z hz => by rw [hz]; exact angle_eq s l
  refine congrArg₂ (fun a b : EReal => a + b)
    (congrArg₂ (fun a b : EReal => a * b) (normed_k x g w gh b s h l r n hr hn) (congrArg Ideal.cos (ha _ (funext fun a => ?_))))
    (congrArg₂ (fun a b : EReal => a * b) (rot_k x g w gh b s h l _ fun l => normed_k x g w gh b s h l r n hr hn) (congrArg Ideal.sin (ha _ (funext fun a => ?_))))
  · match a with
    | ⟨0, _⟩ => rfl
    | ⟨1, _⟩ => rfl
  · match a with
    | ⟨0, _⟩ => rfl
    | ⟨1, _⟩ => rfl

/-- An index of four coordinates, from them. -/
theorem ix4_eta {n0 n1 n2 n3 : Nat} (z : (⟨4, ![n0, n1, n2, n3]⟩ : Shape).Idx) : z = ix4 (z 0 : Fin n0) (z 1 : Fin n1) (z 2 : Fin n2) (z 3 : Fin n3) := by
  funext a
  match a with
  | ⟨0, _⟩ => rfl
  | ⟨1, _⟩ => rfl
  | ⟨2, _⟩ => rfl
  | ⟨3, _⟩ => rfl

theorem head_congr {r r' : Fin 32768} {n n' : Nat} {l l' : Fin 128} (hr : r.val = r'.val) (hn : n = n') (hl : l.val = l'.val) :
    Qkv.head x g w gh r n l = Qkv.head x g w gh r' n' l' := by
  obtain rfl := Fin.ext hr
  obtain rfl := Fin.ext hl
  subst hn
  rfl

/-- What the queries are divided by. -/
theorem scale_eq (z : S4x8192x16x128.Idx) : (val_main_v111 (F := Ideal) z : EReal) = ((Real.sqrt 128 * Real.log 2 : ℝ) : EReal) := by
  have hc : Ideal.ofBits FTy.f32 0x43000000#32 = ((128 : ℝ) : EReal) := by
    simp [Ideal.ofBits, Ideal.ieee]; rw [← EReal.coe_mul]; norm_num
  have h2 : Ideal.ofBits FTy.f32 0x40000000#32 = ((2 : ℝ) : EReal) := by
    simp [Ideal.ofBits, Ideal.ieee]; rw [← EReal.coe_mul]; norm_num
  rw [val_main_v111_apply, val_main_v110_apply]
  show Ideal.sqrt (Ideal.ofBits FTy.f32 0x43000000#32) * Ideal.log (Ideal.ofBits FTy.f32 0x40000000#32) = _
  rw [hc, h2, Ideal.sqrt_coe, if_neg (by norm_num), Ideal.log_coe, if_neg (by norm_num), ← EReal.coe_mul]

/-- The reference's queries. -/
theorem queries_eq : val_main_v117 (F := Ideal) x g w gh = Qkv.queries x g w gh := by
  funext i
  have h0 : (i 0).val < 32768 := (i 0).isLt
  have h1 : (i 1).val < 2048 := (i 1).isLt
  rw [val_main_v117_apply, val_main_v116_apply, val_main_v112_apply]
  refine congrArg₂ Ideal.div ?_ (scale_eq _)
  rw [ix4_eta (idx_main_v116 i)]
  refine (turned_q x g w gh _ _ _ _ (i 0) _ ?_ rfl).trans (head_congr x g w gh rfl ?_ ?_)
  · show (i 0).val = ((i 0).val * 2048 + (i 1).val) / 16777216 * 8192 + ((i 0).val * 2048 + (i 1).val) / 2048 % 8192
    omega
  · show 128 * (((i 0).val * 2048 + (i 1).val) / 128 % 16) = 128 * ((i 1).val / 128)
    omega
  · show ((i 0).val * 2048 + (i 1).val) % 128 = (i 1).val % 128
    omega

/-- The reference's keys. -/
theorem keys_eq : val_main_v119 (F := Ideal) x g w gh = Qkv.keys x g w gh := by
  funext i
  have h0 : (i 0).val < 32768 := (i 0).isLt
  have h1 : (i 1).val < 512 := (i 1).isLt
  rw [val_main_v119_apply, val_main_v118_apply, ix4_eta (idx_main_v118 i)]
  refine (turned_k x g w gh _ _ _ _ (i 0) _ ?_ rfl).trans (head_congr x g w gh rfl ?_ ?_)
  · show (i 0).val = ((i 0).val * 512 + (i 1).val) / 4194304 * 8192 + ((i 0).val * 512 + (i 1).val) / 512 % 8192
    omega
  · show 2048 + 128 * (((i 0).val * 512 + (i 1).val) / 128 % 4) = 2048 + 128 * ((i 1).val / 128)
    omega
  · show ((i 0).val * 512 + (i 1).val) % 128 = (i 1).val % 128
    omega

/-- The values before the ones, at an index. -/
theorem raw_v (i : S4x8192x4x128.Idx) (r : Fin 32768) (n : Nat) (hr : r.val = (i 0).val * 8192 + (i 1).val) (hn : n = 2560 + 128 * (i 2).val + (i 3).val) :
    (val_main_v21 (F := Ideal) x g w i : EReal) = Qkv.product x g w r n := by
  have h0 : (i 0).val < 4 := (i 0).isLt
  have h1 : (i 1).val < 8192 := (i 1).isLt
  have h2 : (i 2).val < 4 := (i 2).isLt
  have h3 : (i 3).val < 128 := (i 3).isLt
  rw [val_main_v21_apply, val_main_v20_apply]
  refine product_eq x g w _ r n ?_ ?_
  · show r.val = ((((i 0).val * 8192 + (i 1).val) * 4 + (i 2).val) * 128 + (i 3).val) / 512
    omega
  · show n = 2560 + ((((i 0).val * 8192 + (i 1).val) * 4 + (i 2).val) * 128 + (i 3).val) % 512
    omega

/-- The values with the ones and the zeros, at an index. -/
theorem ones_v (b : Fin 4) (s : Fin 8192) (h : Fin 4) (l : Fin 256) (r : Fin 32768) (hr : r.val = b.val * 8192 + s.val) :
    (val_main_v115 (F := Ideal) x g w (ix4 b s h l) : EReal)
      = if l.val < 128 then Qkv.product x g w r (2560 + 128 * h.val + l.val) else if l.val = 128 then 1 else 0 := by
  have hl := l.isLt
  have hv : ∀ j : Fin 128, (val_main_v21 (F := Ideal) x g w (ix4 b s h j) : EReal) = Qkv.product x g w r (2560 + 128 * h.val + j.val) :=
    fun j => raw_v x g w _ r _ hr rfl
  have h1 : ∀ z, (val_main_v113 (F := Ideal) z : EReal) = 1 := fun z => by
    rw [val_main_v113_apply]
    show Ideal.ofBits .f32 0x3F800000#32 = 1
    simp [Ideal.ofBits, Ideal.ieee]; rw [← EReal.coe_mul]; norm_num
  have h2 : ∀ z, (val_main_v114 (F := Ideal) z : EReal) = 0 := fun z => by
    rw [val_main_v114_apply]
    exact Ideal.ofBits_zero_f32
  unfold val_main_v115
  generalize val_main_v21 (F := Ideal) x g w = y0 at hv ⊢
  generalize val_main_v113 (F := Ideal) = y1 at h1 ⊢
  generalize val_main_v114 (F := Ideal) = y2 at h2 ⊢
  pointwise
  split
  · exact hv _
  split
  · rw [if_pos (show l.val = 128 by omega)]
    exact h1 _
  · rw [if_neg (show ¬ l.val = 128 by omega)]
    exact h2 _

/-- The reference's values. -/
theorem values_eq : val_main_v121 (F := Ideal) x g w = Qkv.values x g w := by
  funext i
  have h0 : (i 0).val < 32768 := (i 0).isLt
  have h1 : (i 1).val < 1024 := (i 1).isLt
  rw [val_main_v121_apply, val_main_v120_apply, ix4_eta (idx_main_v120 i)]
  refine (ones_v x g w _ _ _ _ (i 0) ?_).trans ?_
  · show (i 0).val = ((i 0).val * 1024 + (i 1).val) / 8388608 * 8192 + ((i 0).val * 1024 + (i 1).val) / 1024 % 8192
    omega
  · have e1 : ((i 0).val * 1024 + (i 1).val) % 256 = (i 1).val % 256 := by omega
    have e2 : ((i 0).val * 1024 + (i 1).val) / 256 % 4 = (i 1).val / 256 := by omega
    show (if ((i 0).val * 1024 + (i 1).val) % 256 < 128
        then Qkv.product x g w (i 0) (2560 + 128 * (((i 0).val * 1024 + (i 1).val) / 256 % 4) + ((i 0).val * 1024 + (i 1).val) % 256)
        else if ((i 0).val * 1024 + (i 1).val) % 256 = 128 then 1 else 0 : EReal) = _
    rw [e1, e2]
    rfl

end Cert.QkvReferenceIdeal.Qkv

end
-- ==== Proof.OutProj.lean ====
/-
  The attention's output projection added to the layer's input: the kernel's call, the reference, and what both compute.
-/
module

public import proofs.«01_k».proof.Proof.Gen.OutKernelIdeal.Value
public import proofs.«01_k».proof.Proof.Gen.OutReferenceIdeal.Read
public import Idealize.ShloMosaic.Lib.Pointwise
public import Idealize.ShloMosaic.Lib.StableHlo.ReadAt
public import Idealize.ShloMosaic.Lib.Pipeline.ValueKit.Tiles

@[expose] public section

set_option maxRecDepth 16384

noncomputable section

namespace Cert.OutProj

open Idealize.ShloMosaic

/-- The input plus the attention's rows times the weights. -/
def proj (o : FVec Ideal ⟨2, ![32768, 2048]⟩ .bf16) (w : FVec Ideal ⟨3, ![1, 2048, 2048]⟩ .f32) (x : FVec Ideal ⟨2, ![32768, 2048]⟩ .f32) :
    FVec Ideal ⟨2, ![32768, 2048]⟩ .f32 := fun y =>
  ((x y : EReal) + ∑ k : Fin 2048, (o (ix2 (y 0) k) : EReal) * w (ix3 0 k (y 1)) : EReal)

end Cert.OutProj

namespace Cert.OutReferenceIdeal.Proj

open Cert.OutReferenceIdeal Cert.OutReferenceIdeal.Gen Cert.OutReferenceIdeal.Read Idealize.ShloMosaic

/-- The reference's result. -/
theorem result_eq (o : FVec Ideal S32768x2048 .bf16) (w : FVec Ideal S1x2048x2048 .f32) (x : FVec Ideal S32768x2048 .f32) :
    val_main_v3 (F := Ideal) o w x = OutProj.proj o w x := by
  funext i
  have h1 : (i 1).val < 2048 := (i 1).isLt
  rw [val_main_v3_apply, val_main_v2_apply]
  unfold OutProj.proj
  refine congrArg (fun s : EReal => (x i : EReal) + s) (Finset.sum_congr rfl fun k _ => ?_)
  have hk := k.isLt
  rw [val_main_v0_apply, val_main_v1_apply]
  refine congrArg₂ (fun a b : EReal => a * b) (congrArg o (funext fun a => Fin.ext ?_)) (congrArg w (funext fun a => Fin.ext ?_))
  · match a with
    | ⟨0, _⟩ => rfl
    | ⟨1, _⟩ => rfl
  · match a with
    | ⟨0, _⟩ => rfl
    | ⟨1, _⟩ => show (k.val * 2048 + (i 1).val) / 2048 % 2048 = k.val; omega
    | ⟨2, _⟩ => show (k.val * 2048 + (i 1).val) % 2048 = (i 1).val; omega

end Cert.OutReferenceIdeal.Proj

namespace Cert.OutKernelIdeal.Proj

open Cert.OutKernelIdeal Cert.OutKernelIdeal.Gen Idealize.ShloMosaic Idealize.ShloMosaic.TcCoe Idealize.SL.Sem

theorem hz : (![0, 0] : Fin 2 → Nat) = fun _ => 0 := funext fun a => by fin_cases a <;> rfl

/-- A block of results, at an index. -/
theorem out_apply (x0 : Vec Ideal S512x2048 .bf16) (x1 : Vec Ideal S2048x2048 .bf16) (x2 : Vec Ideal S512x2048 .f32) (i : Fin 512) (l : Fin 2048) :
    (out0_3 x0 x1 x2 (ix2 i l) : EReal) = (x2 (ix2 i l) : EReal) + ∑ k : Fin 2048, (x0 (ix2 i k) : EReal) * x1 (ix2 k l) := by
  unfold out0_3
  refine View.canon_apply_of_pieces (fun y : S512x2048.Idx => ((x2 y : EReal) + ∑ k : Fin 2048, (x0 (ix2 (y 0) k) : EReal) * x1 (ix2 k (y 1)) : EReal)) _ ?_ (ix2 i l)
    (cover0_3 _ (ix2 i l))
  refine List.forall_mem_cons.mpr ⟨fun x => ?_, fun _ hn => absurd hn List.not_mem_nil⟩
  have he : r0_0.emb x = x := funext fun a => Fin.ext (by rw [Rect.emb_apply]; match a with | ⟨0, _⟩ => simp | ⟨1, _⟩ => simp)
  rw [he, View.ld_unit_zero hz, View.ld_unit_zero hz, View.ld_unit_zero hz]
  obtain ⟨a, b, rfl⟩ : ∃ a b, x = ix2 a b := ⟨x 0, x 1, by funext a; match a with | ⟨0, _⟩ => rfl | ⟨1, _⟩ => rfl⟩
  unfold k0_pay1
  rw [shapeCast_self]
  pointwise

variable (m : (ℓ : Loc nD τ sig) → Buf (Elt Ideal) ℓ)

abbrev argO (c : Dev nD) : Vec Ideal S32768x2048 .bf16 := m ((c : Thread nD τ).loc main_arg0)
abbrev argW (c : Dev nD) : Vec Ideal S1x2048x2048 .f32 := m ((c : Thread nD τ).loc main_arg1)
abbrev argX (c : Dev nD) : Vec Ideal S32768x2048 .f32 := m ((c : Thread nD τ).loc main_arg2)

/-- The weights as the call gets them. -/
theorem V_w (c : Dev nD) (k l : Fin 2048) : (V m c main_v1 (ix2 k l) : EReal) = (argW m c (ix3 0 k l) : EReal) := by
  unfold V argW
  after_reads_at

theorem index_o (t : Fin grid0.N) : win0_0.index t 0 = t.val ∧ win0_0.index t 1 = 0 := by revert t; decide +kernel
theorem index_w (t : Fin grid0.N) : win0_1.index t 0 = 0 ∧ win0_1.index t 1 = 0 := by revert t; decide +kernel
theorem index_x (t : Fin grid0.N) : win0_2.index t 0 = t.val ∧ win0_2.index t 1 = 0 := by revert t; decide +kernel
theorem index_r (t : Fin grid0.N) : win0_3.index t 0 = t.val ∧ win0_3.index t 1 = 0 := by revert t; decide +kernel

/-- An entry of the attention's block. -/
theorem iblk_o (c : Dev nD) (t : Fin cfg0.N) (i : Fin 512) (l : Fin 2048) (r : Fin 32768) (hr : r.val = t.val * 512 + i.val) :
    (iblk m c 0 t (ix2 i l) : EReal) = (argO m c (ix2 r l) : EReal) := by
  refine Eq.trans ?_ (congrFun (V_main_arg0 m c) (ix2 r l))
  show V m c main_arg0 (((cfg0.win 0).blk t).view.emb (ix2 i l)) = V m c main_arg0 (ix2 r l)
  obtain ⟨e0, e1⟩ := index_o t
  refine congrArg (V m c main_arg0) (funext fun a => Fin.ext ?_)
  match a with
  | ⟨0, _⟩ => show win0_0.index t (0 : Fin 2) * 512 + 1 * i.val = r.val; omega
  | ⟨1, _⟩ => show win0_0.index t (1 : Fin 2) * 2048 + 1 * l.val = l.val; omega

/-- An entry of the weights' block. -/
theorem iblk_w (c : Dev nD) (t : Fin cfg0.N) (k l : Fin 2048) : (iblk m c 1 t (ix2 k l) : EReal) = (argW m c (ix3 0 k l) : EReal) := by
  refine Eq.trans ?_ (V_w m c k l)
  show V m c main_v1 (((cfg0.win 1).blk t).view.emb (ix2 k l)) = V m c main_v1 (ix2 k l)
  obtain ⟨e0, e1⟩ := index_w t
  refine congrArg (V m c main_v1) (funext fun a => Fin.ext ?_)
  match a with
  | ⟨0, _⟩ => show win0_1.index t (0 : Fin 2) * 2048 + 1 * k.val = k.val; omega
  | ⟨1, _⟩ => show win0_1.index t (1 : Fin 2) * 2048 + 1 * l.val = l.val; omega

/-- An entry of the input's block. -/
theorem iblk_x (c : Dev nD) (t : Fin cfg0.N) (i : Fin 512) (l : Fin 2048) (r : Fin 32768) (hr : r.val = t.val * 512 + i.val) :
    (iblk m c 2 t (ix2 i l) : EReal) = (argX m c (ix2 r l) : EReal) := by
  refine Eq.trans ?_ (congrFun (V_main_arg2 m c) (ix2 r l))
  show V m c main_arg2 (((cfg0.win 2).blk t).view.emb (ix2 i l)) = V m c main_arg2 (ix2 r l)
  obtain ⟨e0, e1⟩ := index_x t
  refine congrArg (V m c main_arg2) (funext fun a => Fin.ext ?_)
  match a with
  | ⟨0, _⟩ => show win0_2.index t (0 : Fin 2) * 512 + 1 * i.val = r.val; omega
  | ⟨1, _⟩ => show win0_2.index t (1 : Fin 2) * 2048 + 1 * l.val = l.val; omega

/-- The projection of the arguments as launched. -/
abbrev result (c : Dev nD) : FVec Ideal S32768x2048 .f32 := OutProj.proj (argO m c) (argW m c) (argX m c)

/-- Where grid point `t`'s block of results lies. -/
theorem emb_r (t : Fin cfg0.N) (i : Fin 512) (l : Fin 2048) (r : Fin 32768) (hr : r.val = t.val * 512 + i.val) :
    ((cfg0.win 3).blk t).view.emb (ix2 i l) = ix2 r l :=
  funext fun a => Fin.ext (by
    obtain ⟨e0, e1⟩ := index_r t
    match a with
    | ⟨0, _⟩ => show win0_3.index t (0 : Fin 2) * 512 + 1 * i.val = r.val; omega
    | ⟨1, _⟩ => show win0_3.index t (1 : Fin 2) * 2048 + 1 * l.val = l.val; omega)

/-- What grid point `t` writes back is its block of the projection. -/
theorem flushed_eq (c : Dev nD) (t : Fin cfg0.N) :
    (dats m 0 c).flushed 3 t = ((cfg0.win 3).blk t).view.read (Elt Ideal) (result m c) := by
  rw [Value.flushed3]
  funext j
  have ht : t.val < 64 := lt_of_lt_of_eq t.isLt Gen.N_0
  obtain ⟨i, l, rfl⟩ : ∃ (i : Fin 512) (l : Fin 2048), j = ix2 i l := ⟨j 0, j 1, by funext a; match a with | ⟨0, _⟩ => rfl | ⟨1, _⟩ => rfl⟩
  have hi := i.isLt
  show out0_3 (iblk m c 0 t) (iblk m c 1 t) (iblk m c 2 t) (ix2 i l) = result m c (((cfg0.win 3).blk t).view.emb (ix2 i l))
  have hr : t.val * 512 + i.val < 32768 := by omega
  rw [emb_r t i l ⟨t.val * 512 + i.val, hr⟩ rfl]
  refine (out_apply _ _ _ i l).trans ?_
  unfold result OutProj.proj
  refine congrArg₂ (fun a b : EReal => a + b) (iblk_x m c t i l _ rfl) (Finset.sum_congr rfl fun k _ => ?_)
  exact congrArg₂ (fun a b : EReal => a * b) (iblk_o m c t i k _ rfl) (iblk_w m c t k l)

/-- Every index of the result lies in some grid point's block. -/
theorem covered (i : S32768x2048.Idx) : ∃ t : Fin cfg0.N, (cfg0.win 3).flush t = true ∧ i ∈ ((cfg0.win 3).blk t).view.set := by
  have h0 : (i 0).val < 32768 := (i 0).isLt
  have hb : (i 0).val / 512 < cfg0.N := lt_of_lt_of_eq (by omega) Gen.N_0.symm
  refine ⟨⟨_, hb⟩, flush0_3 _, ?_⟩
  have h := ((cfg0.win 3).blk ⟨_, hb⟩).view.emb_mem_set (ix2 (⟨(i 0).val % 512, Nat.mod_lt _ (by norm_num)⟩ : Fin 512) (i 1 : Fin 2048))
  have h2 := emb_r ⟨_, hb⟩ (⟨(i 0).val % 512, Nat.mod_lt _ (by norm_num)⟩ : Fin 512) (i 1 : Fin 2048) (i 0 : Fin 32768)
    (by show (i 0).val = (i 0).val / 512 * 512 + (i 0).val % 512; omega)
  have he : i = ix2 (i 0 : Fin 32768) (i 1 : Fin 2048) := by funext a; match a with | ⟨0, _⟩ => rfl | ⟨1, _⟩ => rfl
  exact (congrArg (fun j => j ∈ ((cfg0.win 3).blk ⟨_, hb⟩).view.set) (he.trans h2.symm)).mpr h

/-- The result array after the run. -/
theorem final3 (c : Dev nD) : (dats m 0 c).arrAt 3 cfg0.N = result m c :=
  (dats m 0 c).arrAt_eq_of_cover 3 (result m c) (fun t _ => flushed_eq m c t) covered

end Cert.OutKernelIdeal.Proj

end
-- ==== Proof.InProj.lean ====
/-
  The pooling layer's input projection of the normalised rows: the kernel's call, the reference, and what both compute.
-/
module

public import proofs.«01_k».proof.Proof.Gen.InKernelIdeal.Value
public import proofs.«01_k».proof.Proof.Gen.InReferenceIdeal.Read
public import proofs.«01_k».proof.Proof.Norm
public import Idealize.ShloMosaic.Lib.Pointwise
public import Idealize.ShloMosaic.Lib.StableHlo.ReadAt
public import Idealize.ShloMosaic.Lib.Pipeline.ValueKit.Tiles

@[expose] public section

set_option maxRecDepth 16384

noncomputable section

namespace Cert.InProj

open Idealize.ShloMosaic

/-- The rows normalised and scaled by `g`, times the weights. -/
def proj (x : FVec Ideal ⟨2, ![32768, 2048]⟩ .f32) (g : FVec Ideal ⟨2, ![1, 2048]⟩ .f32) (w : FVec Ideal ⟨3, ![1, 2048, 2048]⟩ .f32) :
    FVec Ideal ⟨2, ![32768, 2048]⟩ .f32 := fun y =>
  (∑ k : Fin 2048, Norm.rms (fun j => x (ix2 (y 0) j)) (fun j => g (ix2 0 j)) k * (w (ix3 0 k (y 1)) : EReal) : EReal)

end Cert.InProj

namespace Cert.InReferenceIdeal.Proj

open Cert.InReferenceIdeal Cert.InReferenceIdeal.Gen Cert.InReferenceIdeal.Read Idealize.ShloMosaic

/-- The reference's normalised row. -/
theorem norm_eq (x : FVec Ideal S32768x2048 .f32) (g : FVec Ideal S1x2048 .f32) (r : Fin 32768) (k : Fin 2048) :
    (val_main_v13 (F := Ideal) x g (ix2 r k) : EReal) = Norm.rms (fun j => x (ix2 r j)) (fun j => g (ix2 0 j)) k := by
  have hk := k.isLt
  rw [val_main_v13_apply, val_main_v10_apply, val_main_v9_apply, val_main_v8_apply, val_main_v7_apply, val_main_v5_apply, val_main_v3_apply,
    val_main_v2_apply, val_main_v4_apply, val_main_v6_apply, val_main_v12_apply, val_main_v11_apply, val_main_v0_apply]
  unfold Norm.rms
  refine congrArg₂ (fun a b : EReal => a * b) (congrArg₂ (fun a b : EReal => a * b) rfl (congrArg Ideal.rsqrt (congrArg₂ (fun a b : EReal => a + b)
    (congrArg₂ Ideal.div (Eq.trans (congrArg₂ (fun a b : EReal => a + b) Ideal.ofBits_zero_f32 (Finset.sum_congr rfl fun j _ => ?_)) (zero_add _)) rfl) rfl)))
    (congrArg g (funext fun a => Fin.ext ?_))
  · refine congrArg (fun z : EReal => z * z) (congrArg x (funext fun a => Fin.ext ?_))
    match a with
    | ⟨0, _⟩ => rfl
    | ⟨1, _⟩ => rfl
  · match a with
    | ⟨0, _⟩ => rfl
    | ⟨1, _⟩ => show k.val % 2048 = k.val; omega

/-- The reference's result. -/
theorem result_eq (x : FVec Ideal S32768x2048 .f32) (g : FVec Ideal S1x2048 .f32) (w : FVec Ideal S1x2048x2048 .f32) :
    val_main_v15 (F := Ideal) x g w = InProj.proj x g w := by
  funext i
  have h1 : (i 1).val < 2048 := (i 1).isLt
  rw [val_main_v15_apply]
  unfold InProj.proj
  refine Finset.sum_congr rfl fun k _ => ?_
  have hk := k.isLt
  rw [val_main_v14_apply]
  refine congrArg₂ (fun a b : EReal => a * b) (Eq.trans (congrArg (val_main_v13 (F := Ideal) x g) (funext fun a => Fin.ext ?_)) (norm_eq x g (i 0) k))
    (congrArg w (funext fun a => Fin.ext ?_))
  · match a with
    | ⟨0, _⟩ => rfl
    | ⟨1, _⟩ => rfl
  · match a with
    | ⟨0, _⟩ => rfl
    | ⟨1, _⟩ => show (k.val * 2048 + (i 1).val) / 2048 % 2048 = k.val; omega
    | ⟨2, _⟩ => show (k.val * 2048 + (i 1).val) % 2048 = (i 1).val; omega

end Cert.InReferenceIdeal.Proj

namespace Cert.InKernelIdeal.Proj

open Cert.InKernelIdeal Cert.InKernelIdeal.Gen Idealize.ShloMosaic Idealize.ShloMosaic.TcCoe Idealize.SL.Sem

theorem hz : (![0, 0] : Fin 2 → Nat) = fun _ => 0 := funext fun a => by fin_cases a <;> rfl

/-- A block's rows normalised and scaled, times the weights. -/
def rows (x0 : Vec Ideal S512x2048 .f32) (x1 : Vec Ideal S1x2048 .f32) (x2 : Vec Ideal S2048x2048 .bf16) : Vec Ideal S512x2048 .f32 := fun y =>
  (∑ k : Fin 2048, Norm.rms (fun j => x0 (ix2 (y 0) j)) (fun j => x1 (ix2 0 j)) k * (x2 (ix2 k (y 1)) : EReal) : EReal)

/-- A block of results, at an index. -/
theorem out_apply (x0 : Vec Ideal S512x2048 .f32) (x1 : Vec Ideal S1x2048 .f32) (x2 : Vec Ideal S2048x2048 .bf16) (i : Fin 512) (l : Fin 2048) :
    (out0_3 x0 x1 x2 (ix2 i l) : EReal) = ∑ k : Fin 2048, Norm.rms (fun j => x0 (ix2 i j)) (fun j => x1 (ix2 0 j)) k * (x2 (ix2 k l) : EReal) := by
  unfold out0_3
  refine View.canon_apply_of_pieces (rows x0 x1 x2) _ ?_ (ix2 i l)
    (cover0_3 _ (ix2 i l))
  refine List.forall_mem_cons.mpr ⟨fun x => ?_, fun _ hn => absurd hn List.not_mem_nil⟩
  have he : r0_0.emb x = x := funext fun a => Fin.ext (by rw [Rect.emb_apply]; match a with | ⟨0, _⟩ => simp | ⟨1, _⟩ => simp)
  rw [he, View.ld_unit_zero hz, View.ld_unit_zero hz, View.ld_unit_zero hz]
  obtain ⟨a, b, rfl⟩ : ∃ a b, x = ix2 a b := ⟨x 0, x 1, by funext a; match a with | ⟨0, _⟩ => rfl | ⟨1, _⟩ => rfl⟩
  unfold k0_pay1 rows Norm.rms
  rw [shapeCast_self, shapeCast_self]
  pointwise

variable (m : (ℓ : Loc nD τ sig) → Buf (Elt Ideal) ℓ)

abbrev argX (c : Dev nD) : Vec Ideal S32768x2048 .f32 := m ((c : Thread nD τ).loc main_arg0)
abbrev argG (c : Dev nD) : Vec Ideal S1x2048 .f32 := m ((c : Thread nD τ).loc main_arg1)
abbrev argW (c : Dev nD) : Vec Ideal S1x2048x2048 .f32 := m ((c : Thread nD τ).loc main_arg2)

/-- The scales as the call gets them. -/
theorem V_g (c : Dev nD) (l : Fin 2048) : (V m c main_v1 (ix2 0 l) : EReal) = (argG m c (ix2 0 l) : EReal) := by
  unfold V argG
  after_reads_at

/-- The weights as the call gets them. -/
theorem V_w (c : Dev nD) (k l : Fin 2048) : (V m c main_v3 (ix2 k l) : EReal) = (argW m c (ix3 0 k l) : EReal) := by
  unfold V argW
  after_reads_at

theorem index_x (t : Fin grid0.N) : win0_0.index t 0 = t.val ∧ win0_0.index t 1 = 0 := by revert t; decide +kernel
theorem index_g (t : Fin grid0.N) : win0_1.index t 0 = 0 ∧ win0_1.index t 1 = 0 := by revert t; decide +kernel
theorem index_w (t : Fin grid0.N) : win0_2.index t 0 = 0 ∧ win0_2.index t 1 = 0 := by revert t; decide +kernel
theorem index_r (t : Fin grid0.N) : win0_3.index t 0 = t.val ∧ win0_3.index t 1 = 0 := by revert t; decide +kernel

/-- An entry of the input's block. -/
theorem iblk_x (c : Dev nD) (t : Fin cfg0.N) (i : Fin 512) (l : Fin 2048) (r : Fin 32768) (hr : r.val = t.val * 512 + i.val) :
    (iblk m c 0 t (ix2 i l) : EReal) = (argX m c (ix2 r l) : EReal) := by
  refine Eq.trans ?_ (congrFun (V_main_arg0 m c) (ix2 r l))
  show V m c main_arg0 (((cfg0.win 0).blk t).view.emb (ix2 i l)) = V m c main_arg0 (ix2 r l)
  obtain ⟨e0, e1⟩ := index_x t
  refine congrArg (V m c main_arg0) (funext fun a => Fin.ext ?_)
  match a with
  | ⟨0, _⟩ => show win0_0.index t (0 : Fin 2) * 512 + 1 * i.val = r.val; omega
  | ⟨1, _⟩ => show win0_0.index t (1 : Fin 2) * 2048 + 1 * l.val = l.val; omega

/-- An entry of the scales' block. -/
theorem iblk_g (c : Dev nD) (t : Fin cfg0.N) (l : Fin 2048) : (iblk m c 1 t (ix2 0 l) : EReal) = (argG m c (ix2 0 l) : EReal) := by
  refine Eq.trans ?_ (V_g m c l)
  show V m c main_v1 (((cfg0.win 1).blk t).view.emb (ix2 0 l)) = V m c main_v1 (ix2 0 l)
  obtain ⟨e0, e1⟩ := index_g t
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 2048 + 1 * l.val = l.val; omega

/-- An entry of the weights' block. -/
theorem iblk_w (c : Dev nD) (t : Fin cfg0.N) (k l : Fin 2048) : (iblk m c 2 t (ix2 k l) : EReal) = (argW m c (ix3 0 k l) : EReal) := by
  refine Eq.trans ?_ (V_w m c k l)
  show V m c main_v3 (((cfg0.win 2).blk t).view.emb (ix2 k l)) = V m c main_v3 (ix2 k l)
  obtain ⟨e0, e1⟩ := index_w t
  refine congrArg (V m c main_v3) (funext fun a => Fin.ext ?_)
  match a with
  | ⟨0, _⟩ => show win0_2.index t (0 : Fin 2) * 2048 + 1 * k.val = k.val; omega
  | ⟨1, _⟩ => show win0_2.index t (1 : Fin 2) * 2048 + 1 * l.val = l.val; omega

/-- The projection of the arguments as launched. -/
abbrev result (c : Dev nD) : FVec Ideal S32768x2048 .f32 := InProj.proj (argX m c) (argG m c) (argW m c)

/-- Where grid point `t`'s block of results lies. -/
theorem emb_r (t : Fin cfg0.N) (i : Fin 512) (l : Fin 2048) (r : Fin 32768) (hr : r.val = t.val * 512 + i.val) :
    ((cfg0.win 3).blk t).view.emb (ix2 i l) = ix2 r l :=
  funext fun a => Fin.ext (by
    obtain ⟨e0, e1⟩ := index_r t
    match a with
    | ⟨0, _⟩ => show win0_3.index t (0 : Fin 2) * 512 + 1 * i.val = r.val; omega
    | ⟨1, _⟩ => show win0_3.index t (1 : Fin 2) * 2048 + 1 * l.val = l.val; omega)

/-- What grid point `t` writes back is its block of the projection. -/
theorem flushed_eq (c : Dev nD) (t : Fin cfg0.N) :
    (dats m 0 c).flushed 3 t = ((cfg0.win 3).blk t).view.read (Elt Ideal) (result m c) := by
  rw [Value.flushed3]
  funext j
  have ht : t.val < 64 := lt_of_lt_of_eq t.isLt Gen.N_0
  obtain ⟨i, l, rfl⟩ : ∃ (i : Fin 512) (l : Fin 2048), j = ix2 i l := ⟨j 0, j 1, by funext a; match a with | ⟨0, _⟩ => rfl | ⟨1, _⟩ => rfl⟩
  have hi := i.isLt
  show out0_3 (iblk m c 0 t) (iblk m c 1 t) (iblk m c 2 t) (ix2 i l) = result m c (((cfg0.win 3).blk t).view.emb (ix2 i l))
  have hr : t.val * 512 + i.val < 32768 := by omega
  rw [emb_r t i l ⟨t.val * 512 + i.val, hr⟩ rfl]
  refine (out_apply _ _ _ i l).trans ?_
  unfold result InProj.proj
  refine Finset.sum_congr rfl fun k _ => ?_
  exact congrArg₂ (fun a b : EReal => a * b) (congrArg₂ (fun h g => Norm.rms h g k) (funext fun j => iblk_x m c t i j _ rfl) (funext fun j => iblk_g m c t j))
    (iblk_w m c t k l)

/-- Every index of the result lies in some grid point's block. -/
theorem covered (i : S32768x2048.Idx) : ∃ t : Fin cfg0.N, (cfg0.win 3).flush t = true ∧ i ∈ ((cfg0.win 3).blk t).view.set := by
  have h0 : (i 0).val < 32768 := (i 0).isLt
  have hb : (i 0).val / 512 < cfg0.N := lt_of_lt_of_eq (by omega) Gen.N_0.symm
  refine ⟨⟨_, hb⟩, flush0_3 _, ?_⟩
  have h := ((cfg0.win 3).blk ⟨_, hb⟩).view.emb_mem_set (ix2 (⟨(i 0).val % 512, Nat.mod_lt _ (by norm_num)⟩ : Fin 512) (i 1 : Fin 2048))
  have h2 := emb_r ⟨_, hb⟩ (⟨(i 0).val % 512, Nat.mod_lt _ (by norm_num)⟩ : Fin 512) (i 1 : Fin 2048) (i 0 : Fin 32768)
    (by show (i 0).val = (i 0).val / 512 * 512 + (i 0).val % 512; omega)
  have he : i = ix2 (i 0 : Fin 32768) (i 1 : Fin 2048) := by funext a; match a with | ⟨0, _⟩ => rfl | ⟨1, _⟩ => rfl
  exact (congrArg (fun j => j ∈ ((cfg0.win 3).blk ⟨_, hb⟩).view.set) (he.trans h2.symm)).mpr h

/-- The result array after the run. -/
theorem final3 (c : Dev nD) : (dats m 0 c).arrAt 3 cfg0.N = result m c :=
  (dats m 0 c).arrAt_eq_of_cover 3 (result m c) (fun t _ => flushed_eq m c t) covered

end Cert.InKernelIdeal.Proj

end
-- ==== Proof.PoolSpec.lean ====
/-
  The pooling mixer from its projected input: each group of 512 columns averaged over its window of rows, the rows themselves
  subtracted, the groups' products with their weights, the scale, and the product with the output weights added to the layer's input.
-/
module

public import Idealize.ShloMosaic.Lib.Pointwise

@[expose] public section

noncomputable section

namespace Cert.Pool

open Idealize.ShloMosaic

/-- Column `c` of sequence `b`'s rows, with eight rows of zeros before them and zeros after them: entry `p` is row `p - 8`. -/
def padded (z : FVec Ideal ⟨2, ![32768, 2048]⟩ .f32) (b : Nat) (c : Fin 2048) (p : Nat) : EReal :=
  if 8 ≤ p ∧ p < 8200 then (z (ix2 (⟨(b * 8192 + (p - 8)) % 32768, Nat.mod_lt _ (by norm_num)⟩ : Fin 32768) c) : EReal) else 0

/-- The window's width in column `k`'s group: 2, 4, 8 and 16 rows. -/
def width (k : Nat) : Nat := 2 * 2 ^ (k / 512)

/-- How many rows of position `s`'s window of `w` rows lie in the sequence. -/
def count (s w : Nat) : EReal := (((min (s + w / 2) 8192 - (s - w / 2) : Nat) : ℝ) : EReal)

/-- The mean over the window of `w` rows around row `r`, less row `r`, in column `c`. -/
def pooled (z : FVec Ideal ⟨2, ![32768, 2048]⟩ .f32) (w : Nat) (r : Fin 32768) (c : Fin 2048) : EReal :=
  Ideal.div (∑ o ∈ Finset.range w, padded z (r.val / 8192) c (r.val % 8192 + 8 - w / 2 + o)) (count (r.val % 8192) w) - (z (ix2 r c) : EReal)

/-- The column of group `k / 512` at place `c`. -/
def column (k : Fin 2048) (c : Fin 512) : Fin 2048 := ⟨k.val / 512 * 512 + c.val, by have := k.isLt; have := c.isLt; omega⟩

/-- Column `k` of row `r` after its group's weights. -/
def mixed (z : FVec Ideal ⟨2, ![32768, 2048]⟩ .f32) (wg : FVec Ideal ⟨4, ![1, 4, 512, 512]⟩ .f32) (r : Fin 32768) (k : Fin 2048) : EReal :=
  ∑ c : Fin 512, pooled z (width k.val) r (column k c)
    * (wg (ix4 0 (⟨k.val / 512, by have := k.isLt; omega⟩ : Fin 4) c (⟨k.val % 512, Nat.mod_lt _ (by norm_num)⟩ : Fin 512)) : EReal)

/-- The mixer's result. -/
def mix (z : FVec Ideal ⟨2, ![32768, 2048]⟩ .f32) (wg : FVec Ideal ⟨4, ![1, 4, 512, 512]⟩ .f32) (scale : FVec Ideal ⟨2, ![1, 2048]⟩ .f32)
    (w : FVec Ideal ⟨3, ![1, 2048, 2048]⟩ .f32) (x : FVec Ideal ⟨2, ![32768, 2048]⟩ .f32) : FVec Ideal ⟨2, ![32768, 2048]⟩ .f32 := fun y =>
  ((x y : EReal) + ∑ k : Fin 2048, mixed z wg (y 0) k * (scale (ix2 0 k) : EReal) * (w (ix3 0 k (y 1)) : EReal) : EReal)

end Cert.Pool

end
-- ==== Proof.PoolBlock.lean ====
/-
  The pooling mixer on a block of 512 rows with the eight rows before and after it: the window sums by doubling, the means, the
  groups' products and the block of results.
-/
module

public import proofs.«01_k».proof.Proof.Gen.PoolKernelIdeal.Value
public import proofs.«01_k».proof.Proof.PoolSpec
public import Idealize.ShloMosaic.Lib.Pointwise
public import Idealize.ShloMosaic.Lib.KernelVsHost
public import Idealize.ShloMosaic.Lib.Pipeline.ValueKit.Tiles

@[expose] public section

set_option maxRecDepth 16384

noncomputable section

namespace Cert.PoolKernelIdeal.Pool

open Cert.PoolKernelIdeal Cert.PoolKernelIdeal.Gen Idealize.ShloMosaic

theorem hz : (![0, 0] : Fin 2 → Nat) = fun _ => 0 := funext fun a => by fin_cases a <;> rfl

/-- A block's place in its sequence of sixteen blocks, as the kernel reckons it from the grid's coordinate. -/
def place (n : Nat) : BitVec 32 :=
  Scalar.select (Scalar.andi (Scalar.xori (Scalar.cmpi .slt (Scalar.remsi (BitVec.ofNat 32 n) (Scalar.select (Scalar.cmpi .eq 16#32 0#32) 1#32 16#32)) 0#32)
      (Scalar.cmpi .slt (Scalar.select (Scalar.cmpi .eq 16#32 0#32) 1#32 16#32) 0#32))
      (Scalar.cmpi .ne (Scalar.remsi (BitVec.ofNat 32 n) (Scalar.select (Scalar.cmpi .eq 16#32 0#32) 1#32 16#32)) 0#32))
    (Scalar.addi (Scalar.remsi (BitVec.ofNat 32 n) (Scalar.select (Scalar.cmpi .eq 16#32 0#32) 1#32 16#32)) (Scalar.select (Scalar.cmpi .eq 16#32 0#32) 1#32 16#32))
    (Scalar.remsi (BitVec.ofNat 32 n) (Scalar.select (Scalar.cmpi .eq 16#32 0#32) 1#32 16#32))

theorem place_eq : ∀ n : Fin 64, place n.val = BitVec.ofNat 32 (n.val % 16) := by decide +kernel

/-- Whether a block has one before it in its sequence. -/
theorem before_eq : ∀ n : Fin 64, Scalar.cmpi .sgt (place n.val) 0#32 = if n.val % 16 = 0 then 0#1 else 1#1 := by decide +kernel

/-- Whether a block has one after it in its sequence. -/
theorem after_eq : ∀ n : Fin 64, Scalar.cmpi .slt (place n.val) 15#32 = if n.val % 16 = 15 then 0#1 else 1#1 := by decide +kernel

/-- A group's rows with the rows before and after them. -/
def extended (p q : BitVec 1) (z : Vec Ideal S512x512 .f32) (zp zn : Vec Ideal S8x512 .f32) : FVec Ideal S528x512 .f32 :=
  concatenate S528x512 0 [⟨S8x512, (Scalar.select p zp (broadcast S8x512 (Scalar.ofBits (F := Ideal) .f32 0x00000000#32)) : Vec Ideal S8x512 .f32)⟩, ⟨S512x512, z⟩,
    ⟨S8x512, (Scalar.select q zn (broadcast S8x512 (Scalar.ofBits (F := Ideal) .f32 0x00000000#32)) : Vec Ideal S8x512 .f32)⟩] concatenates_S8x512_S512x512_S8x512_S528x512_d0

/-- A vector plus itself moved up. -/
def twice (y : FVec Ideal S528x512 .f32) (a : BitVec 32) : FVec Ideal S528x512 .f32 := addf y (dynamicRotate 0 a none y rotates_S528x512_d0)

/-- The window sums of the 512 rows, moved down by half a window. -/
def rows (y : FVec Ideal S528x512 .f32) (a : BitVec 32) : FVec Ideal S512x512 .f32 :=
  extractStridedSlice S512x512 ![8, 0] (dynamicRotate 0 a none y rotates_S528x512_d0) slices_S528x512_o8_0_S512x512

/-- The window sums over the rows' counts, less the rows. -/
def means (pos : IVec S512x1 32) (h : BitVec 32) (win : FVec Ideal S512x512 .f32) (z : Vec Ideal S512x512 .f32) : FVec Ideal S512x512 .bf16 :=
  truncf .bf16 (subf (divf win (broadcastTo S512x512 (sitofp .f32 (subi (minsi (addi pos (broadcast S512x1 h)) (broadcast S512x1 8192#32))
    (maxsi (subi pos (broadcast S512x1 h)) (broadcast S512x1 0#32)))) broadcasts_S512x1_S512x512)) z) bitsLt_bf16_f32

/-- A group's means times its weights. -/
def weighed (p : FVec Ideal S512x512 .bf16) (w : Vec Ideal S1x512x512 .bf16) : FVec Ideal S512x512 .f32 :=
  matmul dot_S512x512_S512x512_S512x512_1_0_0_1_n_n none p (shapeCast S512x512 w shapeCasts_S1x512x512_S512x512 : FVec Ideal S512x512 .bf16) (constant (F := Ideal) S512x512 .f32 0x00000000#32 : FVec Ideal S512x512 .f32)

theorem pay6_eq (i : grid0.Coords) (z : Vec Ideal S512x512 .f32) (zp zn : Vec Ideal S8x512 .f32) (w : Vec Ideal S1x512x512 .bf16) :
    k0_pay6 z (k0_pay3 i z zp zn) (k0_pay4 i) (k0_pay5 i) w
      = weighed (means (k0_pay2 i) 1#32 (rows (twice (extended (Scalar.cmpi .sgt (place (i 0).val) 0#32) (Scalar.cmpi .slt (place (i 0).val) 15#32) z zp zn) 527#32) 1#32) z) w := rfl

theorem pay8_eq (p q : BitVec 1) (pos : IVec S512x1 32) (z : Vec Ideal S512x512 .f32) (zp zn : Vec Ideal S8x512 .f32) (w : Vec Ideal S1x512x512 .bf16) :
    k0_pay8 (k0_pay7 p q pos z zp zn) w
      = weighed (means pos 2#32 (rows (twice (twice (extended p q z zp zn) 527#32) 526#32) 2#32) z) w := rfl

theorem pay9_eq (p q : BitVec 1) (pos : IVec S512x1 32) (z : Vec Ideal S512x512 .f32) (zp zn : Vec Ideal S8x512 .f32) (w : Vec Ideal S1x512x512 .bf16) :
    k0_pay9 p q pos z zp zn w
      = weighed (means pos 4#32 (rows (twice (twice (twice (extended p q z zp zn) 527#32) 526#32) 524#32) 4#32) z) w := rfl

theorem pay10_eq (p q : BitVec 1) (pos : IVec S512x1 32) (m0 m1 m2 : FVec Ideal S512x512 .f32) (z : Vec Ideal S512x512 .f32) (zp zn : Vec Ideal S8x512 .f32)
    (w : Vec Ideal S1x512x512 .bf16) (s : Vec Ideal S1x2048 .f32) :
    k0_pay10 p q pos m0 m1 m2 z zp zn w s
      = mulf (concatenate S512x2048 1 [⟨S512x512, m0⟩, ⟨S512x512, m1⟩, ⟨S512x512, m2⟩,
          ⟨S512x512, weighed (means pos 8#32 (extractStridedSlice S512x512 ![0, 0] (twice (twice (twice (twice (extended p q z zp zn) 527#32) 526#32) 524#32) 520#32)
            slices_S528x512_o0_0_S512x512) z) w⟩] concatenates_S512x512_S512x512_S512x512_S512x512_S512x2048_d1)
        (broadcastTo S512x2048 (shapeCast S1x2048 s shapeCasts_S1x2048_S1x2048) broadcasts_S1x2048_S512x2048) := rfl

/-- A block's positions in its sequence. -/
theorem pos_apply (i : grid0.Coords) (a : Fin 512) : k0_pay2 i (ix2 a 0) = BitVec.ofNat 32 ((i 0).val % 16 * 512 + a.val) := by
  have hi : (i 0).val < 64 := (i 0).isLt
  have h := place_eq ⟨(i 0).val, hi⟩
  have ha := a.isLt
  refine (congrArg (fun b : BitVec 32 => b * 512#32 + BitVec.ofNat 32 (0 * 512 + a.val)) h).trans ?_
  apply BitVec.eq_of_toNat_eq
  simp only [BitVec.toNat_add, BitVec.toNat_mul, BitVec.toNat_ofNat]
  omega

theorem count_1 : ∀ (a : Fin 64) (b : Fin 128), (Scalar.subi (Scalar.minsi (Scalar.addi (BitVec.ofNat 32 (a.val * 128 + b.val)) 1#32) 8192#32)
    (Scalar.maxsi (Scalar.subi (BitVec.ofNat 32 (a.val * 128 + b.val)) 1#32) 0#32)).toInt = ((min (a.val * 128 + b.val + 1) 8192 - (a.val * 128 + b.val - 1) : Nat) : Int) := by
  decide +kernel

theorem count_2 : ∀ (a : Fin 64) (b : Fin 128), (Scalar.subi (Scalar.minsi (Scalar.addi (BitVec.ofNat 32 (a.val * 128 + b.val)) 2#32) 8192#32)
    (Scalar.maxsi (Scalar.subi (BitVec.ofNat 32 (a.val * 128 + b.val)) 2#32) 0#32)).toInt = ((min (a.val * 128 + b.val + 2) 8192 - (a.val * 128 + b.val - 2) : Nat) : Int) := by
  decide +kernel

theorem count_4 : ∀ (a : Fin 64) (b : Fin 128), (Scalar.subi (Scalar.minsi (Scalar.addi (BitVec.ofNat 32 (a.val * 128 + b.val)) 4#32) 8192#32)
    (Scalar.maxsi (Scalar.subi (BitVec.ofNat 32 (a.val * 128 + b.val)) 4#32) 0#32)).toInt = ((min (a.val * 128 + b.val + 4) 8192 - (a.val * 128 + b.val - 4) : Nat) : Int) := by
  decide +kernel

theorem count_8 : ∀ (a : Fin 64) (b : Fin 128), (Scalar.subi (Scalar.minsi (Scalar.addi (BitVec.ofNat 32 (a.val * 128 + b.val)) 8#32) 8192#32)
    (Scalar.maxsi (Scalar.subi (BitVec.ofNat 32 (a.val * 128 + b.val)) 8#32) 0#32)).toInt = ((min (a.val * 128 + b.val + 8) 8192 - (a.val * 128 + b.val - 8) : Nat) : Int) := by
  decide +kernel

/-- The means, at an index. -/
theorem means_apply (pos : IVec S512x1 32) (h : BitVec 32) (n : Nat) (win : FVec Ideal S512x512 .f32) (z : Vec Ideal S512x512 .f32) (a c : Fin 512) (s : Nat) (hs : s < 8192)
    (hp : pos (ix2 a 0) = BitVec.ofNat 32 s)
    (hc : ∀ (a : Fin 64) (b : Fin 128), (Scalar.subi (Scalar.minsi (Scalar.addi (BitVec.ofNat 32 (a.val * 128 + b.val)) h) 8192#32)
      (Scalar.maxsi (Scalar.subi (BitVec.ofNat 32 (a.val * 128 + b.val)) h) 0#32)).toInt = ((min (a.val * 128 + b.val + n) 8192 - (a.val * 128 + b.val - n) : Nat) : Int)) :
    (means pos h win z (ix2 a c) : EReal) = Ideal.div (win (ix2 a c)) (Pool.count s (2 * n)) - (z (ix2 a c) : EReal) := by
  have h1 := hc ⟨s / 128, by omega⟩ ⟨s % 128, Nat.mod_lt _ (by norm_num)⟩
  have h2 : s / 128 * 128 + s % 128 = s := by omega
  simp only [h2] at h1
  have h3 : 2 * n / 2 = n := by omega
  have h4 : (((Scalar.subi (Scalar.minsi (Scalar.addi (pos (ix2 a 0)) h) 8192#32) (Scalar.maxsi (Scalar.subi (pos (ix2 a 0)) h) 0#32)).toInt : ℝ) : EReal) = Pool.count s (2 * n) := by
    rw [hp, h1]
    unfold Pool.count
    rw [h3, Int.cast_natCast]
  rw [← h4]
  unfold means
  pointwise
  rfl

/-- The extended rows, at an index. -/
theorem extended_apply (p q : BitVec 1) (z : Vec Ideal S512x512 .f32) (zp zn : Vec Ideal S8x512 .f32) (c : Fin 512) (f : Nat → EReal)
    (h0 : ∀ j : Fin 8, ((Scalar.select p zp (broadcast S8x512 (Scalar.ofBits (F := Ideal) .f32 0x00000000#32)) : Vec Ideal S8x512 .f32) (ix2 j c) : EReal) = f j.val)
    (h1 : ∀ j : Fin 512, (z (ix2 j c) : EReal) = f (8 + j.val))
    (h2 : ∀ j : Fin 8, ((Scalar.select q zn (broadcast S8x512 (Scalar.ofBits (F := Ideal) .f32 0x00000000#32)) : Vec Ideal S8x512 .f32) (ix2 j c) : EReal) = f (520 + j.val)) (j : Fin 528) :
    (extended p q z zp zn (ix2 j c) : EReal) = f j.val := by
  have hj := j.isLt
  unfold extended
  generalize (Scalar.select p zp (broadcast S8x512 (Scalar.ofBits (F := Ideal) .f32 0x00000000#32)) : Vec Ideal S8x512 .f32) = y0 at h0 ⊢
  generalize (Scalar.select q zn (broadcast S8x512 (Scalar.ofBits (F := Ideal) .f32 0x00000000#32)) : Vec Ideal S8x512 .f32) = y2 at h2 ⊢
  pointwise
  split
  · exact h0 _
  split
  · exact (h1 _).trans (congrArg f (by simp only []; omega))
  · exact (h2 _).trans (congrArg f (by simp only []; omega))

/-- A doubled sum, at an index. -/
theorem twice_apply (y : FVec Ideal S528x512 .f32) (a : BitVec 32) (k n : Nat) (ha : a.toNat = 528 - k) (hk : 0 < k) (c : Fin 512) (g : Nat → EReal)
    (hy : ∀ j : Fin 528, j.val + n < 528 → (y (ix2 j c) : EReal) = g j.val) (j : Fin 528) (hj : j.val + (n + k) < 528) :
    (twice y a (ix2 j c) : EReal) = g j.val + g (j.val + k) := by
  have hr : dynamicRotate 0 a none y rotates_S528x512_d0 (ix2 j c) = y (ix2 (⟨j.val + k, by omega⟩ : Fin 528) c) :=
    dynamicRotate_apply 0 a y rotates_S528x512_d0 (ix2 j c) (ix2 (⟨j.val + k, by omega⟩ : Fin 528) c) fun b => by
      match b with
      | ⟨0, _⟩ => show j.val + k = (j.val + 528 - a.toNat % 528) % 528; rw [ha]; omega
      | ⟨1, _⟩ => rfl
  exact congrArg₂ (fun u v : EReal => u + v) (hy j (by omega)) ((congrArg (fun u : Ideal .f32 => (u : EReal)) hr).trans (hy ⟨j.val + k, by omega⟩ (by simp only []; omega)))

/-- The 512 rows' sums, at an index. -/
theorem rows_apply (y : FVec Ideal S528x512 .f32) (a : BitVec 32) (k n : Nat) (ha : a.toNat = k) (hk : k ≤ 8) (hn : n ≤ 8) (c : Fin 512) (g : Nat → EReal)
    (hy : ∀ j : Fin 528, j.val + n < 528 → (y (ix2 j c) : EReal) = g j.val) (i : Fin 512) :
    (rows y a (ix2 i c) : EReal) = g (i.val + 8 - k) := by
  have hi := i.isLt
  have hr : rows y a (ix2 i c) = y (ix2 (⟨i.val + 8 - k, by omega⟩ : Fin 528) c) := by
    unfold rows
    refine (extractStridedSlice_apply ![8, 0] _ slices_S528x512_o8_0_S512x512 (ix2 i c) (ix2 (⟨8 + i.val, by omega⟩ : Fin 528) c) fun b => ?_).trans ?_
    · match b with
      | ⟨0, _⟩ => rfl
      | ⟨1, _⟩ => show c.val = 0 + c.val; omega
    · refine dynamicRotate_apply 0 a y rotates_S528x512_d0 _ _ fun b => ?_
      match b with
      | ⟨0, _⟩ => show i.val + 8 - k = (8 + i.val + 528 - a.toNat % 528) % 528; rw [ha]; omega
      | ⟨1, _⟩ => rfl
  exact (congrArg (fun u : Ideal .f32 => (u : EReal)) hr).trans (hy ⟨i.val + 8 - k, by omega⟩ (by simp only []; omega))

/-- A group's product with its weights, at an index. -/
theorem weighed_apply (p : FVec Ideal S512x512 .bf16) (w : Vec Ideal S1x512x512 .bf16) (a d : Fin 512) :
    (weighed p w (ix2 a d) : EReal) = ∑ c : Fin 512, (p (ix2 a c) : EReal) * w (ix3 0 c d) := by
  unfold weighed
  pointwise

end Cert.PoolKernelIdeal.Pool

end
-- ==== Proof.PoolOut.lean ====
/-
  The pooling mixer's block of results, entry by entry, from its rows and the rows around them.
-/
module

public import proofs.«01_k».proof.Proof.PoolBlock

@[expose] public section

set_option maxRecDepth 16384

noncomputable section

namespace Cert.PoolKernelIdeal.Pool

open Cert.PoolKernelIdeal Cert.PoolKernelIdeal.Gen Idealize.ShloMosaic

/-- Doubling a window: the sum over `k` rows plus the sum over the next `k`. -/
theorem twice_sum (y : FVec Ideal S528x512 .f32) (a : BitVec 32) (k : Nat) (ha : a.toNat = 528 - k) (hk : 0 < k) (c : Fin 512) (f : Nat → EReal)
    (hy : ∀ j : Fin 528, j.val + (k - 1) < 528 → (y (ix2 j c) : EReal) = ∑ o ∈ Finset.range k, f (j.val + o)) (j : Fin 528) (hj : j.val + (k + k - 1) < 528) :
    (twice y a (ix2 j c) : EReal) = ∑ o ∈ Finset.range (k + k), f (j.val + o) := by
  refine (twice_apply y a k (k - 1) ha hk c (fun p => ∑ o ∈ Finset.range k, f (p + o)) hy j (by omega)).trans ?_
  rw [Finset.sum_range_add]
  refine congrArg (fun s : EReal => ∑ o ∈ Finset.range k, f (j.val + o) + s) (Finset.sum_congr rfl fun o _ => ?_)
  rw [Nat.add_assoc]

/-- A block's mean in a column, less the row, for any numbering of the rows around it. -/
def pooledAt (f : Fin 2048 → Nat → EReal) (x0 : Vec Ideal S512x2048 .f32) (s w : Nat) (a : Fin 512) (c : Fin 2048) : EReal :=
  Ideal.div (∑ o ∈ Finset.range w, f c (a.val + 8 - w / 2 + o)) (Pool.count s w) - (x0 (ix2 a c) : EReal)

/-- A block's rows after the groups' weights. -/
def mixedAt (f : Fin 2048 → Nat → EReal) (x0 : Vec Ideal S512x2048 .f32) (x3 : Vec Ideal S4x512x512 .bf16) (s : Nat) (a : Fin 512) (k : Fin 2048) : EReal :=
  ∑ c : Fin 512, pooledAt f x0 s (Pool.width k.val) a (Pool.column k c)
    * (x3 (ix3 (⟨k.val / 512, by have := k.isLt; omega⟩ : Fin 4) c (⟨k.val % 512, Nat.mod_lt _ (by norm_num)⟩ : Fin 512)) : EReal)

section

variable (i : grid0.Coords) (x0 : Vec Ideal S512x2048 .f32) (x1 x2 : Vec Ideal S8x2048 .f32) (x3 : Vec Ideal S4x512x512 .bf16) (f : Fin 2048 → Nat → EReal)

/-- A group of columns of the extended block. -/
theorem extended_ld (H0 : ∀ (j : Fin 8) (c : Fin 2048), (if (i 0).val % 16 = 0 then (0 : EReal) else (x1 (ix2 j c) : EReal)) = f c j.val)
    (H1 : ∀ (j : Fin 512) (c : Fin 2048), (x0 (ix2 j c) : EReal) = f c (8 + j.val))
    (H2 : ∀ (j : Fin 8) (c : Fin 2048), (if (i 0).val % 16 = 15 then (0 : EReal) else (x2 (ix2 j c) : EReal)) = f c (520 + j.val))
    (n : Nat) (hn : n + 512 ≤ 2048) (inb : ∀ a, (![0, n] : Fin 2 → Nat) a + S512x512.size a ≤ S512x2048.size a) (inb' : ∀ a, (![0, n] : Fin 2 → Nat) a + S8x512.size a ≤ S8x2048.size a) (c : Fin 512) (j : Fin 528) :
    (extended (Scalar.cmpi .sgt (place (i 0).val) 0#32) (Scalar.cmpi .slt (place (i 0).val) 15#32) (View.ld x0 (Rect.unit (s := S512x2048) ![0, n] S512x512.size inb))
      (View.ld x1 (Rect.unit (s := S8x2048) ![0, n] S8x512.size inb')) (View.ld x2 (Rect.unit (s := S8x2048) ![0, n] S8x512.size inb')) (ix2 j c) : EReal)
      = f ⟨n + c.val, by have := c.isLt; omega⟩ j.val := by
  have hi : (i 0).val < 64 := (i 0).isLt
  have hz8 (x : Vec Ideal S8x2048 .f32) (j : Fin 8) : View.ld x (Rect.unit (s := S8x2048) ![0, n] S8x512.size inb') (ix2 j c)
      = x (ix2 j (⟨n + c.val, by have := c.isLt; omega⟩ : Fin 2048)) :=
    View.ld_unit_apply_of x _ _ inb' _ _ fun a => by
      match a with
      | ⟨0, _⟩ => show j.val = 0 + j.val; omega
      | ⟨1, _⟩ => rfl
  refine extended_apply _ _ _ _ _ c (f ⟨n + c.val, by have := c.isLt; omega⟩) (fun j => ?_) (fun j => ?_) (fun j => ?_) j
  · rw [before_eq ⟨(i 0).val, hi⟩, ← H0 j]
    by_cases h : (i 0).val % 16 = 0
    · rw [if_pos h, if_pos h]
      exact Ideal.ofBits_zero_f32
    · rw [if_neg h, if_neg h]
      exact hz8 x1 j
  · refine Eq.trans ?_ (H1 j _)
    refine View.ld_unit_apply_of x0 _ _ inb _ _ fun a => ?_
    match a with
    | ⟨0, _⟩ => show j.val = 0 + j.val; omega
    | ⟨1, _⟩ => rfl
  · rw [after_eq ⟨(i 0).val, hi⟩, ← H2 j]
    by_cases h : (i 0).val % 16 = 15
    · rw [if_pos h, if_pos h]
      exact Ideal.ofBits_zero_f32
    · rw [if_neg h, if_neg h]
      exact hz8 x2 j

/-- A group's product, given its window sums. -/
theorem group_apply (h : BitVec 32) (w n g : Nat) (hg : g < 4) (hn : n = g * 512) (inb : ∀ a, (![0, n] : Fin 2 → Nat) a + S512x512.size a ≤ S512x2048.size a)
    (inb' : ∀ a, (![g, 0, 0] : Fin 3 → Nat) a + S1x512x512.size a ≤ S4x512x512.size a)
    (hw : Pool.width (g * 512) = 2 * w)
    (hc : ∀ (a : Fin 64) (b : Fin 128), (Scalar.subi (Scalar.minsi (Scalar.addi (BitVec.ofNat 32 (a.val * 128 + b.val)) h) 8192#32)
      (Scalar.maxsi (Scalar.subi (BitVec.ofNat 32 (a.val * 128 + b.val)) h) 0#32)).toInt = ((min (a.val * 128 + b.val + w) 8192 - (a.val * 128 + b.val - w) : Nat) : Int))
    (win : FVec Ideal S512x512 .f32) (a : Fin 512)
    (hwin : ∀ c : Fin 512, (win (ix2 a c) : EReal) = ∑ o ∈ Finset.range (2 * w), f ⟨n + c.val, by have := c.isLt; omega⟩ (a.val + 8 - w + o))
    (d : Fin 512) (k : Fin 2048) (hk : k.val = n + d.val) :
    (weighed (means (k0_pay2 i) h win (View.ld x0 (Rect.unit (s := S512x2048) ![0, n] S512x512.size inb)))
      (View.ld x3 (Rect.unit (s := S4x512x512) ![g, 0, 0] S1x512x512.size inb')) (ix2 a d) : EReal)
      = mixedAt f x0 x3 ((i 0).val % 16 * 512 + a.val) a k := by
  have hd := d.isLt
  have ha := a.isLt
  have hkg : k.val / 512 = g := by omega
  have hkw : Pool.width k.val = 2 * w := by
    rw [← hw]
    unfold Pool.width
    rw [hkg, show g * 512 / 512 = g by omega]
  have h2 : 2 * w / 2 = w := by omega
  rw [weighed_apply]
  unfold mixedAt pooledAt
  rw [hkw, h2]
  refine Finset.sum_congr rfl fun c _ => ?_
  have hcol : Pool.column k c = ⟨n + c.val, by have := c.isLt; omega⟩ := Fin.ext (by show k.val / 512 * 512 + c.val = n + c.val; omega)
  rw [hcol]
  refine congrArg₂ (fun u v : EReal => u * v) ((means_apply _ h w win _ a c _ (by omega) (pos_apply i a) hc).trans ?_) ?_
  · rw [hwin c]
    refine congrArg (fun u : EReal => _ - u) (View.ld_unit_apply_of x0 _ _ inb _ _ fun b => ?_)
    match b with
    | ⟨0, _⟩ => show a.val = 0 + a.val; omega
    | ⟨1, _⟩ => rfl
  · refine View.ld_unit_apply_of x3 _ _ inb' _ _ fun b => ?_
    match b with
    | ⟨0, _⟩ => show k.val / 512 = g + 0; omega
    | ⟨1, _⟩ => show c.val = 0 + c.val; omega
    | ⟨2, _⟩ => show k.val % 512 = 0 + d.val; omega

end

/-- The scaled groups, at an index. -/
theorem scaled_apply (m0 m1 m2 m3 : FVec Ideal S512x512 .f32) (s : Vec Ideal S1x2048 .f32) (G : Fin 2048 → EReal) (a : Fin 512)
    (h0 : ∀ (d : Fin 512) (k : Fin 2048), k.val = 0 + d.val → (m0 (ix2 a d) : EReal) = G k)
    (h1 : ∀ (d : Fin 512) (k : Fin 2048), k.val = 512 + d.val → (m1 (ix2 a d) : EReal) = G k)
    (h2 : ∀ (d : Fin 512) (k : Fin 2048), k.val = 1024 + d.val → (m2 (ix2 a d) : EReal) = G k)
    (h3 : ∀ (d : Fin 512) (k : Fin 2048), k.val = 1536 + d.val → (m3 (ix2 a d) : EReal) = G k) (k : Fin 2048) :
    (mulf (concatenate S512x2048 1 [⟨S512x512, m0⟩, ⟨S512x512, m1⟩, ⟨S512x512, m2⟩, ⟨S512x512, m3⟩] concatenates_S512x512_S512x512_S512x512_S512x512_S512x2048_d1)
      (broadcastTo S512x2048 (shapeCast S1x2048 s shapeCasts_S1x2048_S1x2048) broadcasts_S1x2048_S512x2048) (ix2 a k) : EReal) = G k * (s (ix2 0 k) : EReal) := by
  have hk := k.isLt
  rw [shapeCast_self]
  pointwise
  split
  · exact congrArg (fun u : EReal => u * (s (ix2 0 k) : EReal)) (h0 _ k (by simp only []; omega))
  split
  · exact congrArg (fun u : EReal => u * (s (ix2 0 k) : EReal)) (h1 _ k (by simp only []; omega))
  split
  · exact congrArg (fun u : EReal => u * (s (ix2 0 k) : EReal)) (h2 _ k (by simp only []; omega))
  · exact congrArg (fun u : EReal => u * (s (ix2 0 k) : EReal)) (h3 _ k (by simp only []; omega))

/-- The stored block from the scaled rows. -/
theorem pay1_apply (v : FVec Ideal S512x2048 .f32) (x : Vec Ideal S512x2048 .f32) (w : Vec Ideal S2048x2048 .bf16) (a : Fin 512) (l : Fin 2048) :
    (k0_pay1 v x w (ix2 a l) : EReal) = (x (ix2 a l) : EReal) + ∑ k : Fin 2048, (v (ix2 a k) : EReal) * w (ix2 k l) := by
  unfold k0_pay1
  rw [shapeCast_self]
  pointwise

/-- A block of results, at an index. -/
theorem out_apply (i : grid0.Coords) (x0 : Vec Ideal S512x2048 .f32) (x1 x2 : Vec Ideal S8x2048 .f32) (x3 : Vec Ideal S4x512x512 .bf16) (x4 : Vec Ideal S1x2048 .f32)
    (x5 : Vec Ideal S2048x2048 .bf16) (x6 : Vec Ideal S512x2048 .f32) (f : Fin 2048 → Nat → EReal)
    (H0 : ∀ (j : Fin 8) (c : Fin 2048), (if (i 0).val % 16 = 0 then (0 : EReal) else (x1 (ix2 j c) : EReal)) = f c j.val)
    (H1 : ∀ (j : Fin 512) (c : Fin 2048), (x0 (ix2 j c) : EReal) = f c (8 + j.val))
    (H2 : ∀ (j : Fin 8) (c : Fin 2048), (if (i 0).val % 16 = 15 then (0 : EReal) else (x2 (ix2 j c) : EReal)) = f c (520 + j.val)) (a : Fin 512) (l : Fin 2048) :
    (out0_7 i x0 x1 x2 x3 x4 x5 x6 (ix2 a l) : EReal) = (x6 (ix2 a l) : EReal)
      + ∑ k : Fin 2048, mixedAt f x0 x3 ((i 0).val % 16 * 512 + a.val) a k * (x4 (ix2 0 k) : EReal) * (x5 (ix2 k l) : EReal) := by
  unfold out0_7
  refine View.canon_apply_of_pieces (fun y : S512x2048.Idx => ((x6 y : EReal)
      + ∑ k : Fin 2048, mixedAt f x0 x3 ((i 0).val % 16 * 512 + (y 0).val) (y 0) k * (x4 (ix2 0 k) : EReal) * (x5 (ix2 k (y 1)) : EReal) : EReal)) _ ?_ (ix2 a l)
    (cover0_7 _ (ix2 a l))
  refine List.forall_mem_cons.mpr ⟨fun x => ?_, fun _ hn => absurd hn List.not_mem_nil⟩
  have he : r0_13.emb x = x := funext fun a => Fin.ext (by rw [Rect.emb_apply]; match a with | ⟨0, _⟩ => simp | ⟨1, _⟩ => simp)
  rw [he]
  obtain ⟨a, b, rfl⟩ : ∃ a b, x = ix2 a b := ⟨x 0, x 1, by funext a; match a with | ⟨0, _⟩ => rfl | ⟨1, _⟩ => rfl⟩
  have h6 : View.ld x6 r0_13 = x6 := View.ld_unit_zero (S := S512x2048) hz _ x6
  have h5 : View.ld x5 r0_14 = x5 := View.ld_unit_zero (S := S2048x2048) hz _ x5
  have h4 : View.ld x4 r0_12 = x4 := View.ld_unit_zero (S := S1x2048) hz _ x4
  refine (pay1_apply _ _ _ a b).trans ?_
  rw [h6, h5, h4]
  refine congrArg (fun s : EReal => (x6 (ix2 a b) : EReal) + s) (Finset.sum_congr rfl fun k _ => ?_)
  refine congrArg (fun s : EReal => s * (x5 (ix2 k b) : EReal)) ?_
  have ha := a.isLt
  have hy (n : Nat) (hn : n + 512 ≤ 2048) (inb : ∀ a, (![0, n] : Fin 2 → Nat) a + S512x512.size a ≤ S512x2048.size a) (inb' : ∀ a, (![0, n] : Fin 2 → Nat) a + S8x512.size a ≤ S8x2048.size a) (c : Fin 512) (j : Fin 528)
      (_ : j.val + (1 - 1) < 528) := (extended_ld i x0 x1 x2 f H0 H1 H2 n hn inb inb' c j).trans
        (by simp : _ = ∑ o ∈ Finset.range 1, f ⟨n + c.val, by have := c.isLt; omega⟩ (j.val + o))
  refine (congrArg (fun v : FVec Ideal S512x2048 .f32 => (v (ix2 a k) : EReal)) (pay10_eq _ _ _ _ _ _ _ _ _ _ _)).trans ?_
  refine scaled_apply _ _ _ _ _ (mixedAt f x0 x3 ((i 0).val % 16 * 512 + a.val) a) a (fun d k hk => ?_) (fun d k hk => ?_) (fun d k hk => ?_) (fun d k hk => ?_) k
  · refine (congrArg (fun v : FVec Ideal S512x512 .f32 => (v (ix2 a d) : EReal)) (pay6_eq i _ _ _ _)).trans ?_
    refine group_apply i x0 x3 f 1#32 1 0 0 (by norm_num) rfl _ _ rfl count_1 _ a (fun c => ?_) d k hk
    refine rows_apply _ 1#32 1 1 rfl (by norm_num) (by norm_num) c (fun p => ∑ o ∈ Finset.range (2 * 1), f ⟨0 + c.val, by have := c.isLt; omega⟩ (p + o)) ?_ a
    exact twice_sum _ 527#32 1 rfl (by norm_num) c (f ⟨0 + c.val, by have := c.isLt; omega⟩) (hy 0 (by norm_num) _ _ c)
  · refine (congrArg (fun v : FVec Ideal S512x512 .f32 => (v (ix2 a d) : EReal)) (pay8_eq _ _ _ _ _ _ _)).trans ?_
    refine group_apply i x0 x3 f 2#32 2 512 1 (by norm_num) rfl _ _ rfl count_2 _ a (fun c => ?_) d k hk
    refine rows_apply _ 2#32 2 3 rfl (by norm_num) (by norm_num) c (fun p => ∑ o ∈ Finset.range (2 * 2), f ⟨512 + c.val, by have := c.isLt; omega⟩ (p + o)) ?_ a
    exact twice_sum _ 526#32 2 rfl (by norm_num) c (f ⟨512 + c.val, by have := c.isLt; omega⟩) (twice_sum _ 527#32 1 rfl (by norm_num) c _ (hy 512 (by norm_num) _ _ c))
  · refine (congrArg (fun v : FVec Ideal S512x512 .f32 => (v (ix2 a d) : EReal)) (pay9_eq _ _ _ _ _ _ _)).trans ?_
    refine group_apply i x0 x3 f 4#32 4 1024 2 (by norm_num) rfl _ _ rfl count_4 _ a (fun c => ?_) d k hk
    refine rows_apply _ 4#32 4 7 rfl (by norm_num) (by norm_num) c (fun p => ∑ o ∈ Finset.range (2 * 4), f ⟨1024 + c.val, by have := c.isLt; omega⟩ (p + o)) ?_ a
    exact twice_sum _ 524#32 4 rfl (by norm_num) c (f ⟨1024 + c.val, by have := c.isLt; omega⟩) (twice_sum _ 526#32 2 rfl (by norm_num) c _ (twice_sum _ 527#32 1 rfl (by norm_num) c _ (hy 1024 (by norm_num) _ _ c)))
  · refine group_apply i x0 x3 f 8#32 8 1536 3 (by norm_num) rfl _ _ rfl count_8 _ a (fun c => ?_) d k hk
    refine (extractStridedSlice_apply ![0, 0] _ slices_S528x512_o0_0_S512x512 (ix2 a c) (ix2 (⟨a.val, by omega⟩ : Fin 528) c) fun b => ?_).trans ?_
    · match b with
      | ⟨0, _⟩ => show a.val = 0 + a.val; omega
      | ⟨1, _⟩ => show c.val = 0 + c.val; omega
    · exact twice_sum _ 520#32 8 rfl (by norm_num) c (f ⟨1536 + c.val, by have := c.isLt; omega⟩) (twice_sum _ 524#32 4 rfl (by norm_num) c _ (twice_sum _ 526#32 2 rfl (by norm_num) c _
        (twice_sum _ 527#32 1 rfl (by norm_num) c _ (hy 1536 (by norm_num) _ _ c)))) ⟨a.val, by omega⟩ (by simp only []; omega)

end Cert.PoolKernelIdeal.Pool

end
-- ==== Proof.PoolRun.lean ====
/-
  The pooling mixer's call as a whole: each grid point's blocks are read off the arguments, and the blocks it writes make up the result.
-/
module

public import proofs.«01_k».proof.Proof.PoolOut
public import Idealize.ShloMosaic.Lib.StableHlo.ReadAt

@[expose] public section

set_option maxRecDepth 16384

noncomputable section

namespace Cert.PoolKernelIdeal.Pool

open Cert.PoolKernelIdeal Cert.PoolKernelIdeal.Gen Idealize.ShloMosaic Idealize.ShloMosaic.TcCoe Idealize.SL.Sem

variable (m : (ℓ : Loc nD τ sig) → Buf (Elt Ideal) ℓ)

abbrev argZ (c : Dev nD) : Vec Ideal S32768x2048 .f32 := m ((c : Thread nD τ).loc main_arg0)
abbrev argG (c : Dev nD) : Vec Ideal S1x4x512x512 .f32 := m ((c : Thread nD τ).loc main_arg1)
abbrev argS (c : Dev nD) : Vec Ideal S1x2048 .f32 := m ((c : Thread nD τ).loc main_arg2)
abbrev argW (c : Dev nD) : Vec Ideal S1x2048x2048 .f32 := m ((c : Thread nD τ).loc main_arg3)
abbrev argX (c : Dev nD) : Vec Ideal S32768x2048 .f32 := m ((c : Thread nD τ).loc main_arg4)

/-- The groups' weights as the call gets them. -/
theorem V_g (c : Dev nD) (g : Fin 4) (k l : Fin 512) : (V m c main_v1 (ix3 g k l) : EReal) = (argG m c (ix4 0 g k l) : EReal) := by
  unfold V argG
  after_reads_at

/-- The scale as the call gets it. -/
theorem V_s (c : Dev nD) (k : Fin 2048) : (V m c main_v3 (ix2 0 k) : EReal) = (argS m c (ix2 0 k) : EReal) := by
  unfold V argS
  after_reads_at

/-- The output weights as the call gets them. -/
theorem V_w (c : Dev nD) (k l : Fin 2048) : (V m c main_v5 (ix2 k l) : EReal) = (argW m c (ix3 0 k l) : EReal) := by
  unfold V argW
  after_reads_at

theorem coords_eq (t : Fin grid0.N) : (grid0.coords t 0).val = t.val := by revert t; decide +kernel

theorem index_z (t : Fin grid0.N) : win0_0.index t 0 = t.val ∧ win0_0.index t 1 = 0 := by revert t; decide +kernel
theorem index_p (t : Fin grid0.N) : win0_1.index t 0 = t.val * 64 - 1 ∧ win0_1.index t 1 = 0 := by revert t; decide +kernel
theorem index_n (t : Fin grid0.N) : win0_2.index t 0 = min ((t.val + 1) * 64) 4095 ∧ win0_2.index t 1 = 0 := by revert t; decide +kernel
theorem index_g (t : Fin grid0.N) : win0_3.index t 0 = 0 ∧ win0_3.index t 1 = 0 ∧ win0_3.index t 2 = 0 := by revert t; decide +kernel
theorem index_s (t : Fin grid0.N) : win0_4.index t 0 = 0 ∧ win0_4.index t 1 = 0 := by revert t; decide +kernel
theorem index_w (t : Fin grid0.N) : win0_5.index t 0 = 0 ∧ win0_5.index t 1 = 0 := by revert t; decide +kernel
theorem index_x (t : Fin grid0.N) : win0_6.index t 0 = t.val ∧ win0_6.index t 1 = 0 := by revert t; decide +kernel
theorem index_r (t : Fin grid0.N) : win0_7.index t 0 = t.val ∧ win0_7.index t 1 = 0 := by revert t; decide +kernel

/-- An entry of the projected input's block. -/
theorem iblk_z (c : Dev nD) (t : Fin cfg0.N) (i : Fin 512) (l : Fin 2048) (r : Fin 32768) (hr : r.val = t.val * 512 + i.val) :
    (iblk m c 0 t (ix2 i l) : EReal) = (argZ m c (ix2 r l) : EReal) := by
  refine Eq.trans ?_ (congrFun (V_main_arg0 m c) (ix2 r l))
  show V m c main_arg0 (((cfg0.win 0).blk t).view.emb (ix2 i l)) = V m c main_arg0 (ix2 r l)
  obtain ⟨e0, e1⟩ := index_z t
  refine congrArg (V m c main_arg0) (funext fun a => Fin.ext ?_)
  match a with
  | ⟨0, _⟩ => show win0_0.index t (0 : Fin 2) * 512 + 1 * i.val = r.val; omega
  | ⟨1, _⟩ => show win0_0.index t (1 : Fin 2) * 2048 + 1 * l.val = l.val; omega

/-- An entry of the eight rows before the block. -/
theorem iblk_p (c : Dev nD) (t : Fin cfg0.N) (i : Fin 8) (l : Fin 2048) (r : Fin 32768) (hr : r.val = (t.val * 64 - 1) * 8 + i.val) :
    (iblk m c 1 t (ix2 i l) : EReal) = (argZ m c (ix2 r l) : EReal) := by
  refine Eq.trans ?_ (congrFun (V_main_arg0 m c) (ix2 r l))
  show V m c main_arg0 (((cfg0.win 1).blk t).view.emb (ix2 i l)) = V m c main_arg0 (ix2 r l)
  obtain ⟨e0, e1⟩ := index_p t
  refine congrArg (V m c main_arg0) (funext fun a => Fin.ext ?_)
  match a with
  | ⟨0, _⟩ => show win0_1.index t (0 : Fin 2) * 8 + 1 * i.val = r.val; omega
  | ⟨1, _⟩ => show win0_1.index t (1 : Fin 2) * 2048 + 1 * l.val = l.val; omega

/-- An entry of the eight rows after the block. -/
theorem iblk_n (c : Dev nD) (t : Fin cfg0.N) (i : Fin 8) (l : Fin 2048) (r : Fin 32768) (hr : r.val = min ((t.val + 1) * 64) 4095 * 8 + i.val) :
    (iblk m c 2 t (ix2 i l) : EReal) = (argZ m c (ix2 r l) : EReal) := by
  refine Eq.trans ?_ (congrFun (V_main_arg0 m c) (ix2 r l))
  show V m c main_arg0 (((cfg0.win 2).blk t).view.emb (ix2 i l)) = V m c main_arg0 (ix2 r l)
  obtain ⟨e0, e1⟩ := index_n t
  refine congrArg (V m c main_arg0) (funext fun a => Fin.ext ?_)
  match a with
  | ⟨0, _⟩ => show win0_2.index t (0 : Fin 2) * 8 + 1 * i.val = r.val; rw [e0]; omega
  | ⟨1, _⟩ => show win0_2.index t (1 : Fin 2) * 2048 + 1 * l.val = l.val; omega

/-- An entry of the groups' weights' block. -/
theorem iblk_g (c : Dev nD) (t : Fin cfg0.N) (g : Fin 4) (k l : Fin 512) : (iblk m c 3 t (ix3 g k l) : EReal) = (argG m c (ix4 0 g k l) : EReal) := by
  refine Eq.trans ?_ (V_g m c g k l)
  show V m c main_v1 (((cfg0.win 3).blk t).view.emb (ix3 g k l)) = V m c main_v1 (ix3 g k l)
  obtain ⟨e0, e1, e2⟩ := index_g t
  refine congrArg (V m c main_v1) (funext fun a => Fin.ext ?_)
  match a with
  | ⟨0, _⟩ => show win0_3.index t (0 : Fin 3) * 4 + 1 * g.val = g.val; omega
  | ⟨1, _⟩ => show win0_3.index t (1 : Fin 3) * 512 + 1 * k.val = k.val; omega
  | ⟨2, _⟩ => show win0_3.index t (2 : Fin 3) * 512 + 1 * l.val = l.val; omega

/-- An entry of the scale's block. -/
theorem iblk_s (c : Dev nD) (t : Fin cfg0.N) (k : Fin 2048) : (iblk m c 4 t (ix2 0 k) : EReal) = (argS m c (ix2 0 k) : EReal) := by
  refine Eq.trans ?_ (V_s m c k)
  show V m c main_v3 (((cfg0.win 4).blk t).view.emb (ix2 0 k)) = V m c main_v3 (ix2 0 k)
  obtain ⟨e0, e1⟩ := index_s t
  refine congrArg (V m c main_v3) (funext fun a => Fin.ext ?_)
  match a with
  | ⟨0, _⟩ => show win0_4.index t (0 : Fin 2) * 1 + 1 * 0 = 0; omega
  | ⟨1, _⟩ => show win0_4.index t (1 : Fin 2) * 2048 + 1 * k.val = k.val; omega

/-- An entry of the output weights' block. -/
theorem iblk_w (c : Dev nD) (t : Fin cfg0.N) (k l : Fin 2048) : (iblk m c 5 t (ix2 k l) : EReal) = (argW m c (ix3 0 k l) : EReal) := by
  refine Eq.trans ?_ (V_w m c k l)
  show V m c main_v5 (((cfg0.win 5).blk t).view.emb (ix2 k l)) = V m c main_v5 (ix2 k l)
  obtain ⟨e0, e1⟩ := index_w t
  refine congrArg (V m c main_v5) (funext fun a => Fin.ext ?_)
  match a with
  | ⟨0, _⟩ => show win0_5.index t (0 : Fin 2) * 2048 + 1 * k.val = k.val; omega
  | ⟨1, _⟩ => show win0_5.index t (1 : Fin 2) * 2048 + 1 * l.val = l.val; omega

/-- An entry of the layer input's block. -/
theorem iblk_x (c : Dev nD) (t : Fin cfg0.N) (i : Fin 512) (l : Fin 2048) (r : Fin 32768) (hr : r.val = t.val * 512 + i.val) :
    (iblk m c 6 t (ix2 i l) : EReal) = (argX m c (ix2 r l) : EReal) := by
  refine Eq.trans ?_ (congrFun (V_main_arg4 m c) (ix2 r l))
  show V m c main_arg4 (((cfg0.win 6).blk t).view.emb (ix2 i l)) = V m c main_arg4 (ix2 r l)
  obtain ⟨e0, e1⟩ := index_x t
  refine congrArg (V m c main_arg4) (funext fun a => Fin.ext ?_)
  match a with
  | ⟨0, _⟩ => show win0_6.index t (0 : Fin 2) * 512 + 1 * i.val = r.val; omega
  | ⟨1, _⟩ => show win0_6.index t (1 : Fin 2) * 2048 + 1 * l.val = l.val; omega

/-- The mixer's result of the arguments as launched. -/
abbrev result (c : Dev nD) : FVec Ideal S32768x2048 .f32 := Pool.mix (argZ m c) (argG m c) (argS m c) (argW m c) (argX m c)

/-- The rows around grid point `t`'s block, as rows of its padded sequence. -/
def around (c : Dev nD) (t : Fin cfg0.N) (k : Fin 2048) (j : Nat) : EReal := Pool.padded (argZ m c) (t.val / 16) k (t.val % 16 * 512 + j)

theorem around_before (c : Dev nD) (t : Fin cfg0.N) (j : Fin 8) (k : Fin 2048) :
    (if (grid0.coords t 0).val % 16 = 0 then (0 : EReal) else (iblk m c 1 t (ix2 j k) : EReal)) = around m c t k j.val := by
  have ht : t.val < 64 := lt_of_lt_of_eq t.isLt Gen.N_0
  have hj := j.isLt
  rw [coords_eq]
  unfold around Pool.padded
  by_cases h : t.val % 16 = 0
  · rw [if_pos h, if_neg (show ¬(8 ≤ t.val % 16 * 512 + j.val ∧ t.val % 16 * 512 + j.val < 8200) by omega)]
  · rw [if_neg h, if_pos (show 8 ≤ t.val % 16 * 512 + j.val ∧ t.val % 16 * 512 + j.val < 8200 by omega)]
    exact iblk_p m c t j k _ (by show (t.val / 16 * 8192 + (t.val % 16 * 512 + j.val - 8)) % 32768 = (t.val * 64 - 1) * 8 + j.val; omega)

theorem around_block (c : Dev nD) (t : Fin cfg0.N) (j : Fin 512) (k : Fin 2048) : (iblk m c 0 t (ix2 j k) : EReal) = around m c t k (8 + j.val) := by
  have ht : t.val < 64 := lt_of_lt_of_eq t.isLt Gen.N_0
  have hj := j.isLt
  unfold around Pool.padded
  rw [if_pos (show 8 ≤ t.val % 16 * 512 + (8 + j.val) ∧ t.val % 16 * 512 + (8 + j.val) < 8200 by omega)]
  exact iblk_z m c t j k _ (by show (t.val / 16 * 8192 + (t.val % 16 * 512 + (8 + j.val) - 8)) % 32768 = t.val * 512 + j.val; omega)

theorem around_after (c : Dev nD) (t : Fin cfg0.N) (j : Fin 8) (k : Fin 2048) :
    (if (grid0.coords t 0).val % 16 = 15 then (0 : EReal) else (iblk m c 2 t (ix2 j k) : EReal)) = around m c t k (520 + j.val) := by
  have ht : t.val < 64 := lt_of_lt_of_eq t.isLt Gen.N_0
  have hj := j.isLt
  rw [coords_eq]
  unfold around Pool.padded
  by_cases h : t.val % 16 = 15
  · rw [if_pos h, if_neg (show ¬(8 ≤ t.val % 16 * 512 + (520 + j.val) ∧ t.val % 16 * 512 + (520 + j.val) < 8200) by omega)]
  · rw [if_neg h, if_pos (show 8 ≤ t.val % 16 * 512 + (520 + j.val) ∧ t.val % 16 * 512 + (520 + j.val) < 8200 by omega)]
    exact iblk_n m c t j k _ (by
      show (t.val / 16 * 8192 + (t.val % 16 * 512 + (520 + j.val) - 8)) % 32768 = min ((t.val + 1) * 64) 4095 * 8 + j.val
      rw [Nat.min_eq_left (by omega)]
      omega)

/-- Half a window is at most eight rows. -/
theorem half_le (k : Fin 2048) : Pool.width k.val / 2 ≤ 8 := by
  have hk : k.val / 512 < 4 := by have := k.isLt; omega
  unfold Pool.width
  generalize k.val / 512 = g at hk
  interval_cases g <;> norm_num

/-- The block's rows after the groups' weights are the result's. -/
theorem mixed_eq (c : Dev nD) (t : Fin cfg0.N) (a : Fin 512) (r : Fin 32768) (hr : r.val = t.val * 512 + a.val) (k : Fin 2048) :
    mixedAt (around m c t) (iblk m c 0 t) (iblk m c 3 t) ((grid0.coords t 0).val % 16 * 512 + a.val) a k = Pool.mixed (argZ m c) (argG m c) r k := by
  have ht : t.val < 64 := lt_of_lt_of_eq t.isLt Gen.N_0
  have ha := a.isLt
  have hw := half_le k
  rw [coords_eq]
  unfold mixedAt Pool.mixed
  refine Finset.sum_congr rfl fun l _ => ?_
  refine congrArg₂ (fun u v : EReal => u * v) ?_ (iblk_g m c t _ l _)
  unfold pooledAt Pool.pooled around
  rw [iblk_z m c t a _ r hr, show r.val / 8192 = t.val / 16 by omega, show r.val % 8192 = t.val % 16 * 512 + a.val by omega]
  refine congrArg (fun u : EReal => Ideal.div u _ - _) (Finset.sum_congr rfl fun o _ => ?_)
  exact congrArg _ (by omega)

/-- Where grid point `t`'s block of results lies. -/
theorem emb_r (t : Fin cfg0.N) (i : Fin 512) (l : Fin 2048) (r : Fin 32768) (hr : r.val = t.val * 512 + i.val) :
    ((cfg0.win 7).blk t).view.emb (ix2 i l) = ix2 r l :=
  funext fun a => Fin.ext (by
    obtain ⟨e0, e1⟩ := index_r t
    match a with
    | ⟨0, _⟩ => show win0_7.index t (0 : Fin 2) * 512 + 1 * i.val = r.val; omega
    | ⟨1, _⟩ => show win0_7.index t (1 : Fin 2) * 2048 + 1 * l.val = l.val; omega)

/-- What grid point `t` writes back is its block of the result. -/
theorem flushed_eq (c : Dev nD) (t : Fin cfg0.N) :
    (dats m 0 c).flushed 7 t = ((cfg0.win 7).blk t).view.read (Elt Ideal) (result m c) := by
  rw [Value.flushed7]
  funext j
  have ht : t.val < 64 := lt_of_lt_of_eq t.isLt Gen.N_0
  obtain ⟨i, l, rfl⟩ : ∃ (i : Fin 512) (l : Fin 2048), j = ix2 i l := ⟨j 0, j 1, by funext a; match a with | ⟨0, _⟩ => rfl | ⟨1, _⟩ => rfl⟩
  have hi := i.isLt
  show out0_7 (grid0.coords t) (iblk m c 0 t) (iblk m c 1 t) (iblk m c 2 t) (iblk m c 3 t) (iblk m c 4 t) (iblk m c 5 t) (iblk m c 6 t) (ix2 i l)
    = result m c (((cfg0.win 7).blk t).view.emb (ix2 i l))
  have hr : t.val * 512 + i.val < 32768 := by omega
  rw [emb_r t i l ⟨t.val * 512 + i.val, hr⟩ rfl]
  refine (out_apply (grid0.coords t) _ _ _ _ _ _ _ (around m c t) (around_before m c t) (around_block m c t) (around_after m c t) i l).trans ?_
  unfold result Pool.mix
  refine congrArg₂ (fun a b : EReal => a + b) (iblk_x m c t i l _ rfl) (Finset.sum_congr rfl fun k _ => ?_)
  exact congrArg₂ (fun a b : EReal => a * b)
    (congrArg₂ (fun a b : EReal => a * b) (mixed_eq m c t i ⟨t.val * 512 + i.val, hr⟩ rfl k) (iblk_s m c t k)) (iblk_w m c t k l)

/-- Every index of the result lies in some grid point's block. -/
theorem covered (i : S32768x2048.Idx) : ∃ t : Fin cfg0.N, (cfg0.win 7).flush t = true ∧ i ∈ ((cfg0.win 7).blk t).view.set := by
  have h0 : (i 0).val < 32768 := (i 0).isLt
  have hb : (i 0).val / 512 < cfg0.N := lt_of_lt_of_eq (by omega) Gen.N_0.symm
  refine ⟨⟨_, hb⟩, flush0_7 _, ?_⟩
  have h := ((cfg0.win 7).blk ⟨_, hb⟩).view.emb_mem_set (ix2 (⟨(i 0).val % 512, Nat.mod_lt _ (by norm_num)⟩ : Fin 512) (i 1 : Fin 2048))
  have h2 := emb_r ⟨_, hb⟩ (⟨(i 0).val % 512, Nat.mod_lt _ (by norm_num)⟩ : Fin 512) (i 1 : Fin 2048) (i 0 : Fin 32768)
    (by show (i 0).val = (i 0).val / 512 * 512 + (i 0).val % 512; omega)
  have he : i = ix2 (i 0 : Fin 32768) (i 1 : Fin 2048) := by funext a; match a with | ⟨0, _⟩ => rfl | ⟨1, _⟩ => rfl
  exact (congrArg (fun j => j ∈ ((cfg0.win 7).blk ⟨_, hb⟩).view.set) (he.trans h2.symm)).mpr h

/-- The result array after the run. -/
theorem final7 (c : Dev nD) : (dats m 0 c).arrAt 7 cfg0.N = result m c :=
  (dats m 0 c).arrAt_eq_of_cover 7 (result m c) (fun t _ => flushed_eq m c t) covered

end Cert.PoolKernelIdeal.Pool

end
-- ==== Proof.PoolRef.lean ====
/-
  The reference's pooling mixer is the mixer: its shifted copies added up are the windows' sums, and its groups are multiplied by their weights apart.
-/
module

public import proofs.«01_k».proof.Proof.Gen.PoolReferenceIdeal.Read
public import proofs.«01_k».proof.Proof.PoolSpec
public import Idealize.ShloMosaic.Lib.Pointwise
public import Idealize.ShloMosaic.Lib.KernelVsHost

@[expose] public section

set_option maxRecDepth 16384

noncomputable section

namespace Cert.PoolReferenceIdeal.Pool

open Cert.PoolReferenceIdeal Cert.PoolReferenceIdeal.Gen Cert.PoolReferenceIdeal.Read Idealize.ShloMosaic

theorem zero_int : (FloatOps.sitofp (F := Ideal) .f32 (0#32) : EReal) = 0 := by
  show (((0#32 : BitVec 32).toInt : ℝ) : EReal) = 0
  norm_num

/-- The input's rows by sequence and position. -/
theorem rows_apply (z : FVec Ideal S32768x2048 .f32) (b : Fin 4) (s : Fin 8192) (k : Fin 2048) (r : Fin 32768) (hr : r.val = b.val * 8192 + s.val) :
    val_main_v0 (F := Ideal) z (ix3 b s k) = z (ix2 r k) := by
  have hb := b.isLt
  have hs := s.isLt
  have hk := k.isLt
  rw [val_main_v0_apply]
  refine congrArg z (funext fun a => Fin.ext ?_)
  match a with
  | ⟨0, _⟩ => show ((b.val * 8192 + s.val) * 2048 + k.val) / 2048 = r.val; omega
  | ⟨1, _⟩ => show ((b.val * 8192 + s.val) * 2048 + k.val) % 2048 = k.val; omega

/-- Group 0's columns. -/
theorem group0_apply (z : FVec Ideal S32768x2048 .f32) (b : Fin 4) (s : Fin 8192) (c : Fin 512) (r : Fin 32768) (hr : r.val = b.val * 8192 + s.val) :
    val_main_v10 (F := Ideal) z (ix3 b s c) = z (ix2 r (⟨0 + c.val, by have := c.isLt; omega⟩ : Fin 2048)) := by
  rw [val_main_v10_apply, ← rows_apply z b s _ r hr]
  refine congrArg (val_main_v0 (F := Ideal) z) (funext fun a => Fin.ext ?_)
  match a with
  | ⟨0, _⟩ => rfl
  | ⟨1, _⟩ => rfl
  | ⟨2, _⟩ => show c.val = 0 + c.val; omega

/-- Group 0's columns with zeros around them. -/
theorem padded0_apply (z : FVec Ideal S32768x2048 .f32) (b : Fin 4) (p : Fin 8193) (c : Fin 512) :
    (val_main_v11 (F := Ideal) z (ix3 b p c) : EReal) = Pool.padded z b.val ⟨0 + c.val, by have := c.isLt; omega⟩ (p.val + 8 - 1) := by
  have hb := b.isLt
  have hp := p.isLt
  unfold val_main_v11 Pool.padded
  by_cases hin : 1 ≤ p.val ∧ p.val - 1 < 8192
  · rw [if_pos (show 8 ≤ p.val + 8 - 1 ∧ p.val + 8 - 1 < 8200 by omega)]
    refine (pad_apply_of_inside _ _ _ _ _ _ _ (ix3 b p c) (ix3 b (⟨p.val - 1, hin.2⟩ : Fin 8192) c) fun a => ?_).trans
      (group0_apply z b _ c _ (by show (b.val * 8192 + (p.val + 8 - 1 - 8)) % 32768 = b.val * 8192 + (p.val - 1); omega))
    match a with
    | ⟨0, _⟩ => show b.val = 0 + b.val * (0 + 1); omega
    | ⟨1, _⟩ => show p.val = 1 + (p.val - 1) * (0 + 1); omega
    | ⟨2, _⟩ => show c.val = 0 + c.val * (0 + 1); omega
  · rw [if_neg (show ¬(8 ≤ p.val + 8 - 1 ∧ p.val + 8 - 1 < 8200) by omega)]
    refine (pad_apply_of_not_inside _ _ _ _ _ _ _ (ix3 b p c) (1 : Fin 3) (fun hn => hin ?_)).trans zero_int
    have h1 : 1 ≤ p.val := hn.1
    have h2 : (p.val - 1) / (0 + 1) < 8192 := hn.2.2
    omega

/-- Group 0's window sums. -/
theorem window0_apply (z : FVec Ideal S32768x2048 .f32) (b : Fin 4) (s : Fin 8192) (c : Fin 512) :
    (val_main_v16 (F := Ideal) z (ix3 b s c) : EReal) = ∑ o ∈ Finset.range 2, Pool.padded z b.val ⟨0 + c.val, by have := c.isLt; omega⟩ (s.val + 8 - 1 + o) := by
  have hs := s.isLt
  have hz : (val_main_v13 (F := Ideal) (ix3 b s c) : EReal) = 0 := Ideal.ofBits_zero_f32
  have h0 : (val_main_v12 (F := Ideal) z (ix3 b s c) : EReal) = Pool.padded z b.val ⟨0 + c.val, by have := c.isLt; omega⟩ (s.val + 8 - 1 + 0) := by
    rw [val_main_v12_apply]
    refine Eq.trans (congrArg (val_main_v11 (F := Ideal) z) (funext fun a => Fin.ext ?_)) ((padded0_apply z b (⟨s.val + 0, by omega⟩ : Fin 8193) c).trans (congrArg _ (by show s.val + 0 + 8 - 1 = s.val + 8 - 1 + 0; omega)))
    match a with
    | ⟨0, _⟩ => rfl
    | ⟨1, _⟩ => first | rfl | exact Nat.add_comm _ _
    | ⟨2, _⟩ => rfl
  have h1 : (val_main_v15 (F := Ideal) z (ix3 b s c) : EReal) = Pool.padded z b.val ⟨0 + c.val, by have := c.isLt; omega⟩ (s.val + 8 - 1 + 1) := by
    rw [val_main_v15_apply]
    refine Eq.trans (congrArg (val_main_v11 (F := Ideal) z) (funext fun a => Fin.ext ?_)) ((padded0_apply z b (⟨s.val + 1, by omega⟩ : Fin 8193) c).trans (congrArg _ (by show s.val + 1 + 8 - 1 = s.val + 8 - 1 + 1; omega)))
    match a with
    | ⟨0, _⟩ => rfl
    | ⟨1, _⟩ => first | rfl | exact Nat.add_comm _ _
    | ⟨2, _⟩ => rfl
  simp only [Finset.sum_range_succ, Finset.sum_range_zero]
  exact (congrArg₂ (fun u v : EReal => u + v) (congrArg₂ (fun u v : EReal => u + v) hz h0) h1)

theorem counted0 : ∀ (a : Fin 64) (b : Fin 128), (IntOp.subi (IntOp.minsi 8192#32 (IntOp.maxsi 0#32 (IntOp.subi (IntOp.addi (BitVec.ofNat 32 (a.val * 128 + b.val)) 2#32) 1#32))) (IntOp.minsi 8192#32 (IntOp.maxsi 0#32 (IntOp.subi (BitVec.ofNat 32 (a.val * 128 + b.val)) 1#32)))).toInt
    = ((min (a.val * 128 + b.val + 1) 8192 - (a.val * 128 + b.val - 1) : Nat) : Int) := by
  decide +kernel

/-- Group 0's counts. -/
theorem count0_apply (b : Fin 4) (s : Fin 8192) (c : Fin 512) : (val_main_v20 (F := Ideal) (ix3 b s c) : EReal) = Pool.count s.val 2 := by
  have hs := s.isLt
  have h1 := counted0 ⟨s.val / 128, by omega⟩ ⟨s.val % 128, Nat.mod_lt _ (by norm_num)⟩
  have h2 : s.val / 128 * 128 + s.val % 128 = s.val := by omega
  simp only [h2] at h1
  have h3 : val_main_v17 (F := Ideal) (ix1 s) = IntOp.subi (IntOp.minsi 8192#32 (IntOp.maxsi 0#32 (IntOp.subi (IntOp.addi (BitVec.ofNat 32 s.val) 2#32) 1#32))) (IntOp.minsi 8192#32 (IntOp.maxsi 0#32 (IntOp.subi (BitVec.ofNat 32 s.val) 1#32))) := by
    simp only [val_main_v17_apply]
    rfl
  rw [val_main_v20_apply, val_main_v19_apply, val_main_v18_apply]
  have h4 : idx_main_v19 (idx_main_v20 (ix3 b s c)) = ix1 s := funext fun a => match a with | ⟨0, _⟩ => rfl
  rw [h4, h3]
  show (((IntOp.subi (IntOp.minsi 8192#32 (IntOp.maxsi 0#32 (IntOp.subi (IntOp.addi (BitVec.ofNat 32 s.val) 2#32) 1#32))) (IntOp.minsi 8192#32 (IntOp.maxsi 0#32 (IntOp.subi (BitVec.ofNat 32 s.val) 1#32)))).toInt : ℝ) : EReal) = _
  rw [h1]
  unfold Pool.count
  rw [Int.cast_natCast]

/-- Group 0's means, less the rows. -/
theorem pooled0_apply (z : FVec Ideal S32768x2048 .f32) (b : Fin 4) (s : Fin 8192) (c : Fin 512) (r : Fin 32768) (hr : r.val = b.val * 8192 + s.val) :
    (val_main_v22 (F := Ideal) z (ix3 b s c) : EReal) = Pool.pooled z 2 r ⟨0 + c.val, by have := c.isLt; omega⟩ := by
  have hb := b.isLt
  have hs := s.isLt
  unfold Pool.pooled
  rw [show r.val / 8192 = b.val by omega, show r.val % 8192 = s.val by omega]
  exact congrArg₂ (fun u v : EReal => u - v) (congrArg₂ Ideal.div (window0_apply z b s c) (count0_apply b s c)) (group0_apply z b s c r hr)

/-- Group 1's columns. -/
theorem group1_apply (z : FVec Ideal S32768x2048 .f32) (b : Fin 4) (s : Fin 8192) (c : Fin 512) (r : Fin 32768) (hr : r.val = b.val * 8192 + s.val) :
    val_main_v31 (F := Ideal) z (ix3 b s c) = z (ix2 r (⟨512 + c.val, by have := c.isLt; omega⟩ : Fin 2048)) := by
  rw [val_main_v31_apply, ← rows_apply z b s _ r hr]
  refine congrArg (val_main_v0 (F := Ideal) z) (funext fun a => Fin.ext ?_)
  match a with
  | ⟨0, _⟩ => rfl
  | ⟨1, _⟩ => rfl
  | ⟨2, _⟩ => first | rfl | exact Nat.add_comm _ _

/-- Group 1's columns with zeros around them. -/
theorem padded1_apply (z : FVec Ideal S32768x2048 .f32) (b : Fin 4) (p : Fin 8195) (c : Fin 512) :
    (val_main_v32 (F := Ideal) z (ix3 b p c) : EReal) = Pool.padded z b.val ⟨512 + c.val, by have := c.isLt; omega⟩ (p.val + 8 - 2) := by
  have hb := b.isLt
  have hp := p.isLt
  unfold val_main_v32 Pool.padded
  by_cases hin : 2 ≤ p.val ∧ p.val - 2 < 8192
  · rw [if_pos (show 8 ≤ p.val + 8 - 2 ∧ p.val + 8 - 2 < 8200 by omega)]
    refine (pad_apply_of_inside _ _ _ _ _ _ _ (ix3 b p c) (ix3 b (⟨p.val - 2, hin.2⟩ : Fin 8192) c) fun a => ?_).trans
      (group1_apply z b _ c _ (by show (b.val * 8192 + (p.val + 8 - 2 - 8)) % 32768 = b.val * 8192 + (p.val - 2); omega))
    match a with
    | ⟨0, _⟩ => show b.val = 0 + b.val * (0 + 1); omega
    | ⟨1, _⟩ => show p.val = 2 + (p.val - 2) * (0 + 1); omega
    | ⟨2, _⟩ => show c.val = 0 + c.val * (0 + 1); omega
  · rw [if_neg (show ¬(8 ≤ p.val + 8 - 2 ∧ p.val + 8 - 2 < 8200) by omega)]
    refine (pad_apply_of_not_inside _ _ _ _ _ _ _ (ix3 b p c) (1 : Fin 3) (fun hn => hin ?_)).trans zero_int
    have h1 : 2 ≤ p.val := hn.1
    have h2 : (p.val - 2) / (0 + 1) < 8192 := hn.2.2
    omega

/-- Group 1's window sums. -/
theorem window1_apply (z : FVec Ideal S32768x2048 .f32) (b : Fin 4) (s : Fin 8192) (c : Fin 512) :
    (val_main_v41 (F := Ideal) z (ix3 b s c) : EReal) = ∑ o ∈ Finset.range 4, Pool.padded z b.val ⟨512 + c.val, by have := c.isLt; omega⟩ (s.val + 8 - 2 + o) := by
  have hs := s.isLt
  have hz : (val_main_v34 (F := Ideal) (ix3 b s c) : EReal) = 0 := Ideal.ofBits_zero_f32
  have h0 : (val_main_v33 (F := Ideal) z (ix3 b s c) : EReal) = Pool.padded z b.val ⟨512 + c.val, by have := c.isLt; omega⟩ (s.val + 8 - 2 + 0) := by
    rw [val_main_v33_apply]
    refine Eq.trans (congrArg (val_main_v32 (F := Ideal) z) (funext fun a => Fin.ext ?_)) ((padded1_apply z b (⟨s.val + 0, by omega⟩ : Fin 8195) c).trans (congrArg _ (by show s.val + 0 + 8 - 2 = s.val + 8 - 2 + 0; omega)))
    match a with
    | ⟨0, _⟩ => rfl
    | ⟨1, _⟩ => first | rfl | exact Nat.add_comm _ _
    | ⟨2, _⟩ => rfl
  have h1 : (val_main_v36 (F := Ideal) z (ix3 b s c) : EReal) = Pool.padded z b.val ⟨512 + c.val, by have := c.isLt; omega⟩ (s.val + 8 - 2 + 1) := by
    rw [val_main_v36_apply]
    refine Eq.trans (congrArg (val_main_v32 (F := Ideal) z) (funext fun a => Fin.ext ?_)) ((padded1_apply z b (⟨s.val + 1, by omega⟩ : Fin 8195) c).trans (congrArg _ (by show s.val + 1 + 8 - 2 = s.val + 8 - 2 + 1; omega)))
    match a with
    | ⟨0, _⟩ => rfl
    | ⟨1, _⟩ => first | rfl | exact Nat.add_comm _ _
    | ⟨2, _⟩ => rfl
  have h2 : (val_main_v38 (F := Ideal) z (ix3 b s c) : EReal) = Pool.padded z b.val ⟨512 + c.val, by have := c.isLt; omega⟩ (s.val + 8 - 2 + 2) := by
    rw [val_main_v38_apply]
    refine Eq.trans (congrArg (val_main_v32 (F := Ideal) z) (funext fun a => Fin.ext ?_)) ((padded1_apply z b (⟨s.val + 2, by omega⟩ : Fin 8195) c).trans (congrArg _ (by show s.val + 2 + 8 - 2 = s.val + 8 - 2 + 2; omega)))
    match a with
    | ⟨0, _⟩ => rfl
    | ⟨1, _⟩ => first | rfl | exact Nat.add_comm _ _
    | ⟨2, _⟩ => rfl
  have h3 : (val_main_v40 (F := Ideal) z (ix3 b s c) : EReal) = Pool.padded z b.val ⟨512 + c.val, by have := c.isLt; omega⟩ (s.val + 8 - 2 + 3) := by
    rw [val_main_v40_apply]
    refine Eq.trans (congrArg (val_main_v32 (F := Ideal) z) (funext fun a => Fin.ext ?_)) ((padded1_apply z b (⟨s.val + 3, by omega⟩ : Fin 8195) c).trans (congrArg _ (by show s.val + 3 + 8 - 2 = s.val + 8 - 2 + 3; omega)))
    match a with
    | ⟨0, _⟩ => rfl
    | ⟨1, _⟩ => first | rfl | exact Nat.add_comm _ _
    | ⟨2, _⟩ => rfl
  simp only [Finset.sum_range_succ, Finset.sum_range_zero]
  exact (congrArg₂ (fun u v : EReal => u + v) (congrArg₂ (fun u v : EReal => u + v) (congrArg₂ (fun u v : EReal => u + v) (congrArg₂ (fun u v : EReal => u + v) hz h0) h1) h2) h3)

theorem counted1 : ∀ (a : Fin 64) (b : Fin 128), (IntOp.subi (IntOp.minsi 8192#32 (IntOp.maxsi 0#32 (IntOp.subi (IntOp.addi (BitVec.ofNat 32 (a.val * 128 + b.val)) 4#32) 2#32))) (IntOp.minsi 8192#32 (IntOp.maxsi 0#32 (IntOp.subi (BitVec.ofNat 32 (a.val * 128 + b.val)) 2#32)))).toInt
    = ((min (a.val * 128 + b.val + 2) 8192 - (a.val * 128 + b.val - 2) : Nat) : Int) := by
  decide +kernel

/-- Group 1's counts. -/
theorem count1_apply (b : Fin 4) (s : Fin 8192) (c : Fin 512) : (val_main_v45 (F := Ideal) (ix3 b s c) : EReal) = Pool.count s.val 4 := by
  have hs := s.isLt
  have h1 := counted1 ⟨s.val / 128, by omega⟩ ⟨s.val % 128, Nat.mod_lt _ (by norm_num)⟩
  have h2 : s.val / 128 * 128 + s.val % 128 = s.val := by omega
  simp only [h2] at h1
  have h3 : val_main_v42 (F := Ideal) (ix1 s) = IntOp.subi (IntOp.minsi 8192#32 (IntOp.maxsi 0#32 (IntOp.subi (IntOp.addi (BitVec.ofNat 32 s.val) 4#32) 2#32))) (IntOp.minsi 8192#32 (IntOp.maxsi 0#32 (IntOp.subi (BitVec.ofNat 32 s.val) 2#32))) := by
    simp only [val_main_v42_apply]
    rfl
  rw [val_main_v45_apply, val_main_v44_apply, val_main_v43_apply]
  have h4 : idx_main_v44 (idx_main_v45 (ix3 b s c)) = ix1 s := funext fun a => match a with | ⟨0, _⟩ => rfl
  rw [h4, h3]
  show (((IntOp.subi (IntOp.minsi 8192#32 (IntOp.maxsi 0#32 (IntOp.subi (IntOp.addi (BitVec.ofNat 32 s.val) 4#32) 2#32))) (IntOp.minsi 8192#32 (IntOp.maxsi 0#32 (IntOp.subi (BitVec.ofNat 32 s.val) 2#32)))).toInt : ℝ) : EReal) = _
  rw [h1]
  unfold Pool.count
  rw [Int.cast_natCast]

/-- Group 1's means, less the rows. -/
theorem pooled1_apply (z : FVec Ideal S32768x2048 .f32) (b : Fin 4) (s : Fin 8192) (c : Fin 512) (r : Fin 32768) (hr : r.val = b.val * 8192 + s.val) :
    (val_main_v47 (F := Ideal) z (ix3 b s c) : EReal) = Pool.pooled z 4 r ⟨512 + c.val, by have := c.isLt; omega⟩ := by
  have hb := b.isLt
  have hs := s.isLt
  unfold Pool.pooled
  rw [show r.val / 8192 = b.val by omega, show r.val % 8192 = s.val by omega]
  exact congrArg₂ (fun u v : EReal => u - v) (congrArg₂ Ideal.div (window1_apply z b s c) (count1_apply b s c)) (group1_apply z b s c r hr)

/-- Group 2's columns. -/
theorem group2_apply (z : FVec Ideal S32768x2048 .f32) (b : Fin 4) (s : Fin 8192) (c : Fin 512) (r : Fin 32768) (hr : r.val = b.val * 8192 + s.val) :
    val_main_v56 (F := Ideal) z (ix3 b s c) = z (ix2 r (⟨1024 + c.val, by have := c.isLt; omega⟩ : Fin 2048)) := by
  rw [val_main_v56_apply, ← rows_apply z b s _ r hr]
  refine congrArg (val_main_v0 (F := Ideal) z) (funext fun a => Fin.ext ?_)
  match a with
  | ⟨0, _⟩ => rfl
  | ⟨1, _⟩ => rfl
  | ⟨2, _⟩ => first | rfl | exact Nat.add_comm _ _

/-- Group 2's columns with zeros around them. -/
theorem padded2_apply (z : FVec Ideal S32768x2048 .f32) (b : Fin 4) (p : Fin 8199) (c : Fin 512) :
    (val_main_v57 (F := Ideal) z (ix3 b p c) : EReal) = Pool.padded z b.val ⟨1024 + c.val, by have := c.isLt; omega⟩ (p.val + 8 - 4) := by
  have hb := b.isLt
  have hp := p.isLt
  unfold val_main_v57 Pool.padded
  by_cases hin : 4 ≤ p.val ∧ p.val - 4 < 8192
  · rw [if_pos (show 8 ≤ p.val + 8 - 4 ∧ p.val + 8 - 4 < 8200 by omega)]
    refine (pad_apply_of_inside _ _ _ _ _ _ _ (ix3 b p c) (ix3 b (⟨p.val - 4, hin.2⟩ : Fin 8192) c) fun a => ?_).trans
      (group2_apply z b _ c _ (by show (b.val * 8192 + (p.val + 8 - 4 - 8)) % 32768 = b.val * 8192 + (p.val - 4); omega))
    match a with
    | ⟨0, _⟩ => show b.val = 0 + b.val * (0 + 1); omega
    | ⟨1, _⟩ => show p.val = 4 + (p.val - 4) * (0 + 1); omega
    | ⟨2, _⟩ => show c.val = 0 + c.val * (0 + 1); omega
  · rw [if_neg (show ¬(8 ≤ p.val + 8 - 4 ∧ p.val + 8 - 4 < 8200) by omega)]
    refine (pad_apply_of_not_inside _ _ _ _ _ _ _ (ix3 b p c) (1 : Fin 3) (fun hn => hin ?_)).trans zero_int
    have h1 : 4 ≤ p.val := hn.1
    have h2 : (p.val - 4) / (0 + 1) < 8192 := hn.2.2
    omega

/-- Group 2's window sums. -/
theorem window2_apply (z : FVec Ideal S32768x2048 .f32) (b : Fin 4) (s : Fin 8192) (c : Fin 512) :
    (val_main_v74 (F := Ideal) z (ix3 b s c) : EReal) = ∑ o ∈ Finset.range 8, Pool.padded z b.val ⟨1024 + c.val, by have := c.isLt; omega⟩ (s.val + 8 - 4 + o) := by
  have hs := s.isLt
  have hz : (val_main_v59 (F := Ideal) (ix3 b s c) : EReal) = 0 := Ideal.ofBits_zero_f32
  have h0 : (val_main_v58 (F := Ideal) z (ix3 b s c) : EReal) = Pool.padded z b.val ⟨1024 + c.val, by have := c.isLt; omega⟩ (s.val + 8 - 4 + 0) := by
    rw [val_main_v58_apply]
    refine Eq.trans (congrArg (val_main_v57 (F := Ideal) z) (funext fun a => Fin.ext ?_)) ((padded2_apply z b (⟨s.val + 0, by omega⟩ : Fin 8199) c).trans (congrArg _ (by show s.val + 0 + 8 - 4 = s.val + 8 - 4 + 0; omega)))
    match a with
    | ⟨0, _⟩ => rfl
    | ⟨1, _⟩ => first | rfl | exact Nat.add_comm _ _
    | ⟨2, _⟩ => rfl
  have h1 : (val_main_v61 (F := Ideal) z (ix3 b s c) : EReal) = Pool.padded z b.val ⟨1024 + c.val, by have := c.isLt; omega⟩ (s.val + 8 - 4 + 1) := by
    rw [val_main_v61_apply]
    refine Eq.trans (congrArg (val_main_v57 (F := Ideal) z) (funext fun a => Fin.ext ?_)) ((padded2_apply z b (⟨s.val + 1, by omega⟩ : Fin 8199) c).trans (congrArg _ (by show s.val + 1 + 8 - 4 = s.val + 8 - 4 + 1; omega)))
    match a with
    | ⟨0, _⟩ => rfl
    | ⟨1, _⟩ => first | rfl | exact Nat.add_comm _ _
    | ⟨2, _⟩ => rfl
  have h2 : (val_main_v63 (F := Ideal) z (ix3 b s c) : EReal) = Pool.padded z b.val ⟨1024 + c.val, by have := c.isLt; omega⟩ (s.val + 8 - 4 + 2) := by
    rw [val_main_v63_apply]
    refine Eq.trans (congrArg (val_main_v57 (F := Ideal) z) (funext fun a => Fin.ext ?_)) ((padded2_apply z b (⟨s.val + 2, by omega⟩ : Fin 8199) c).trans (congrArg _ (by show s.val + 2 + 8 - 4 = s.val + 8 - 4 + 2; omega)))
    match a with
    | ⟨0, _⟩ => rfl
    | ⟨1, _⟩ => first | rfl | exact Nat.add_comm _ _
    | ⟨2, _⟩ => rfl
  have h3 : (val_main_v65 (F := Ideal) z (ix3 b s c) : EReal) = Pool.padded z b.val ⟨1024 + c.val, by have := c.isLt; omega⟩ (s.val + 8 - 4 + 3) := by
    rw [val_main_v65_apply]
    refine Eq.trans (congrArg (val_main_v57 (F := Ideal) z) (funext fun a => Fin.ext ?_)) ((padded2_apply z b (⟨s.val + 3, by omega⟩ : Fin 8199) c).trans (congrArg _ (by show s.val + 3 + 8 - 4 = s.val + 8 - 4 + 3; omega)))
    match a with
    | ⟨0, _⟩ => rfl
    | ⟨1, _⟩ => first | rfl | exact Nat.add_comm _ _
    | ⟨2, _⟩ => rfl
  have h4 : (val_main_v67 (F := Ideal) z (ix3 b s c) : EReal) = Pool.padded z b.val ⟨1024 + c.val, by have := c.isLt; omega⟩ (s.val + 8 - 4 + 4) := by
    rw [val_main_v67_apply]
    refine Eq.trans (congrArg (val_main_v57 (F := Ideal) z) (funext fun a => Fin.ext ?_)) ((padded2_apply z b (⟨s.val + 4, by omega⟩ : Fin 8199) c).trans (congrArg _ (by show s.val + 4 + 8 - 4 = s.val + 8 - 4 + 4; omega)))
    match a with
    | ⟨0, _⟩ => rfl
    | ⟨1, _⟩ => first | rfl | exact Nat.add_comm _ _
    | ⟨2, _⟩ => rfl
  have h5 : (val_main_v69 (F := Ideal) z (ix3 b s c) : EReal) = Pool.padded z b.val ⟨1024 + c.val, by have := c.isLt; omega⟩ (s.val + 8 - 4 + 5) := by
    rw [val_main_v69_apply]
    refine Eq.trans (congrArg (val_main_v57 (F := Ideal) z) (funext fun a => Fin.ext ?_)) ((padded2_apply z b (⟨s.val + 5, by omega⟩ : Fin 8199) c).trans (congrArg _ (by show s.val + 5 + 8 - 4 = s.val + 8 - 4 + 5; omega)))
    match a with
    | ⟨0, _⟩ => rfl
    | ⟨1, _⟩ => first | rfl | exact Nat.add_comm _ _
    | ⟨2, _⟩ => rfl
  have h6 : (val_main_v71 (F := Ideal) z (ix3 b s c) : EReal) = Pool.padded z b.val ⟨1024 + c.val, by have := c.isLt; omega⟩ (s.val + 8 - 4 + 6) := by
    rw [val_main_v71_apply]
    refine Eq.trans (congrArg (val_main_v57 (F := Ideal) z) (funext fun a => Fin.ext ?_)) ((padded2_apply z b (⟨s.val + 6, by omega⟩ : Fin 8199) c).trans (congrArg _ (by show s.val + 6 + 8 - 4 = s.val + 8 - 4 + 6; omega)))
    match a with
    | ⟨0, _⟩ => rfl
    | ⟨1, _⟩ => first | rfl | exact Nat.add_comm _ _
    | ⟨2, _⟩ => rfl
  have h7 : (val_main_v73 (F := Ideal) z (ix3 b s c) : EReal) = Pool.padded z b.val ⟨1024 + c.val, by have := c.isLt; omega⟩ (s.val + 8 - 4 + 7) := by
    rw [val_main_v73_apply]
    refine Eq.trans (congrArg (val_main_v57 (F := Ideal) z) (funext fun a => Fin.ext ?_)) ((padded2_apply z b (⟨s.val + 7, by omega⟩ : Fin 8199) c).trans (congrArg _ (by show s.val + 7 + 8 - 4 = s.val + 8 - 4 + 7; omega)))
    match a with
    | ⟨0, _⟩ => rfl
    | ⟨1, _⟩ => first | rfl | exact Nat.add_comm _ _
    | ⟨2, _⟩ => rfl
  simp only [Finset.sum_range_succ, Finset.sum_range_zero]
  exact (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) hz h0) h1) h2) h3) h4) h5) h6) h7)

theorem counted2 : ∀ (a : Fin 64) (b : Fin 128), (IntOp.subi (IntOp.minsi 8192#32 (IntOp.maxsi 0#32 (IntOp.subi (IntOp.addi (BitVec.ofNat 32 (a.val * 128 + b.val)) 8#32) 4#32))) (IntOp.minsi 8192#32 (IntOp.maxsi 0#32 (IntOp.subi (BitVec.ofNat 32 (a.val * 128 + b.val)) 4#32)))).toInt
    = ((min (a.val * 128 + b.val + 4) 8192 - (a.val * 128 + b.val - 4) : Nat) : Int) := by
  decide +kernel

/-- Group 2's counts. -/
theorem count2_apply (b : Fin 4) (s : Fin 8192) (c : Fin 512) : (val_main_v78 (F := Ideal) (ix3 b s c) : EReal) = Pool.count s.val 8 := by
  have hs := s.isLt
  have h1 := counted2 ⟨s.val / 128, by omega⟩ ⟨s.val % 128, Nat.mod_lt _ (by norm_num)⟩
  have h2 : s.val / 128 * 128 + s.val % 128 = s.val := by omega
  simp only [h2] at h1
  have h3 : val_main_v75 (F := Ideal) (ix1 s) = IntOp.subi (IntOp.minsi 8192#32 (IntOp.maxsi 0#32 (IntOp.subi (IntOp.addi (BitVec.ofNat 32 s.val) 8#32) 4#32))) (IntOp.minsi 8192#32 (IntOp.maxsi 0#32 (IntOp.subi (BitVec.ofNat 32 s.val) 4#32))) := by
    simp only [val_main_v75_apply]
    rfl
  rw [val_main_v78_apply, val_main_v77_apply, val_main_v76_apply]
  have h4 : idx_main_v77 (idx_main_v78 (ix3 b s c)) = ix1 s := funext fun a => match a with | ⟨0, _⟩ => rfl
  rw [h4, h3]
  show (((IntOp.subi (IntOp.minsi 8192#32 (IntOp.maxsi 0#32 (IntOp.subi (IntOp.addi (BitVec.ofNat 32 s.val) 8#32) 4#32))) (IntOp.minsi 8192#32 (IntOp.maxsi 0#32 (IntOp.subi (BitVec.ofNat 32 s.val) 4#32)))).toInt : ℝ) : EReal) = _
  rw [h1]
  unfold Pool.count
  rw [Int.cast_natCast]

/-- Group 2's means, less the rows. -/
theorem pooled2_apply (z : FVec Ideal S32768x2048 .f32) (b : Fin 4) (s : Fin 8192) (c : Fin 512) (r : Fin 32768) (hr : r.val = b.val * 8192 + s.val) :
    (val_main_v80 (F := Ideal) z (ix3 b s c) : EReal) = Pool.pooled z 8 r ⟨1024 + c.val, by have := c.isLt; omega⟩ := by
  have hb := b.isLt
  have hs := s.isLt
  unfold Pool.pooled
  rw [show r.val / 8192 = b.val by omega, show r.val % 8192 = s.val by omega]
  exact congrArg₂ (fun u v : EReal => u - v) (congrArg₂ Ideal.div (window2_apply z b s c) (count2_apply b s c)) (group2_apply z b s c r hr)

/-- Group 3's columns. -/
theorem group3_apply (z : FVec Ideal S32768x2048 .f32) (b : Fin 4) (s : Fin 8192) (c : Fin 512) (r : Fin 32768) (hr : r.val = b.val * 8192 + s.val) :
    val_main_v89 (F := Ideal) z (ix3 b s c) = z (ix2 r (⟨1536 + c.val, by have := c.isLt; omega⟩ : Fin 2048)) := by
  rw [val_main_v89_apply, ← rows_apply z b s _ r hr]
  refine congrArg (val_main_v0 (F := Ideal) z) (funext fun a => Fin.ext ?_)
  match a with
  | ⟨0, _⟩ => rfl
  | ⟨1, _⟩ => rfl
  | ⟨2, _⟩ => first | rfl | exact Nat.add_comm _ _

/-- Group 3's columns with zeros around them. -/
theorem padded3_apply (z : FVec Ideal S32768x2048 .f32) (b : Fin 4) (p : Fin 8207) (c : Fin 512) :
    (val_main_v90 (F := Ideal) z (ix3 b p c) : EReal) = Pool.padded z b.val ⟨1536 + c.val, by have := c.isLt; omega⟩ (p.val + 8 - 8) := by
  have hb := b.isLt
  have hp := p.isLt
  unfold val_main_v90 Pool.padded
  by_cases hin : 8 ≤ p.val ∧ p.val - 8 < 8192
  · rw [if_pos (show 8 ≤ p.val + 8 - 8 ∧ p.val + 8 - 8 < 8200 by omega)]
    refine (pad_apply_of_inside _ _ _ _ _ _ _ (ix3 b p c) (ix3 b (⟨p.val - 8, hin.2⟩ : Fin 8192) c) fun a => ?_).trans
      (group3_apply z b _ c _ (by show (b.val * 8192 + (p.val + 8 - 8 - 8)) % 32768 = b.val * 8192 + (p.val - 8); omega))
    match a with
    | ⟨0, _⟩ => show b.val = 0 + b.val * (0 + 1); omega
    | ⟨1, _⟩ => show p.val = 8 + (p.val - 8) * (0 + 1); omega
    | ⟨2, _⟩ => show c.val = 0 + c.val * (0 + 1); omega
  · rw [if_neg (show ¬(8 ≤ p.val + 8 - 8 ∧ p.val + 8 - 8 < 8200) by omega)]
    refine (pad_apply_of_not_inside _ _ _ _ _ _ _ (ix3 b p c) (1 : Fin 3) (fun hn => hin ?_)).trans zero_int
    have h1 : 8 ≤ p.val := hn.1
    have h2 : (p.val - 8) / (0 + 1) < 8192 := hn.2.2
    omega

/-- Group 3's window sums. -/
theorem window3_apply (z : FVec Ideal S32768x2048 .f32) (b : Fin 4) (s : Fin 8192) (c : Fin 512) :
    (val_main_v123 (F := Ideal) z (ix3 b s c) : EReal) = ∑ o ∈ Finset.range 16, Pool.padded z b.val ⟨1536 + c.val, by have := c.isLt; omega⟩ (s.val + 8 - 8 + o) := by
  have hs := s.isLt
  have hz : (val_main_v92 (F := Ideal) (ix3 b s c) : EReal) = 0 := Ideal.ofBits_zero_f32
  have h0 : (val_main_v91 (F := Ideal) z (ix3 b s c) : EReal) = Pool.padded z b.val ⟨1536 + c.val, by have := c.isLt; omega⟩ (s.val + 8 - 8 + 0) := by
    rw [val_main_v91_apply]
    refine Eq.trans (congrArg (val_main_v90 (F := Ideal) z) (funext fun a => Fin.ext ?_)) ((padded3_apply z b (⟨s.val + 0, by omega⟩ : Fin 8207) c).trans (congrArg _ (by show s.val + 0 + 8 - 8 = s.val + 8 - 8 + 0; omega)))
    match a with
    | ⟨0, _⟩ => rfl
    | ⟨1, _⟩ => first | rfl | exact Nat.add_comm _ _
    | ⟨2, _⟩ => rfl
  have h1 : (val_main_v94 (F := Ideal) z (ix3 b s c) : EReal) = Pool.padded z b.val ⟨1536 + c.val, by have := c.isLt; omega⟩ (s.val + 8 - 8 + 1) := by
    rw [val_main_v94_apply]
    refine Eq.trans (congrArg (val_main_v90 (F := Ideal) z) (funext fun a => Fin.ext ?_)) ((padded3_apply z b (⟨s.val + 1, by omega⟩ : Fin 8207) c).trans (congrArg _ (by show s.val + 1 + 8 - 8 = s.val + 8 - 8 + 1; omega)))
    match a with
    | ⟨0, _⟩ => rfl
    | ⟨1, _⟩ => first | rfl | exact Nat.add_comm _ _
    | ⟨2, _⟩ => rfl
  have h2 : (val_main_v96 (F := Ideal) z (ix3 b s c) : EReal) = Pool.padded z b.val ⟨1536 + c.val, by have := c.isLt; omega⟩ (s.val + 8 - 8 + 2) := by
    rw [val_main_v96_apply]
    refine Eq.trans (congrArg (val_main_v90 (F := Ideal) z) (funext fun a => Fin.ext ?_)) ((padded3_apply z b (⟨s.val + 2, by omega⟩ : Fin 8207) c).trans (congrArg _ (by show s.val + 2 + 8 - 8 = s.val + 8 - 8 + 2; omega)))
    match a with
    | ⟨0, _⟩ => rfl
    | ⟨1, _⟩ => first | rfl | exact Nat.add_comm _ _
    | ⟨2, _⟩ => rfl
  have h3 : (val_main_v98 (F := Ideal) z (ix3 b s c) : EReal) = Pool.padded z b.val ⟨1536 + c.val, by have := c.isLt; omega⟩ (s.val + 8 - 8 + 3) := by
    rw [val_main_v98_apply]
    refine Eq.trans (congrArg (val_main_v90 (F := Ideal) z) (funext fun a => Fin.ext ?_)) ((padded3_apply z b (⟨s.val + 3, by omega⟩ : Fin 8207) c).trans (congrArg _ (by show s.val + 3 + 8 - 8 = s.val + 8 - 8 + 3; omega)))
    match a with
    | ⟨0, _⟩ => rfl
    | ⟨1, _⟩ => first | rfl | exact Nat.add_comm _ _
    | ⟨2, _⟩ => rfl
  have h4 : (val_main_v100 (F := Ideal) z (ix3 b s c) : EReal) = Pool.padded z b.val ⟨1536 + c.val, by have := c.isLt; omega⟩ (s.val + 8 - 8 + 4) := by
    rw [val_main_v100_apply]
    refine Eq.trans (congrArg (val_main_v90 (F := Ideal) z) (funext fun a => Fin.ext ?_)) ((padded3_apply z b (⟨s.val + 4, by omega⟩ : Fin 8207) c).trans (congrArg _ (by show s.val + 4 + 8 - 8 = s.val + 8 - 8 + 4; omega)))
    match a with
    | ⟨0, _⟩ => rfl
    | ⟨1, _⟩ => first | rfl | exact Nat.add_comm _ _
    | ⟨2, _⟩ => rfl
  have h5 : (val_main_v102 (F := Ideal) z (ix3 b s c) : EReal) = Pool.padded z b.val ⟨1536 + c.val, by have := c.isLt; omega⟩ (s.val + 8 - 8 + 5) := by
    rw [val_main_v102_apply]
    refine Eq.trans (congrArg (val_main_v90 (F := Ideal) z) (funext fun a => Fin.ext ?_)) ((padded3_apply z b (⟨s.val + 5, by omega⟩ : Fin 8207) c).trans (congrArg _ (by show s.val + 5 + 8 - 8 = s.val + 8 - 8 + 5; omega)))
    match a with
    | ⟨0, _⟩ => rfl
    | ⟨1, _⟩ => first | rfl | exact Nat.add_comm _ _
    | ⟨2, _⟩ => rfl
  have h6 : (val_main_v104 (F := Ideal) z (ix3 b s c) : EReal) = Pool.padded z b.val ⟨1536 + c.val, by have := c.isLt; omega⟩ (s.val + 8 - 8 + 6) := by
    rw [val_main_v104_apply]
    refine Eq.trans (congrArg (val_main_v90 (F := Ideal) z) (funext fun a => Fin.ext ?_)) ((padded3_apply z b (⟨s.val + 6, by omega⟩ : Fin 8207) c).trans (congrArg _ (by show s.val + 6 + 8 - 8 = s.val + 8 - 8 + 6; omega)))
    match a with
    | ⟨0, _⟩ => rfl
    | ⟨1, _⟩ => first | rfl | exact Nat.add_comm _ _
    | ⟨2, _⟩ => rfl
  have h7 : (val_main_v106 (F := Ideal) z (ix3 b s c) : EReal) = Pool.padded z b.val ⟨1536 + c.val, by have := c.isLt; omega⟩ (s.val + 8 - 8 + 7) := by
    rw [val_main_v106_apply]
    refine Eq.trans (congrArg (val_main_v90 (F := Ideal) z) (funext fun a => Fin.ext ?_)) ((padded3_apply z b (⟨s.val + 7, by omega⟩ : Fin 8207) c).trans (congrArg _ (by show s.val + 7 + 8 - 8 = s.val + 8 - 8 + 7; omega)))
    match a with
    | ⟨0, _⟩ => rfl
    | ⟨1, _⟩ => first | rfl | exact Nat.add_comm _ _
    | ⟨2, _⟩ => rfl
  have h8 : (val_main_v108 (F := Ideal) z (ix3 b s c) : EReal) = Pool.padded z b.val ⟨1536 + c.val, by have := c.isLt; omega⟩ (s.val + 8 - 8 + 8) := by
    rw [val_main_v108_apply]
    refine Eq.trans (congrArg (val_main_v90 (F := Ideal) z) (funext fun a => Fin.ext ?_)) ((padded3_apply z b (⟨s.val + 8, by omega⟩ : Fin 8207) c).trans (congrArg _ (by show s.val + 8 + 8 - 8 = s.val + 8 - 8 + 8; omega)))
    match a with
    | ⟨0, _⟩ => rfl
    | ⟨1, _⟩ => first | rfl | exact Nat.add_comm _ _
    | ⟨2, _⟩ => rfl
  have h9 : (val_main_v110 (F := Ideal) z (ix3 b s c) : EReal) = Pool.padded z b.val ⟨1536 + c.val, by have := c.isLt; omega⟩ (s.val + 8 - 8 + 9) := by
    rw [val_main_v110_apply]
    refine Eq.trans (congrArg (val_main_v90 (F := Ideal) z) (funext fun a => Fin.ext ?_)) ((padded3_apply z b (⟨s.val + 9, by omega⟩ : Fin 8207) c).trans (congrArg _ (by show s.val + 9 + 8 - 8 = s.val + 8 - 8 + 9; omega)))
    match a with
    | ⟨0, _⟩ => rfl
    | ⟨1, _⟩ => first | rfl | exact Nat.add_comm _ _
    | ⟨2, _⟩ => rfl
  have h10 : (val_main_v112 (F := Ideal) z (ix3 b s c) : EReal) = Pool.padded z b.val ⟨1536 + c.val, by have := c.isLt; omega⟩ (s.val + 8 - 8 + 10) := by
    rw [val_main_v112_apply]
    refine Eq.trans (congrArg (val_main_v90 (F := Ideal) z) (funext fun a => Fin.ext ?_)) ((padded3_apply z b (⟨s.val + 10, by omega⟩ : Fin 8207) c).trans (congrArg _ (by show s.val + 10 + 8 - 8 = s.val + 8 - 8 + 10; omega)))
    match a with
    | ⟨0, _⟩ => rfl
    | ⟨1, _⟩ => first | rfl | exact Nat.add_comm _ _
    | ⟨2, _⟩ => rfl
  have h11 : (val_main_v114 (F := Ideal) z (ix3 b s c) : EReal) = Pool.padded z b.val ⟨1536 + c.val, by have := c.isLt; omega⟩ (s.val + 8 - 8 + 11) := by
    rw [val_main_v114_apply]
    refine Eq.trans (congrArg (val_main_v90 (F := Ideal) z) (funext fun a => Fin.ext ?_)) ((padded3_apply z b (⟨s.val + 11, by omega⟩ : Fin 8207) c).trans (congrArg _ (by show s.val + 11 + 8 - 8 = s.val + 8 - 8 + 11; omega)))
    match a with
    | ⟨0, _⟩ => rfl
    | ⟨1, _⟩ => first | rfl | exact Nat.add_comm _ _
    | ⟨2, _⟩ => rfl
  have h12 : (val_main_v116 (F := Ideal) z (ix3 b s c) : EReal) = Pool.padded z b.val ⟨1536 + c.val, by have := c.isLt; omega⟩ (s.val + 8 - 8 + 12) := by
    rw [val_main_v116_apply]
    refine Eq.trans (congrArg (val_main_v90 (F := Ideal) z) (funext fun a => Fin.ext ?_)) ((padded3_apply z b (⟨s.val + 12, by omega⟩ : Fin 8207) c).trans (congrArg _ (by show s.val + 12 + 8 - 8 = s.val + 8 - 8 + 12; omega)))
    match a with
    | ⟨0, _⟩ => rfl
    | ⟨1, _⟩ => first | rfl | exact Nat.add_comm _ _
    | ⟨2, _⟩ => rfl
  have h13 : (val_main_v118 (F := Ideal) z (ix3 b s c) : EReal) = Pool.padded z b.val ⟨1536 + c.val, by have := c.isLt; omega⟩ (s.val + 8 - 8 + 13) := by
    rw [val_main_v118_apply]
    refine Eq.trans (congrArg (val_main_v90 (F := Ideal) z) (funext fun a => Fin.ext ?_)) ((padded3_apply z b (⟨s.val + 13, by omega⟩ : Fin 8207) c).trans (congrArg _ (by show s.val + 13 + 8 - 8 = s.val + 8 - 8 + 13; omega)))
    match a with
    | ⟨0, _⟩ => rfl
    | ⟨1, _⟩ => first | rfl | exact Nat.add_comm _ _
    | ⟨2, _⟩ => rfl
  have h14 : (val_main_v120 (F := Ideal) z (ix3 b s c) : EReal) = Pool.padded z b.val ⟨1536 + c.val, by have := c.isLt; omega⟩ (s.val + 8 - 8 + 14) := by
    rw [val_main_v120_apply]
    refine Eq.trans (congrArg (val_main_v90 (F := Ideal) z) (funext fun a => Fin.ext ?_)) ((padded3_apply z b (⟨s.val + 14, by omega⟩ : Fin 8207) c).trans (congrArg _ (by show s.val + 14 + 8 - 8 = s.val + 8 - 8 + 14; omega)))
    match a with
    | ⟨0, _⟩ => rfl
    | ⟨1, _⟩ => first | rfl | exact Nat.add_comm _ _
    | ⟨2, _⟩ => rfl
  have h15 : (val_main_v122 (F := Ideal) z (ix3 b s c) : EReal) = Pool.padded z b.val ⟨1536 + c.val, by have := c.isLt; omega⟩ (s.val + 8 - 8 + 15) := by
    rw [val_main_v122_apply]
    refine Eq.trans (congrArg (val_main_v90 (F := Ideal) z) (funext fun a => Fin.ext ?_)) ((padded3_apply z b (⟨s.val + 15, by omega⟩ : Fin 8207) c).trans (congrArg _ (by show s.val + 15 + 8 - 8 = s.val + 8 - 8 + 15; omega)))
    match a with
    | ⟨0, _⟩ => rfl
    | ⟨1, _⟩ => first | rfl | exact Nat.add_comm _ _
    | ⟨2, _⟩ => rfl
  simp only [Finset.sum_range_succ, Finset.sum_range_zero]
  exact (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) hz h0) h1) h2) h3) h4) h5) h6) h7) h8) h9) h10) h11) h12) h13) h14) h15)

theorem counted3 : ∀ (a : Fin 64) (b : Fin 128), (IntOp.subi (IntOp.minsi 8192#32 (IntOp.maxsi 0#32 (IntOp.subi (IntOp.addi (BitVec.ofNat 32 (a.val * 128 + b.val)) 16#32) 8#32))) (IntOp.minsi 8192#32 (IntOp.maxsi 0#32 (IntOp.subi (BitVec.ofNat 32 (a.val * 128 + b.val)) 8#32)))).toInt
    = ((min (a.val * 128 + b.val + 8) 8192 - (a.val * 128 + b.val - 8) : Nat) : Int) := by
  decide +kernel

/-- Group 3's counts. -/
theorem count3_apply (b : Fin 4) (s : Fin 8192) (c : Fin 512) : (val_main_v127 (F := Ideal) (ix3 b s c) : EReal) = Pool.count s.val 16 := by
  have hs := s.isLt
  have h1 := counted3 ⟨s.val / 128, by omega⟩ ⟨s.val % 128, Nat.mod_lt _ (by norm_num)⟩
  have h2 : s.val / 128 * 128 + s.val % 128 = s.val := by omega
  simp only [h2] at h1
  have h3 : val_main_v124 (F := Ideal) (ix1 s) = IntOp.subi (IntOp.minsi 8192#32 (IntOp.maxsi 0#32 (IntOp.subi (IntOp.addi (BitVec.ofNat 32 s.val) 16#32) 8#32))) (IntOp.minsi 8192#32 (IntOp.maxsi 0#32 (IntOp.subi (BitVec.ofNat 32 s.val) 8#32))) := by
    simp only [val_main_v124_apply]
    rfl
  rw [val_main_v127_apply, val_main_v126_apply, val_main_v125_apply]
  have h4 : idx_main_v126 (idx_main_v127 (ix3 b s c)) = ix1 s := funext fun a => match a with | ⟨0, _⟩ => rfl
  rw [h4, h3]
  show (((IntOp.subi (IntOp.minsi 8192#32 (IntOp.maxsi 0#32 (IntOp.subi (IntOp.addi (BitVec.ofNat 32 s.val) 16#32) 8#32))) (IntOp.minsi 8192#32 (IntOp.maxsi 0#32 (IntOp.subi (BitVec.ofNat 32 s.val) 8#32)))).toInt : ℝ) : EReal) = _
  rw [h1]
  unfold Pool.count
  rw [Int.cast_natCast]

/-- Group 3's means, less the rows. -/
theorem pooled3_apply (z : FVec Ideal S32768x2048 .f32) (b : Fin 4) (s : Fin 8192) (c : Fin 512) (r : Fin 32768) (hr : r.val = b.val * 8192 + s.val) :
    (val_main_v129 (F := Ideal) z (ix3 b s c) : EReal) = Pool.pooled z 16 r ⟨1536 + c.val, by have := c.isLt; omega⟩ := by
  have hb := b.isLt
  have hs := s.isLt
  unfold Pool.pooled
  rw [show r.val / 8192 = b.val by omega, show r.val % 8192 = s.val by omega]
  exact congrArg₂ (fun u v : EReal => u - v) (congrArg₂ Ideal.div (window3_apply z b s c) (count3_apply b s c)) (group3_apply z b s c r hr)

/-- The groups side by side. -/
theorem groups_apply (z : FVec Ideal S32768x2048 .f32) (b : Fin 4) (s : Fin 8192) (g : Fin 4) (c : Fin 512) (r : Fin 32768) (hr : r.val = b.val * 8192 + s.val) :
    (val_main_v134 (F := Ideal) z (ix4 b s g c) : EReal) = Pool.pooled z (2 * 2 ^ g.val) r ⟨g.val * 512 + c.val, by have := g.isLt; have := c.isLt; omega⟩ := by
  have h0 (u : Fin 1) : (val_main_v130 (F := Ideal) z (ix4 b s u c) : EReal) = Pool.pooled z 2 r ⟨0 + c.val, by have := c.isLt; omega⟩ := by
    rw [val_main_v130_apply]
    refine Eq.trans (congrArg (val_main_v22 (F := Ideal) z) (funext fun a => ?_)) (pooled0_apply z b s c r hr)
    match a with
    | ⟨0, _⟩ => rfl
    | ⟨1, _⟩ => rfl
    | ⟨2, _⟩ => rfl
  have h1 (u : Fin 1) : (val_main_v131 (F := Ideal) z (ix4 b s u c) : EReal) = Pool.pooled z 4 r ⟨512 + c.val, by have := c.isLt; omega⟩ := by
    rw [val_main_v131_apply]
    refine Eq.trans (congrArg (val_main_v47 (F := Ideal) z) (funext fun a => ?_)) (pooled1_apply z b s c r hr)
    match a with
    | ⟨0, _⟩ => rfl
    | ⟨1, _⟩ => rfl
    | ⟨2, _⟩ => rfl
  have h2 (u : Fin 1) : (val_main_v132 (F := Ideal) z (ix4 b s u c) : EReal) = Pool.pooled z 8 r ⟨1024 + c.val, by have := c.isLt; omega⟩ := by
    rw [val_main_v132_apply]
    refine Eq.trans (congrArg (val_main_v80 (F := Ideal) z) (funext fun a => ?_)) (pooled2_apply z b s c r hr)
    match a with
    | ⟨0, _⟩ => rfl
    | ⟨1, _⟩ => rfl
    | ⟨2, _⟩ => rfl
  have h3 (u : Fin 1) : (val_main_v133 (F := Ideal) z (ix4 b s u c) : EReal) = Pool.pooled z 16 r ⟨1536 + c.val, by have := c.isLt; omega⟩ := by
    rw [val_main_v133_apply]
    refine Eq.trans (congrArg (val_main_v129 (F := Ideal) z) (funext fun a => ?_)) (pooled3_apply z b s c r hr)
    match a with
    | ⟨0, _⟩ => rfl
    | ⟨1, _⟩ => rfl
    | ⟨2, _⟩ => rfl
  unfold val_main_v134
  generalize val_main_v130 (F := Ideal) z = y0 at h0 ⊢
  generalize val_main_v131 (F := Ideal) z = y1 at h1 ⊢
  generalize val_main_v132 (F := Ideal) z = y2 at h2 ⊢
  generalize val_main_v133 (F := Ideal) z = y3 at h3 ⊢
  have hg := g.isLt
  pointwise
  split
  · obtain rfl : g = 0 := Fin.ext (by show g.val = 0; omega)
    exact h0 _
  split
  · obtain rfl : g = 1 := Fin.ext (by show g.val = 1; omega)
    exact h1 _
  split
  · obtain rfl : g = 2 := Fin.ext (by show g.val = 2; omega)
    exact h2 _
  · obtain rfl : g = 3 := Fin.ext (by show g.val = 3; omega)
    exact h3 _

/-- The groups after their weights. -/
theorem mixed_apply (z : FVec Ideal S32768x2048 .f32) (wg : FVec Ideal S1x4x512x512 .f32) (b : Fin 4) (s : Fin 8192) (k : Fin 2048) (r : Fin 32768) (hr : r.val = b.val * 8192 + s.val) :
    (val_main_v138 (F := Ideal) z wg (ix3 b s k) : EReal) = Pool.mixed z wg r k := by
  have hb := b.isLt
  have hs := s.isLt
  have hk := k.isLt
  have h4 : k.val / 512 < 4 := by omega
  have h5 : k.val % 512 < 512 := Nat.mod_lt _ (by norm_num)
  have e138 : idx_main_v138 (ix3 b s k) = ix4 b s (⟨k.val / 512, h4⟩ : Fin 4) (⟨k.val % 512, h5⟩ : Fin 512) := funext fun a => Fin.ext (by
    match a with
    | ⟨0, _⟩ => show ((b.val * 8192 + s.val) * 2048 + k.val) / 16777216 = b.val; omega
    | ⟨1, _⟩ => show ((b.val * 8192 + s.val) * 2048 + k.val) / 2048 % 8192 = s.val; omega
    | ⟨2, _⟩ => show ((b.val * 8192 + s.val) * 2048 + k.val) / 512 % 4 = k.val / 512; omega
    | ⟨3, _⟩ => show ((b.val * 8192 + s.val) * 2048 + k.val) % 512 = k.val % 512; omega)
  rw [val_main_v138_apply, e138, val_main_v137_apply, val_main_v136_apply]
  unfold Pool.mixed
  refine Finset.sum_congr rfl fun c _ => ?_
  have hc := c.isLt
  refine (mul_comm _ _).trans (congrArg₂ (fun u v : EReal => u * v) ?_ ?_)
  · refine Eq.trans (congrArg (val_main_v134 (F := Ideal) z) (funext fun a => ?_)) (groups_apply z b s ⟨k.val / 512, h4⟩ c r hr)
    match a with
    | ⟨0, _⟩ => rfl
    | ⟨1, _⟩ => rfl
    | ⟨2, _⟩ => rfl
    | ⟨3, _⟩ => rfl
  · rw [val_main_v135_apply]
    refine congrArg wg (funext fun a => Fin.ext ?_)
    match a with
    | ⟨0, _⟩ => rfl
    | ⟨1, _⟩ => show ((k.val / 512 * 512 + c.val) * 512 + k.val % 512) / 262144 % 4 = k.val / 512; omega
    | ⟨2, _⟩ => show ((k.val / 512 * 512 + c.val) * 512 + k.val % 512) / 512 % 512 = c.val; omega
    | ⟨3, _⟩ => show ((k.val / 512 * 512 + c.val) * 512 + k.val % 512) % 512 = k.val % 512; omega

/-- The reference's result. -/
theorem result_eq (z : FVec Ideal S32768x2048 .f32) (wg : FVec Ideal S1x4x512x512 .f32) (scale : FVec Ideal S1x2048 .f32) (w : FVec Ideal S1x2048x2048 .f32)
    (x : FVec Ideal S32768x2048 .f32) : val_main_v146 (F := Ideal) z wg scale w x = Pool.mix z wg scale w x := by
  funext i
  have h0 : (i 0).val < 32768 := (i 0).isLt
  have h1 : (i 1).val < 2048 := (i 1).isLt
  have e145 : idx_main_v145 i = ix3 (⟨(i 0).val / 8192, by omega⟩ : Fin 4) (⟨(i 0).val % 8192, Nat.mod_lt _ (by norm_num)⟩ : Fin 8192) (⟨(i 1).val, h1⟩ : Fin 2048) :=
    funext fun a => Fin.ext (by
      match a with
      | ⟨0, _⟩ => show ((i 0).val * 2048 + (i 1).val) / 16777216 = (i 0).val / 8192; omega
      | ⟨1, _⟩ => show ((i 0).val * 2048 + (i 1).val) / 2048 % 8192 = (i 0).val % 8192; omega
      | ⟨2, _⟩ => show ((i 0).val * 2048 + (i 1).val) % 2048 = (i 1).val; omega)
  rw [val_main_v146_apply, val_main_v145_apply, e145, val_main_v144_apply]
  unfold Pool.mix
  refine congrArg (fun s : EReal => (x i : EReal) + s) (Finset.sum_congr rfl fun k _ => ?_)
  have hk := k.isLt
  refine congrArg₂ (fun u v : EReal => u * v) ?_ ?_
  · rw [val_main_v142_apply]
    refine congrArg₂ (fun u v : EReal => u * v) ?_ ?_
    · refine Eq.trans (congrArg (val_main_v138 (F := Ideal) z wg) (funext fun a => ?_))
        (mixed_apply z wg (⟨(i 0).val / 8192, by omega⟩ : Fin 4) (⟨(i 0).val % 8192, Nat.mod_lt _ (by norm_num)⟩ : Fin 8192) k (i 0)
          (by show (i 0).val = (i 0).val / 8192 * 8192 + (i 0).val % 8192; omega))
      match a with
      | ⟨0, _⟩ => rfl
      | ⟨1, _⟩ => rfl
      | ⟨2, _⟩ => rfl
    · rw [val_main_v141_apply, val_main_v140_apply, val_main_v139_apply]
      refine congrArg scale (funext fun a => Fin.ext ?_)
      match a with
      | ⟨0, _⟩ => rfl
      | ⟨1, _⟩ => show k.val % 2048 = k.val; omega
  · rw [val_main_v143_apply]
    refine congrArg w (funext fun a => Fin.ext ?_)
    match a with
    | ⟨0, _⟩ => rfl
    | ⟨1, _⟩ => show (k.val * 2048 + (i 1).val) / 2048 % 2048 = k.val; omega
    | ⟨2, _⟩ => show (k.val * 2048 + (i 1).val) % 2048 = (i 1).val; omega

end Cert.PoolReferenceIdeal.Pool

end
-- ==== Proof.Tables.lean ====
/-
  The experts' tables of the first layer in the two forms in which the retrieval reads them: the kernels' calls, the
  references, and what both compute. Nothing is calculated: each result's entry is one entry of the argument.
-/
module

public import proofs.«01_k».proof.Proof.Gen.UKernelIdeal.Value
public import proofs.«01_k».proof.Proof.Gen.UReferenceIdeal.Read
public import proofs.«01_k».proof.Proof.Gen.VKernelIdeal.Value
public import proofs.«01_k».proof.Proof.Gen.VReferenceIdeal.Read
public import Idealize.ShloMosaic.Lib.Pointwise
public import Idealize.ShloMosaic.Lib.StableHlo.ReadAt
public import Idealize.ShloMosaic.Lib.Pipeline.ValueKit.Tiles

@[expose] public section

set_option maxRecDepth 16384

noncomputable section

namespace Cert.Tables

open Idealize.ShloMosaic

/-- The expert of a group of 512 experts. -/
def expert (s : Fin 32) (e : Fin 512) : Fin 16384 := ⟨s.val * 512 + e.val, by have := s.isLt; have := e.isLt; omega⟩

/-- The column of a slice of 512 columns. -/
def column (c : Fin 4) (l : Fin 512) : Fin 2048 := ⟨c.val * 512 + l.val, by have := c.isLt; have := l.isLt; omega⟩

/-- The first layer's experts in groups of 512, the rows of a group in four slices of 512 columns. -/
def slices (u : FVec Ideal ⟨3, ![2, 16384, 2048]⟩ .f32) : FVec Ideal ⟨4, ![32, 4, 512, 512]⟩ .bf16 := fun y =>
  (u (ix3 0 (expert (y 0) (y 2)) (column (y 1) (y 3))) : EReal)

/-- The first layer's experts in groups of 512, each expert a column of its group. -/
def columns (v : FVec Ideal ⟨3, ![2, 16384, 2048]⟩ .f32) : FVec Ideal ⟨3, ![32, 2048, 512]⟩ .bf16 := fun y =>
  (v (ix3 0 (expert (y 0) (y 2)) (y 1)) : EReal)

end Cert.Tables

namespace Cert.UReferenceIdeal.Table

open Cert.UReferenceIdeal Cert.UReferenceIdeal.Gen Cert.UReferenceIdeal.Read Idealize.ShloMosaic

/-- The reference's result. -/
theorem result_eq (u : FVec Ideal S2x16384x2048 .f32) : val_main_v4 (F := Ideal) u = Tables.slices u := by
  funext i
  have h0 : (i 0).val < 32 := (i 0).isLt
  have h1 : (i 1).val < 4 := (i 1).isLt
  have h2 : (i 2).val < 512 := (i 2).isLt
  have h3 : (i 3).val < 512 := (i 3).isLt
  rw [val_main_v4_apply, val_main_v3_apply, val_main_v2_apply, val_main_v1_apply, val_main_v0_apply]
  unfold Tables.slices
  refine congrArg u (funext fun a => Fin.ext ?_)
  match a with
  | ⟨0, _⟩ => rfl
  | ⟨1, _⟩ =>
    show (((((i 0).val * 512 + (i 2).val) * 4 + (i 1).val) * 512 + (i 3).val) / 2048 * 2048
      + ((((i 0).val * 512 + (i 2).val) * 4 + (i 1).val) * 512 + (i 3).val) % 2048) / 2048 % 16384 = (i 0).val * 512 + (i 2).val
    omega
  | ⟨2, _⟩ =>
    show (((((i 0).val * 512 + (i 2).val) * 4 + (i 1).val) * 512 + (i 3).val) / 2048 * 2048
      + ((((i 0).val * 512 + (i 2).val) * 4 + (i 1).val) * 512 + (i 3).val) % 2048) % 2048 = (i 1).val * 512 + (i 3).val
    omega

end Cert.UReferenceIdeal.Table

namespace Cert.VReferenceIdeal.Table

open Cert.VReferenceIdeal Cert.VReferenceIdeal.Gen Cert.VReferenceIdeal.Read Idealize.ShloMosaic

/-- The reference's result. -/
theorem result_eq (v : FVec Ideal S2x16384x2048 .f32) : val_main_v4 (F := Ideal) v = Tables.columns v := by
  funext i
  have h0 : (i 0).val < 32 := (i 0).isLt
  have h1 : (i 1).val < 2048 := (i 1).isLt
  have h2 : (i 2).val < 512 := (i 2).isLt
  rw [val_main_v4_apply, val_main_v3_apply, val_main_v2_apply, val_main_v1_apply, val_main_v0_apply]
  unfold Tables.columns
  refine congrArg v (funext fun a => Fin.ext ?_)
  match a with
  | ⟨0, _⟩ => rfl
  | ⟨1, _⟩ =>
    show ((((i 0).val * 512 + (i 2).val) * 2048 + (i 1).val) / 2048 * 2048
      + (((i 0).val * 512 + (i 2).val) * 2048 + (i 1).val) % 2048) / 2048 % 16384 = (i 0).val * 512 + (i 2).val
    omega
  | ⟨2, _⟩ =>
    show ((((i 0).val * 512 + (i 2).val) * 2048 + (i 1).val) / 2048 * 2048
      + (((i 0).val * 512 + (i 2).val) * 2048 + (i 1).val) % 2048) % 2048 = (i 1).val
    omega

end Cert.VReferenceIdeal.Table

namespace Cert.UKernelIdeal.Table

open Cert.UKernelIdeal Cert.UKernelIdeal.Gen Idealize.ShloMosaic Idealize.ShloMosaic.TcCoe Idealize.SL.Sem

/-- The block of the table made from a block of experts. -/
def block (x0 : Vec Ideal S1x512x2048 .f32) : Vec Ideal S1x4x512x512 .bf16 := fun y =>
  (x0 (ix3 (0 : Fin 1) (y 2 : Fin 512) (Tables.column (y 1) (y 3))) : EReal)

/-- A block of the table made from a block of experts, at an index. -/
theorem out_apply (x0 : Vec Ideal S1x512x2048 .f32) (y : S1x4x512x512.Idx) :
    (out0_1 x0 y : EReal) = (x0 (ix3 0 (y 2 : Fin 512) (Tables.column (y 1) (y 3))) : EReal) := by
  unfold out0_1
  refine Eq.trans (b := (block x0 y : EReal)) (View.canon_apply_of_pieces (block x0) _ ?_ y (cover0_1 _ _ _ _ y)) rfl
  refine List.forall_mem_cons.mpr ⟨?_, List.forall_mem_cons.mpr ⟨?_, List.forall_mem_cons.mpr ⟨?_, List.forall_mem_cons.mpr ⟨?_, fun _ hn => absurd hn List.not_mem_nil⟩⟩⟩⟩
  · intro x
    obtain ⟨o, p, a, b, rfl⟩ : ∃ (o : Fin 1) (p : Fin 1) (a b : Fin 512), x = ix4 o p a b :=
      ⟨x 0, x 1, x 2, x 3, by funext a; match a with | ⟨0, _⟩ => rfl | ⟨1, _⟩ => rfl | ⟨2, _⟩ => rfl | ⟨3, _⟩ => rfl⟩
    have hp : p.val < 1 := p.isLt
    refine Eq.trans (b := (View.ld x0 r0_6 (ix3 (0 : Fin 1) a b) : EReal)) (by unfold k0_pay4; pointwise) ?_
    refine congrArg x0 (funext fun d => Fin.ext ?_)
    match d with
    | ⟨0, _⟩ => rfl
    | ⟨1, _⟩ => show 0 + 1 * a.val = 0 + 1 * a.val; rfl
    | ⟨2, _⟩ => show 1536 + 1 * b.val = (3 + 1 * p.val) * 512 + (0 + 1 * b.val); omega
  · intro x
    obtain ⟨o, p, a, b, rfl⟩ : ∃ (o : Fin 1) (p : Fin 1) (a b : Fin 512), x = ix4 o p a b :=
      ⟨x 0, x 1, x 2, x 3, by funext a; match a with | ⟨0, _⟩ => rfl | ⟨1, _⟩ => rfl | ⟨2, _⟩ => rfl | ⟨3, _⟩ => rfl⟩
    have hp : p.val < 1 := p.isLt
    refine Eq.trans (b := (View.ld x0 r0_4 (ix3 (0 : Fin 1) a b) : EReal)) (by unfold k0_pay3; pointwise) ?_
    refine congrArg x0 (funext fun d => Fin.ext ?_)
    match d with
    | ⟨0, _⟩ => rfl
    | ⟨1, _⟩ => show 0 + 1 * a.val = 0 + 1 * a.val; rfl
    | ⟨2, _⟩ => show 1024 + 1 * b.val = (2 + 1 * p.val) * 512 + (0 + 1 * b.val); omega
  · intro x
    obtain ⟨o, p, a, b, rfl⟩ : ∃ (o : Fin 1) (p : Fin 1) (a b : Fin 512), x = ix4 o p a b :=
      ⟨x 0, x 1, x 2, x 3, by funext a; match a with | ⟨0, _⟩ => rfl | ⟨1, _⟩ => rfl | ⟨2, _⟩ => rfl | ⟨3, _⟩ => rfl⟩
    have hp : p.val < 1 := p.isLt
    refine Eq.trans (b := (View.ld x0 r0_2 (ix3 (0 : Fin 1) a b) : EReal)) (by unfold k0_pay2; pointwise) ?_
    refine congrArg x0 (funext fun d => Fin.ext ?_)
    match d with
    | ⟨0, _⟩ => rfl
    | ⟨1, _⟩ => show 0 + 1 * a.val = 0 + 1 * a.val; rfl
    | ⟨2, _⟩ => show 512 + 1 * b.val = (1 + 1 * p.val) * 512 + (0 + 1 * b.val); omega
  · intro x
    obtain ⟨o, p, a, b, rfl⟩ : ∃ (o : Fin 1) (p : Fin 1) (a b : Fin 512), x = ix4 o p a b :=
      ⟨x 0, x 1, x 2, x 3, by funext a; match a with | ⟨0, _⟩ => rfl | ⟨1, _⟩ => rfl | ⟨2, _⟩ => rfl | ⟨3, _⟩ => rfl⟩
    have hp : p.val < 1 := p.isLt
    refine Eq.trans (b := (View.ld x0 r0_0 (ix3 (0 : Fin 1) a b) : EReal)) (by unfold k0_pay1; pointwise) ?_
    refine congrArg x0 (funext fun d => Fin.ext ?_)
    match d with
    | ⟨0, _⟩ => rfl
    | ⟨1, _⟩ => show 0 + 1 * a.val = 0 + 1 * a.val; rfl
    | ⟨2, _⟩ => show 0 + 1 * b.val = (0 + 1 * p.val) * 512 + (0 + 1 * b.val); omega

variable (m : (ℓ : Loc nD τ sig) → Buf (Elt Ideal) ℓ)

abbrev argU (c : Dev nD) : Vec Ideal S2x16384x2048 .f32 := m ((c : Thread nD τ).loc main_arg0)

theorem index_u (t : Fin grid0.N) : win0_0.index t 0 = 0 ∧ win0_0.index t 1 = t.val ∧ win0_0.index t 2 = 0 := by revert t; decide +kernel
theorem index_r (t : Fin grid0.N) : win0_1.index t 0 = t.val ∧ win0_1.index t 1 = 0 ∧ win0_1.index t 2 = 0 ∧ win0_1.index t 3 = 0 := by
  revert t; decide +kernel

/-- An entry of a block of experts. -/
theorem iblk_u (c : Dev nD) (t : Fin cfg0.N) (e : Fin 512) (l : Fin 2048) (s : Fin 32) (hs : s.val = t.val) :
    (iblk m c 0 t (ix3 0 e l) : EReal) = (argU m c (ix3 0 (Tables.expert s e) l) : EReal) := by
  refine Eq.trans ?_ (congrFun (V_main_arg0 m c) (ix3 0 (Tables.expert s e) l))
  show V m c main_arg0 (((cfg0.win 0).blk t).view.emb (ix3 0 e l)) = V m c main_arg0 (ix3 0 (Tables.expert s e) l)
  obtain ⟨e0, e1, e2⟩ := index_u t
  refine congrArg (V m c main_arg0) (funext fun a => Fin.ext ?_)
  match a with
  | ⟨0, _⟩ => show win0_0.index t (0 : Fin 3) * 1 + 1 * 0 = 0; omega
  | ⟨1, _⟩ => show win0_0.index t (1 : Fin 3) * 512 + 1 * e.val = s.val * 512 + e.val; omega
  | ⟨2, _⟩ => show win0_0.index t (2 : Fin 3) * 2048 + 1 * l.val = l.val; omega

/-- The table of the argument as launched. -/
abbrev result (c : Dev nD) : FVec Ideal S32x4x512x512 .bf16 := Tables.slices (argU m c)

/-- Where grid point `t`'s block of the table lies. -/
theorem emb_r (t : Fin cfg0.N) (y : S1x4x512x512.Idx) (s : Fin 32) (hs : s.val = t.val) :
    ((cfg0.win 1).blk t).view.emb y = (ix4 s (y 1 : Fin 4) (y 2 : Fin 512) (y 3 : Fin 512) : S32x4x512x512.Idx) :=
  funext fun a => Fin.ext (by
    obtain ⟨e0, e1, e2, e3⟩ := index_r t
    have h0 : (y 0).val < 1 := (y 0).isLt
    match a with
    | ⟨0, _⟩ => show win0_1.index t (0 : Fin 4) * 1 + 1 * (y 0).val = s.val; omega
    | ⟨1, _⟩ => show win0_1.index t (1 : Fin 4) * 4 + 1 * (y 1).val = (y 1).val; omega
    | ⟨2, _⟩ => show win0_1.index t (2 : Fin 4) * 512 + 1 * (y 2).val = (y 2).val; omega
    | ⟨3, _⟩ => show win0_1.index t (3 : Fin 4) * 512 + 1 * (y 3).val = (y 3).val; omega)

/-- What grid point `t` writes back is its block of the table. -/
theorem flushed_eq (c : Dev nD) (t : Fin cfg0.N) :
    (dats m 0 c).flushed 1 t = ((cfg0.win 1).blk t).view.read (Elt Ideal) (result m c) := by
  rw [Value.flushed1]
  funext j
  have ht : t.val < 32 := lt_of_lt_of_eq t.isLt Gen.N_0
  show out0_1 (iblk m c 0 t) j = result m c (((cfg0.win 1).blk t).view.emb j)
  rw [emb_r t j ⟨t.val, ht⟩ rfl]
  refine (out_apply _ j).trans ?_
  exact iblk_u m c t (j 2 : Fin 512) (Tables.column (j 1) (j 3)) ⟨t.val, ht⟩ rfl

/-- Every index of the table lies in some grid point's block. -/
theorem covered (i : S32x4x512x512.Idx) : ∃ t : Fin cfg0.N, (cfg0.win 1).flush t = true ∧ i ∈ ((cfg0.win 1).blk t).view.set := by
  have h0 : (i 0).val < 32 := (i 0).isLt
  have hb : (i 0).val < cfg0.N := lt_of_lt_of_eq h0 Gen.N_0.symm
  refine ⟨⟨_, hb⟩, flush0_1 _, ?_⟩
  have h := ((cfg0.win 1).blk ⟨_, hb⟩).view.emb_mem_set (ix4 (0 : Fin 1) (i 1 : Fin 4) (i 2 : Fin 512) (i 3 : Fin 512) : S1x4x512x512.Idx)
  have h2 := emb_r ⟨_, hb⟩ (ix4 (0 : Fin 1) (i 1 : Fin 4) (i 2 : Fin 512) (i 3 : Fin 512) : S1x4x512x512.Idx) (i 0 : Fin 32) rfl
  have he : i = (ix4 (i 0 : Fin 32) (i 1 : Fin 4) (i 2 : Fin 512) (i 3 : Fin 512) : S32x4x512x512.Idx) := by
    funext a; match a with | ⟨0, _⟩ => rfl | ⟨1, _⟩ => rfl | ⟨2, _⟩ => rfl | ⟨3, _⟩ => rfl
  exact (congrArg (fun j => j ∈ ((cfg0.win 1).blk ⟨_, hb⟩).view.set) (he.trans h2.symm)).mpr h

/-- The result array after the run. -/
theorem final1 (c : Dev nD) : (dats m 0 c).arrAt 1 cfg0.N = result m c :=
  (dats m 0 c).arrAt_eq_of_cover 1 (result m c) (fun t _ => flushed_eq m c t) covered

end Cert.UKernelIdeal.Table

namespace Cert.VKernelIdeal.Table

open Cert.VKernelIdeal Cert.VKernelIdeal.Gen Idealize.ShloMosaic Idealize.ShloMosaic.TcCoe Idealize.SL.Sem

theorem hz : (![0, 0, 0] : Fin 3 → Nat) = fun _ => 0 := funext fun a => by fin_cases a <;> rfl

/-- The block of the table made from a block of experts. -/
def block (x0 : Vec Ideal S1x512x2048 .f32) : Vec Ideal S1x2048x512 .bf16 := fun y =>
  (x0 (ix3 (0 : Fin 1) (y 2 : Fin 512) (y 1 : Fin 2048)) : EReal)

/-- A block of the table made from a block of experts, at an index. -/
theorem out_apply (x0 : Vec Ideal S1x512x2048 .f32) (y : S1x2048x512.Idx) :
    (out0_1 x0 y : EReal) = (x0 (ix3 0 (y 2 : Fin 512) (y 1 : Fin 2048)) : EReal) := by
  unfold out0_1
  refine Eq.trans (b := (block x0 y : EReal)) (View.canon_apply_of_pieces (block x0) _ ?_ y (cover0_1 _ y)) rfl
  refine List.forall_mem_cons.mpr ⟨fun x => ?_, fun _ hn => absurd hn List.not_mem_nil⟩
  have he : r0_1.emb x = x := funext fun a => Fin.ext (by rw [Rect.emb_apply]; match a with | ⟨0, _⟩ => simp | ⟨1, _⟩ => simp | ⟨2, _⟩ => simp)
  rw [he, View.ld_unit_zero hz]
  obtain ⟨o, a, b, rfl⟩ : ∃ o a b, x = ix3 o a b := ⟨x 0, x 1, x 2, by funext a; match a with | ⟨0, _⟩ => rfl | ⟨1, _⟩ => rfl | ⟨2, _⟩ => rfl⟩
  unfold k0_pay1
  pointwise
  rfl

variable (m : (ℓ : Loc nD τ sig) → Buf (Elt Ideal) ℓ)

abbrev argV (c : Dev nD) : Vec Ideal S2x16384x2048 .f32 := m ((c : Thread nD τ).loc main_arg0)

theorem index_v (t : Fin grid0.N) : win0_0.index t 0 = 0 ∧ win0_0.index t 1 = t.val ∧ win0_0.index t 2 = 0 := by revert t; decide +kernel
theorem index_r (t : Fin grid0.N) : win0_1.index t 0 = t.val ∧ win0_1.index t 1 = 0 ∧ win0_1.index t 2 = 0 := by revert t; decide +kernel

/-- An entry of a block of experts. -/
theorem iblk_v (c : Dev nD) (t : Fin cfg0.N) (e : Fin 512) (l : Fin 2048) (s : Fin 32) (hs : s.val = t.val) :
    (iblk m c 0 t (ix3 0 e l) : EReal) = (argV m c (ix3 0 (Tables.expert s e) l) : EReal) := by
  refine Eq.trans ?_ (congrFun (V_main_arg0 m c) (ix3 0 (Tables.expert s e) l))
  show V m c main_arg0 (((cfg0.win 0).blk t).view.emb (ix3 0 e l)) = V m c main_arg0 (ix3 0 (Tables.expert s e) l)
  obtain ⟨e0, e1, e2⟩ := index_v t
  refine congrArg (V m c main_arg0) (funext fun a => Fin.ext ?_)
  match a with
  | ⟨0, _⟩ => show win0_0.index t (0 : Fin 3) * 1 + 1 * 0 = 0; omega
  | ⟨1, _⟩ => show win0_0.index t (1 : Fin 3) * 512 + 1 * e.val = s.val * 512 + e.val; omega
  | ⟨2, _⟩ => show win0_0.index t (2 : Fin 3) * 2048 + 1 * l.val = l.val; omega

/-- The table of the argument as launched. -/
abbrev result (c : Dev nD) : FVec Ideal S32x2048x512 .bf16 := Tables.columns (argV m c)

/-- Where grid point `t`'s block of the table lies. -/
theorem emb_r (t : Fin cfg0.N) (y : S1x2048x512.Idx) (s : Fin 32) (hs : s.val = t.val) :
    ((cfg0.win 1).blk t).view.emb y = (ix3 s (y 1 : Fin 2048) (y 2 : Fin 512) : S32x2048x512.Idx) :=
  funext fun a => Fin.ext (by
    obtain ⟨e0, e1, e2⟩ := index_r t
    have h0 : (y 0).val < 1 := (y 0).isLt
    match a with
    | ⟨0, _⟩ => show win0_1.index t (0 : Fin 3) * 1 + 1 * (y 0).val = s.val; omega
    | ⟨1, _⟩ => show win0_1.index t (1 : Fin 3) * 2048 + 1 * (y 1).val = (y 1).val; omega
    | ⟨2, _⟩ => show win0_1.index t (2 : Fin 3) * 512 + 1 * (y 2).val = (y 2).val; omega)

/-- What grid point `t` writes back is its block of the table. -/
theorem flushed_eq (c : Dev nD) (t : Fin cfg0.N) :
    (dats m 0 c).flushed 1 t = ((cfg0.win 1).blk t).view.read (Elt Ideal) (result m c) := by
  rw [Value.flushed1]
  funext j
  have ht : t.val < 32 := lt_of_lt_of_eq t.isLt Gen.N_0
  show out0_1 (iblk m c 0 t) j = result m c (((cfg0.win 1).blk t).view.emb j)
  rw [emb_r t j ⟨t.val, ht⟩ rfl]
  refine (out_apply _ j).trans ?_
  exact iblk_v m c t (j 2 : Fin 512) (j 1 : Fin 2048) ⟨t.val, ht⟩ rfl

/-- Every index of the table lies in some grid point's block. -/
theorem covered (i : S32x2048x512.Idx) : ∃ t : Fin cfg0.N, (cfg0.win 1).flush t = true ∧ i ∈ ((cfg0.win 1).blk t).view.set := by
  have h0 : (i 0).val < 32 := (i 0).isLt
  have hb : (i 0).val < cfg0.N := lt_of_lt_of_eq h0 Gen.N_0.symm
  refine ⟨⟨_, hb⟩, flush0_1 _, ?_⟩
  have h := ((cfg0.win 1).blk ⟨_, hb⟩).view.emb_mem_set (ix3 (0 : Fin 1) (i 1 : Fin 2048) (i 2 : Fin 512) : S1x2048x512.Idx)
  have h2 := emb_r ⟨_, hb⟩ (ix3 (0 : Fin 1) (i 1 : Fin 2048) (i 2 : Fin 512) : S1x2048x512.Idx) (i 0 : Fin 32) rfl
  have he : i = (ix3 (i 0 : Fin 32) (i 1 : Fin 2048) (i 2 : Fin 512) : S32x2048x512.Idx) := by
    funext a; match a with | ⟨0, _⟩ => rfl | ⟨1, _⟩ => rfl | ⟨2, _⟩ => rfl
  exact (congrArg (fun j => j ∈ ((cfg0.win 1).blk ⟨_, hb⟩).view.set) (he.trans h2.symm)).mpr h

/-- The result array after the run. -/
theorem final1 (c : Dev nD) : (dats m 0 c).arrAt 1 cfg0.N = result m c :=
  (dats m 0 c).arrAt_eq_of_cover 1 (result m c) (fun t _ => flushed_eq m c t) covered

end Cert.VKernelIdeal.Table

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.QkvKernel
public import proofs.«01_k».proof.Proof.Gen.QkvKernel.Frame
public import proofs.«01_k».proof.Proof.Gen.QkvKernelIdeal
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.InKernel
public import proofs.«01_k».proof.Proof.Gen.InKernel.Frame
public import proofs.«01_k».proof.Proof.Gen.InKernelIdeal
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.PoolKernel
public import proofs.«01_k».proof.Proof.Gen.PoolKernel.Frame
public import proofs.«01_k».proof.Proof.Gen.PoolKernelIdeal
public import proofs.«01_k».proof.Proof.Gen.PoolKernelIdeal.Frame
public import proofs.«01_k».proof.Proof.Gen.PoolKernelIdeal.Value
public import proofs.«01_k».proof.Proof.Gen.PoolReferenceIdeal
public import proofs.«01_k».proof.Proof.Gen.PoolReferenceIdeal.Run
public import proofs.«01_k».proof.Proof.Gen.PoolReferenceIdeal.Read
public import proofs.«01_k».proof.Proof.Gen.UKernel
public import proofs.«01_k».proof.Proof.Gen.UKernel.Frame
public import proofs.«01_k».proof.Proof.Gen.UKernelIdeal
public import proofs.«01_k».proof.Proof.Gen.UKernelIdeal.Frame
public import proofs.«01_k».proof.Proof.Gen.UKernelIdeal.Value
public import proofs.«01_k».proof.Proof.Gen.UReferenceIdeal
public import proofs.«01_k».proof.Proof.Gen.UReferenceIdeal.Run
public import proofs.«01_k».proof.Proof.Gen.UReferenceIdeal.Read
public import proofs.«01_k».proof.Proof.Gen.VKernel
public import proofs.«01_k».proof.Proof.Gen.VKernel.Frame
public import proofs.«01_k».proof.Proof.Gen.VKernelIdeal
public import proofs.«01_k».proof.Proof.Gen.VKernelIdeal.Frame
public import proofs.«01_k».proof.Proof.Gen.VKernelIdeal.Value
public import proofs.«01_k».proof.Proof.Gen.VReferenceIdeal
public import proofs.«01_k».proof.Proof.Gen.VReferenceIdeal.Run
public import proofs.«01_k».proof.Proof.Gen.VReferenceIdeal.Read
public import proofs.«01_k».proof.Proof.Gen.Pre_finite
public import proofs.«01_k».proof.Proof.AttnRun
public import proofs.«01_k».proof.Proof.AttnRef
public import proofs.«01_k».proof.Proof.Finite
public import proofs.«01_k».proof.Proof.QkvRun
public import proofs.«01_k».proof.Proof.QkvRef
public import proofs.«01_k».proof.Proof.OutProj
public import proofs.«01_k».proof.Proof.InProj
public import proofs.«01_k».proof.Proof.PoolRun
public import proofs.«01_k».proof.Proof.PoolRef
public import proofs.«01_k».proof.Proof.Tables
public import Idealize.ShloMosaic.Adequacy
public import Idealize.ShloMosaic.Init

@[expose] public section

noncomputable section

namespace Cert.Proof

open Idealize.ShloMosaic Idealize.SL.Sem

/-- The attention's reference runs, leaves its arguments as they were, and has no counter to leave. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- From equal arguments, queries and keys finite, the kernel and the reference both end holding the attention. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hp hm
  have hf := fun c => Attention.isReal_of_finite _ _ _ (hp c)
  refine ⟨fun c => Cert.KernelIdeal.Attn.result m c, ?_, ?_⟩
  · exact (θ_run (Cert.KernelIdeal.defs (F := Ideal)) _ _).mono
      (fun r h c => ⟨(h c).1.trans (Cert.KernelIdeal.Attn.final3 m c (hf c).1 (hf c).2), (h c).2⟩)
      (Cert.KernelIdeal.Value.run_blocks (F := Ideal) m ρ)
  · refine (θ_run (Cert.ReferenceIdeal.defs (F := Ideal)) _ _).mono (fun r h c => ⟨?_, (h c).2⟩)
      (Cert.ReferenceIdeal.Value.run (F := Ideal) m' ρ')
    refine (h c).1.trans ((Cert.ReferenceIdeal.Read.val_main_v25_eq _ _ _).symm.trans ?_)
    rw [(hm c).1, (hm c).2.1, (hm c).2.2]
    exact Cert.ReferenceIdeal.Attn.result_eq _ _ _ (hf c).1 (hf c).2

/-- The queries', keys' and values' reference runs, leaves its arguments as they were, and has no counter to leave. -/
theorem frame_qkv_reference : Cert.quiescent_QkvReferenceIdeal (hQkvReferenceIdeal := Cert.QkvReferenceIdeal.Gen.facts) := fun m ρ _ =>
  (θ_run (Cert.QkvReferenceIdeal.defs (F := Ideal)) _ _).mono
    (fun r h => ⟨fun c => (h c).2.2.2, Idealize.ShloMosaic.sem_eq_zero_of_no_sems (by decide) r.2⟩)
    (Cert.QkvReferenceIdeal.Value.run (F := Ideal) m ρ)

/-- From equal arguments the kernel and the reference both end holding the same queries, keys and values. -/
theorem queries_keys_values : Cert.algebraic_QkvKernelIdeal_QkvReferenceIdeal (hQkvKernelIdeal := Cert.QkvKernelIdeal.Gen.facts)
    (hQkvReferenceIdeal := Cert.QkvReferenceIdeal.Gen.facts) := by
  intro m ρ m' ρ' _ hm
  refine ⟨fun c => Cert.QkvKernelIdeal.Qkv.result7 m c, fun c => Cert.QkvKernelIdeal.Qkv.result8 m c, fun c => Cert.QkvKernelIdeal.Qkv.result9 m c, ?_, ?_⟩
  · exact (θ_run (Cert.QkvKernelIdeal.defs (F := Ideal)) _ _).mono
      (fun r h c => ⟨(h c).1.trans (Cert.QkvKernelIdeal.Qkv.final7 m c), (h c).2.1.trans (Cert.QkvKernelIdeal.Qkv.final8 m c),
        (h c).2.2.1.trans (Cert.QkvKernelIdeal.Qkv.final9 m c), (h c).2.2.2⟩)
      (Cert.QkvKernelIdeal.Value.run_blocks (F := Ideal) m ρ)
  · refine (θ_run (Cert.QkvReferenceIdeal.defs (F := Ideal)) _ _).mono (fun r h c => ⟨?_, ?_, ?_, (h c).2.2.2⟩)
      (Cert.QkvReferenceIdeal.Value.run (F := Ideal) m' ρ')
    · refine (h c).1.trans ((Cert.QkvReferenceIdeal.Read.val_main_v117_eq m' c).trans ?_)
      rw [(hm c).1, (hm c).2.1, (hm c).2.2.1, (hm c).2.2.2.1]
      exact Cert.QkvReferenceIdeal.Qkv.queries_eq _ _ _ _
    · refine (h c).2.1.trans ((Cert.QkvReferenceIdeal.Read.val_main_v119_eq m' c).trans ?_)
      rw [(hm c).1, (hm c).2.1, (hm c).2.2.1, (hm c).2.2.2.2]
      exact Cert.QkvReferenceIdeal.Qkv.keys_eq _ _ _ _
    · refine (h c).2.2.1.trans ((Cert.QkvReferenceIdeal.Read.val_main_v121_eq _ _ _).trans ?_)
      rw [(hm c).1, (hm c).2.1, (hm c).2.2.1]
      exact Cert.QkvReferenceIdeal.Qkv.values_eq _ _ _

/-- The output projection's reference runs, leaves its arguments as they were, and has no counter to leave. -/
theorem frame_out_reference : Cert.quiescent_OutReferenceIdeal (hOutReferenceIdeal := Cert.OutReferenceIdeal.Gen.facts) := fun m ρ _ =>
  (θ_run (Cert.OutReferenceIdeal.defs (F := Ideal)) _ _).mono
    (fun r h => ⟨fun c => (h c).2, Idealize.ShloMosaic.sem_eq_zero_of_no_sems (by decide) r.2⟩)
    (Cert.OutReferenceIdeal.Value.run (F := Ideal) m ρ)

/-- From equal arguments the kernel and the reference both end holding the output projection added to the input. -/
theorem output_projection : Cert.algebraic_OutKernelIdeal_OutReferenceIdeal (hOutKernelIdeal := Cert.OutKernelIdeal.Gen.facts)
    (hOutReferenceIdeal := Cert.OutReferenceIdeal.Gen.facts) := by
  intro m ρ m' ρ' _ hm
  refine ⟨fun c => Cert.OutKernelIdeal.Proj.result m c, ?_, ?_⟩
  · exact (θ_run (Cert.OutKernelIdeal.defs (F := Ideal)) _ _).mono
      (fun r h c => ⟨(h c).1.trans (Cert.OutKernelIdeal.Proj.final3 m c), (h c).2⟩)
      (Cert.OutKernelIdeal.Value.run_blocks (F := Ideal) m ρ)
  · refine (θ_run (Cert.OutReferenceIdeal.defs (F := Ideal)) _ _).mono (fun r h c => ⟨?_, (h c).2⟩)
      (Cert.OutReferenceIdeal.Value.run (F := Ideal) m' ρ')
    refine (h c).1.trans (Eq.trans (b := Cert.OutReferenceIdeal.Read.val_main_v3 (F := Ideal)
      (m' ((c.tc : Thread Cert.OutReferenceIdeal.nD Cert.OutReferenceIdeal.τ).loc Cert.OutReferenceIdeal.main_arg0)) (m' ((c.tc : Thread Cert.OutReferenceIdeal.nD Cert.OutReferenceIdeal.τ).loc Cert.OutReferenceIdeal.main_arg1)) (m' ((c.tc : Thread Cert.OutReferenceIdeal.nD Cert.OutReferenceIdeal.τ).loc Cert.OutReferenceIdeal.main_arg2))) rfl ?_)
    rw [(hm c).1, (hm c).2.1, (hm c).2.2]
    exact Cert.OutReferenceIdeal.Proj.result_eq _ _ _

/-- The pooling input's reference runs, leaves its arguments as they were, and has no counter to leave. -/
theorem frame_in_reference : Cert.quiescent_InReferenceIdeal (hInReferenceIdeal := Cert.InReferenceIdeal.Gen.facts) := fun m ρ _ =>
  (θ_run (Cert.InReferenceIdeal.defs (F := Ideal)) _ _).mono
    (fun r h => ⟨fun c => (h c).2, Idealize.ShloMosaic.sem_eq_zero_of_no_sems (by decide) r.2⟩)
    (Cert.InReferenceIdeal.Value.run (F := Ideal) m ρ)

/-- From equal arguments the kernel and the reference both end holding the pooling mixer's projected input. -/
theorem pooling_input : Cert.algebraic_InKernelIdeal_InReferenceIdeal (hInKernelIdeal := Cert.InKernelIdeal.Gen.facts)
    (hInReferenceIdeal := Cert.InReferenceIdeal.Gen.facts) := by
  intro m ρ m' ρ' _ hm
  refine ⟨fun c => Cert.InKernelIdeal.Proj.result m c, ?_, ?_⟩
  · exact (θ_run (Cert.InKernelIdeal.defs (F := Ideal)) _ _).mono
      (fun r h c => ⟨(h c).1.trans (Cert.InKernelIdeal.Proj.final3 m c), (h c).2⟩)
      (Cert.InKernelIdeal.Value.run_blocks (F := Ideal) m ρ)
  · refine (θ_run (Cert.InReferenceIdeal.defs (F := Ideal)) _ _).mono (fun r h c => ⟨?_, (h c).2⟩)
      (Cert.InReferenceIdeal.Value.run (F := Ideal) m' ρ')
    refine (h c).1.trans (Eq.trans (b := Cert.InReferenceIdeal.Read.val_main_v15 (F := Ideal)
      (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg2))) rfl ?_)
    rw [(hm c).1, (hm c).2.1, (hm c).2.2]
    exact Cert.InReferenceIdeal.Proj.result_eq _ _ _

/-- The pooling mixer's reference runs, leaves its arguments as they were, and has no counter to leave. -/
theorem frame_pool_reference : Cert.quiescent_PoolReferenceIdeal (hPoolReferenceIdeal := Cert.PoolReferenceIdeal.Gen.facts) := fun m ρ _ =>
  (θ_run (Cert.PoolReferenceIdeal.defs (F := Ideal)) _ _).mono
    (fun r h => ⟨fun c => (h c).2, Idealize.ShloMosaic.sem_eq_zero_of_no_sems (by decide) r.2⟩)
    (Cert.PoolReferenceIdeal.Value.run (F := Ideal) m ρ)

/-- From equal arguments the kernel and the reference both end holding the pooling mixer's result. -/
theorem pooling : Cert.algebraic_PoolKernelIdeal_PoolReferenceIdeal (hPoolKernelIdeal := Cert.PoolKernelIdeal.Gen.facts)
    (hPoolReferenceIdeal := Cert.PoolReferenceIdeal.Gen.facts) := by
  intro m ρ m' ρ' _ hm
  refine ⟨fun c => Cert.PoolKernelIdeal.Pool.result m c, ?_, ?_⟩
  · exact (θ_run (Cert.PoolKernelIdeal.defs (F := Ideal)) _ _).mono
      (fun r h c => ⟨(h c).1.trans (Cert.PoolKernelIdeal.Pool.final7 m c), (h c).2⟩)
      (Cert.PoolKernelIdeal.Value.run_blocks (F := Ideal) m ρ)
  · refine (θ_run (Cert.PoolReferenceIdeal.defs (F := Ideal)) _ _).mono (fun r h c => ⟨?_, (h c).2⟩)
      (Cert.PoolReferenceIdeal.Value.run (F := Ideal) m' ρ')
    refine (h c).1.trans (Eq.trans (b := Cert.PoolReferenceIdeal.Read.val_main_v146 (F := Ideal)
      (m' ((c.tc : Thread Cert.PoolReferenceIdeal.nD Cert.PoolReferenceIdeal.τ).loc Cert.PoolReferenceIdeal.main_arg0)) (m' ((c.tc : Thread Cert.PoolReferenceIdeal.nD Cert.PoolReferenceIdeal.τ).loc Cert.PoolReferenceIdeal.main_arg1)) (m' ((c.tc : Thread Cert.PoolReferenceIdeal.nD Cert.PoolReferenceIdeal.τ).loc Cert.PoolReferenceIdeal.main_arg2)) (m' ((c.tc : Thread Cert.PoolReferenceIdeal.nD Cert.PoolReferenceIdeal.τ).loc Cert.PoolReferenceIdeal.main_arg3)) (m' ((c.tc : Thread Cert.PoolReferenceIdeal.nD Cert.PoolReferenceIdeal.τ).loc Cert.PoolReferenceIdeal.main_arg4))) rfl ?_)
    rw [(hm c).1, (hm c).2.1, (hm c).2.2.1, (hm c).2.2.2.1, (hm c).2.2.2.2]
    exact Cert.PoolReferenceIdeal.Pool.result_eq _ _ _ _ _

/-- The reference of the table of the experts' rows runs, leaves its argument as it was, and has no counter to leave. -/
theorem frame_u_reference : Cert.quiescent_UReferenceIdeal (hUReferenceIdeal := Cert.UReferenceIdeal.Gen.facts) := fun m ρ _ =>
  (θ_run (Cert.UReferenceIdeal.defs (F := Ideal)) _ _).mono
    (fun r h => ⟨fun c => (h c).2, Idealize.ShloMosaic.sem_eq_zero_of_no_sems (by decide) r.2⟩)
    (Cert.UReferenceIdeal.Value.run (F := Ideal) m ρ)

/-- From equal arguments the kernel and the reference both end holding the table of the experts' rows. -/
theorem table_of_rows : Cert.algebraic_UKernelIdeal_UReferenceIdeal (hUKernelIdeal := Cert.UKernelIdeal.Gen.facts)
    (hUReferenceIdeal := Cert.UReferenceIdeal.Gen.facts) := by
  intro m ρ m' ρ' _ hm
  refine ⟨fun c => Cert.UKernelIdeal.Table.result m c, ?_, ?_⟩
  · exact (θ_run (Cert.UKernelIdeal.defs (F := Ideal)) _ _).mono
      (fun r h c => ⟨(h c).1.trans (Cert.UKernelIdeal.Table.final1 m c), (h c).2⟩)
      (Cert.UKernelIdeal.Value.run_blocks (F := Ideal) m ρ)
  · refine (θ_run (Cert.UReferenceIdeal.defs (F := Ideal)) _ _).mono (fun r h c => ⟨?_, (h c).2⟩)
      (Cert.UReferenceIdeal.Value.run (F := Ideal) m' ρ')
    refine (h c).1.trans (Eq.trans (b := Cert.UReferenceIdeal.Read.val_main_v4 (F := Ideal)
      (m' ((c.tc : Thread Cert.UReferenceIdeal.nD Cert.UReferenceIdeal.τ).loc Cert.UReferenceIdeal.main_arg0))) rfl ?_)
    rw [hm c]
    exact Cert.UReferenceIdeal.Table.result_eq _

/-- The reference of the table of the experts' columns runs, leaves its argument as it was, and has no counter to leave. -/
theorem frame_v_reference : Cert.quiescent_VReferenceIdeal (hVReferenceIdeal := Cert.VReferenceIdeal.Gen.facts) := fun m ρ _ =>
  (θ_run (Cert.VReferenceIdeal.defs (F := Ideal)) _ _).mono
    (fun r h => ⟨fun c => (h c).2, Idealize.ShloMosaic.sem_eq_zero_of_no_sems (by decide) r.2⟩)
    (Cert.VReferenceIdeal.Value.run (F := Ideal) m ρ)

/-- From equal arguments the kernel and the reference both end holding the table of the experts' columns. -/
theorem table_of_columns : Cert.algebraic_VKernelIdeal_VReferenceIdeal (hVKernelIdeal := Cert.VKernelIdeal.Gen.facts)
    (hVReferenceIdeal := Cert.VReferenceIdeal.Gen.facts) := by
  intro m ρ m' ρ' _ hm
  refine ⟨fun c => Cert.VKernelIdeal.Table.result m c, ?_, ?_⟩
  · exact (θ_run (Cert.VKernelIdeal.defs (F := Ideal)) _ _).mono
      (fun r h c => ⟨(h c).1.trans (Cert.VKernelIdeal.Table.final1 m c), (h c).2⟩)
      (Cert.VKernelIdeal.Value.run_blocks (F := Ideal) m ρ)
  · refine (θ_run (Cert.VReferenceIdeal.defs (F := Ideal)) _ _).mono (fun r h c => ⟨?_, (h c).2⟩)
      (Cert.VReferenceIdeal.Value.run (F := Ideal) m' ρ')
    refine (h c).1.trans (Eq.trans (b := Cert.VReferenceIdeal.Read.val_main_v4 (F := Ideal)
      (m' ((c.tc : Thread Cert.VReferenceIdeal.nD Cert.VReferenceIdeal.τ).loc Cert.VReferenceIdeal.main_arg0))) rfl ?_)
    rw [hm c]
    exact Cert.VReferenceIdeal.Table.result_eq _

/-- Every claim of this certificate. -/
theorem claim : Cert.Claim := ⟨Cert.Kernel.Gen.facts, Cert.KernelIdeal.Gen.facts, Cert.ReferenceIdeal.Gen.facts, Cert.QkvKernel.Gen.facts, Cert.QkvKernelIdeal.Gen.facts, Cert.QkvReferenceIdeal.Gen.facts, Cert.OutKernel.Gen.facts, Cert.OutKernelIdeal.Gen.facts, Cert.OutReferenceIdeal.Gen.facts, Cert.InKernel.Gen.facts, Cert.InKernelIdeal.Gen.facts, Cert.InReferenceIdeal.Gen.facts, Cert.PoolKernel.Gen.facts, Cert.PoolKernelIdeal.Gen.facts, Cert.PoolReferenceIdeal.Gen.facts, Cert.UKernel.Gen.facts, Cert.UKernelIdeal.Gen.facts, Cert.UReferenceIdeal.Gen.facts, Cert.VKernel.Gen.facts, Cert.VKernelIdeal.Gen.facts, Cert.VReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.QkvKernel.Gen.frame m ρ,
  fun m ρ _ => Cert.QkvKernelIdeal.Gen.frame m ρ,
  frame_qkv_reference,
  fun m ρ _ => Cert.OutKernel.Gen.frame m ρ,
  fun m ρ _ => Cert.OutKernelIdeal.Gen.frame m ρ,
  frame_out_reference,
  fun m ρ _ => Cert.InKernel.Gen.frame m ρ,
  fun m ρ _ => Cert.InKernelIdeal.Gen.frame m ρ,
  frame_in_reference,
  fun m ρ _ => Cert.PoolKernel.Gen.frame m ρ,
  fun m ρ _ => Cert.PoolKernelIdeal.Gen.frame m ρ,
  frame_pool_reference,
  fun m ρ _ => Cert.UKernel.Gen.frame m ρ,
  fun m ρ _ => Cert.UKernelIdeal.Gen.frame m ρ,
  frame_u_reference,
  fun m ρ _ => Cert.VKernel.Gen.frame m ρ,
  fun m ρ _ => Cert.VKernelIdeal.Gen.frame m ρ,
  frame_v_reference,
  trivial,
  attention,
  IdealRules.named_const.statement Cert.QkvKernelIdeal.κ "q_scale" .f32 0x3E0293EE#32 _ rfl,
  queries_keys_values,
  trivial,
  output_projection,
  trivial,
  pooling_input,
  trivial,
  pooling,
  trivial,
  table_of_rows,
  trivial,
  table_of_columns⟩

end Cert.Proof

end
